-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_finite [hPre_finite : Cert.Pre_finite.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_finite.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_finite [hPre_finite : Cert.Pre_finite.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_finite.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelPleSample (m : (ℓ : Loc Cert.KernelPleSample.nD Cert.KernelPleSample.τ Cert.KernelPleSample.sig) → Buf (Elt Bits) ℓ) : Prop :=
  True

def Pre_KernelPleSampleIdeal (m : (ℓ : Loc Cert.KernelPleSampleIdeal.nD Cert.KernelPleSampleIdeal.τ Cert.KernelPleSampleIdeal.sig) → Buf (Elt Ideal) ℓ) : Prop :=
  True

def Pre_ReferencePleSampleIdeal (m : (ℓ : Loc Cert.ReferencePleSampleIdeal.nD Cert.ReferencePleSampleIdeal.τ Cert.ReferencePleSampleIdeal.sig) → Buf (Elt Ideal) ℓ) : Prop :=
  True

def Pre_KernelMixSample (m : (ℓ : Loc Cert.KernelMixSample.nD Cert.KernelMixSample.τ Cert.KernelMixSample.sig) → Buf (Elt Bits) ℓ) : Prop :=
  True

def Pre_KernelMixSampleIdeal (m : (ℓ : Loc Cert.KernelMixSampleIdeal.nD Cert.KernelMixSampleIdeal.τ Cert.KernelMixSampleIdeal.sig) → Buf (Elt Ideal) ℓ) : Prop :=
  True

def Pre_ReferenceMixSampleIdeal (m : (ℓ : Loc Cert.ReferenceMixSampleIdeal.nD Cert.ReferenceMixSampleIdeal.τ Cert.ReferenceMixSampleIdeal.sig) → Buf (Elt Ideal) ℓ) : Prop :=
  True

def Pre_KernelUpSample (m : (ℓ : Loc Cert.KernelUpSample.nD Cert.KernelUpSample.τ Cert.KernelUpSample.sig) → Buf (Elt Bits) ℓ) : Prop :=
  True

def Pre_KernelUpSampleIdeal (m : (ℓ : Loc Cert.KernelUpSampleIdeal.nD Cert.KernelUpSampleIdeal.τ Cert.KernelUpSampleIdeal.sig) → Buf (Elt Ideal) ℓ) : Prop :=
  True

def Pre_KernelUpSampleIdeal_finite_sample [hPre_finite_sample : Cert.Pre_finite_sample.Facts] (m : (ℓ : Loc Cert.KernelUpSampleIdeal.nD Cert.KernelUpSampleIdeal.τ Cert.KernelUpSampleIdeal.sig) → Buf (Elt Ideal) ℓ) : Prop :=
  ∀ c : Dev Cert.KernelUpSampleIdeal.nD,
    (Cert.Pre_finite_sample.fn (F := Ideal) (m ((c.tc : Thread Cert.KernelUpSampleIdeal.nD Cert.KernelUpSampleIdeal.τ).loc Cert.KernelUpSampleIdeal.main_arg0)) (m ((c.tc : Thread Cert.KernelUpSampleIdeal.nD Cert.KernelUpSampleIdeal.τ).loc Cert.KernelUpSampleIdeal.main_arg1)) (m ((c.tc : Thread Cert.KernelUpSampleIdeal.nD Cert.KernelUpSampleIdeal.τ).loc Cert.KernelUpSampleIdeal.main_arg2)) (m ((c.tc : Thread Cert.KernelUpSampleIdeal.nD Cert.KernelUpSampleIdeal.τ).loc Cert.KernelUpSampleIdeal.main_arg3)) (m ((c.tc : Thread Cert.KernelUpSampleIdeal.nD Cert.KernelUpSampleIdeal.τ).loc Cert.KernelUpSampleIdeal.main_arg4)) (m ((c.tc : Thread Cert.KernelUpSampleIdeal.nD Cert.KernelUpSampleIdeal.τ).loc Cert.KernelUpSampleIdeal.main_arg5))) = (fun _ => 1#1)

def Pre_ReferenceUpSampleIdeal (m : (ℓ : Loc Cert.ReferenceUpSampleIdeal.nD Cert.ReferenceUpSampleIdeal.τ Cert.ReferenceUpSampleIdeal.sig) → Buf (Elt Ideal) ℓ) : Prop :=
  True

def Pre_ReferenceUpSampleIdeal_finite_sample [hPre_finite_sample : Cert.Pre_finite_sample.Facts] (m : (ℓ : Loc Cert.ReferenceUpSampleIdeal.nD Cert.ReferenceUpSampleIdeal.τ Cert.ReferenceUpSampleIdeal.sig) → Buf (Elt Ideal) ℓ) : Prop :=
  ∀ c : Dev Cert.ReferenceUpSampleIdeal.nD,
    (Cert.Pre_finite_sample.fn (F := Ideal) (m ((c.tc : Thread Cert.ReferenceUpSampleIdeal.nD Cert.ReferenceUpSampleIdeal.τ).loc Cert.ReferenceUpSampleIdeal.main_arg0)) (m ((c.tc : Thread Cert.ReferenceUpSampleIdeal.nD Cert.ReferenceUpSampleIdeal.τ).loc Cert.ReferenceUpSampleIdeal.main_arg1)) (m ((c.tc : Thread Cert.ReferenceUpSampleIdeal.nD Cert.ReferenceUpSampleIdeal.τ).loc Cert.ReferenceUpSampleIdeal.main_arg2)) (m ((c.tc : Thread Cert.ReferenceUpSampleIdeal.nD Cert.ReferenceUpSampleIdeal.τ).loc Cert.ReferenceUpSampleIdeal.main_arg3)) (m ((c.tc : Thread Cert.ReferenceUpSampleIdeal.nD Cert.ReferenceUpSampleIdeal.τ).loc Cert.ReferenceUpSampleIdeal.main_arg4)) (m ((c.tc : Thread Cert.ReferenceUpSampleIdeal.nD Cert.ReferenceUpSampleIdeal.τ).loc Cert.ReferenceUpSampleIdeal.main_arg5))) = (fun _ => 1#1)

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_KernelUpIdeal_pre_finite [hKernelUpIdeal : Cert.KernelUpIdeal.Facts] [hPre_finite : Cert.Pre_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_finite m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_ReferenceUpIdeal_pre_finite [hReferenceUpIdeal : Cert.ReferenceUpIdeal.Facts] [hPre_finite : Cert.Pre_finite.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_finite m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelPleSample [hKernelPleSample : Cert.KernelPleSample.Facts] : Prop :=
  ∀ (m : (ℓ : Loc Cert.KernelPleSample.nD Cert.KernelPleSample.τ Cert.KernelPleSample.sig) → Buf (Elt Bits) ℓ) (g : Dev Cert.KernelPleSample.nD → PrngReg), Pre_KernelPleSample m →
    θ_run (Cert.KernelPleSample.defs (F := Bits)) (onTc (τ := Cert.KernelPleSample.τ) (Cert.KernelPleSample.main (F := Bits))) ⟨m, fun _ => 0, g⟩ (fun r => (∀ c : Dev Cert.KernelPleSample.nD,
      r.2.mem ((c.tc : Thread Cert.KernelPleSample.nD Cert.KernelPleSample.τ).loc Cert.KernelPleSample.main_arg0) = m ((c.tc : Thread Cert.KernelPleSample.nD Cert.KernelPleSample.τ).loc Cert.KernelPleSample.main_arg0)
      ∧ r.2.mem ((c.tc : Thread Cert.KernelPleSample.nD Cert.KernelPleSample.τ).loc Cert.KernelPleSample.main_arg1) = m ((c.tc : Thread Cert.KernelPleSample.nD Cert.KernelPleSample.τ).loc Cert.KernelPleSample.main_arg1)
      ∧ r.2.mem ((c.tc : Thread Cert.KernelPleSample.nD Cert.KernelPleSample.τ).loc Cert.KernelPleSample.main_arg2) = m ((c.tc : Thread Cert.KernelPleSample.nD Cert.KernelPleSample.τ).loc Cert.KernelPleSample.main_arg2)
      ∧ r.2.mem ((c.tc : Thread Cert.KernelPleSample.nD Cert.KernelPleSample.τ).loc Cert.KernelPleSample.main_arg3) = m ((c.tc : Thread Cert.KernelPleSample.nD Cert.KernelPleSample.τ).loc Cert.KernelPleSample.main_arg3)
      ∧ r.2.mem ((c.tc : Thread Cert.KernelPleSample.nD Cert.KernelPleSample.τ).loc Cert.KernelPleSample.main_arg4) = m ((c.tc : Thread Cert.KernelPleSample.nD Cert.KernelPleSample.τ).loc Cert.KernelPleSample.main_arg4)
      ∧ r.2.mem ((c.tc : Thread Cert.KernelPleSample.nD Cert.KernelPleSample.τ).loc Cert.KernelPleSample.main_arg5) = m ((c.tc : Thread Cert.KernelPleSample.nD Cert.KernelPleSample.τ).loc Cert.KernelPleSample.main_arg5))
      ∧ r.2.sem = fun _ => 0)

def quiescent_KernelPleSampleIdeal [hKernelPleSampleIdeal : Cert.KernelPleSampleIdeal.Facts] : Prop :=
  ∀ (m : (ℓ : Loc Cert.KernelPleSampleIdeal.nD Cert.KernelPleSampleIdeal.τ Cert.KernelPleSampleIdeal.sig) → Buf (Elt Ideal) ℓ) (g : Dev Cert.KernelPleSampleIdeal.nD → PrngReg), Pre_KernelPleSampleIdeal m →
    θ_run (Cert.KernelPleSampleIdeal.defs (F := Ideal)) (onTc (τ := Cert.KernelPleSampleIdeal.τ) (Cert.KernelPleSampleIdeal.main (F := Ideal))) ⟨m, fun _ => 0, g⟩ (fun r => (∀ c : Dev Cert.KernelPleSampleIdeal.nD,
      r.2.mem ((c.tc : Thread Cert.KernelPleSampleIdeal.nD Cert.KernelPleSampleIdeal.τ).loc Cert.KernelPleSampleIdeal.main_arg0) = m ((c.tc : Thread Cert.KernelPleSampleIdeal.nD Cert.KernelPleSampleIdeal.τ).loc Cert.KernelPleSampleIdeal.main_arg0)
      ∧ r.2.mem ((c.tc : Thread Cert.KernelPleSampleIdeal.nD Cert.KernelPleSampleIdeal.τ).loc Cert.KernelPleSampleIdeal.main_arg1) = m ((c.tc : Thread Cert.KernelPleSampleIdeal.nD Cert.KernelPleSampleIdeal.τ).loc Cert.KernelPleSampleIdeal.main_arg1)
      ∧ r.2.mem ((c.tc : Thread Cert.KernelPleSampleIdeal.nD Cert.KernelPleSampleIdeal.τ).loc Cert.KernelPleSampleIdeal.main_arg2) = m ((c.tc : Thread Cert.KernelPleSampleIdeal.nD Cert.KernelPleSampleIdeal.τ).loc Cert.KernelPleSampleIdeal.main_arg2)
      ∧ r.2.mem ((c.tc : Thread Cert.KernelPleSampleIdeal.nD Cert.KernelPleSampleIdeal.τ).loc Cert.KernelPleSampleIdeal.main_arg3) = m ((c.tc : Thread Cert.KernelPleSampleIdeal.nD Cert.KernelPleSampleIdeal.τ).loc Cert.KernelPleSampleIdeal.main_arg3)
      ∧ r.2.mem ((c.tc : Thread Cert.KernelPleSampleIdeal.nD Cert.KernelPleSampleIdeal.τ).loc Cert.KernelPleSampleIdeal.main_arg4) = m ((c.tc : Thread Cert.KernelPleSampleIdeal.nD Cert.KernelPleSampleIdeal.τ).loc Cert.KernelPleSampleIdeal.main_arg4)
      ∧ r.2.mem ((c.tc : Thread Cert.KernelPleSampleIdeal.nD Cert.KernelPleSampleIdeal.τ).loc Cert.KernelPleSampleIdeal.main_arg5) = m ((c.tc : Thread Cert.KernelPleSampleIdeal.nD Cert.KernelPleSampleIdeal.τ).loc Cert.KernelPleSampleIdeal.main_arg5))
      ∧ r.2.sem = fun _ => 0)

def quiescent_ReferencePleSampleIdeal [hReferencePleSampleIdeal : Cert.ReferencePleSampleIdeal.Facts] : Prop :=
  ∀ (m : (ℓ : Loc Cert.ReferencePleSampleIdeal.nD Cert.ReferencePleSampleIdeal.τ Cert.ReferencePleSampleIdeal.sig) → Buf (Elt Ideal) ℓ) (g : Dev Cert.ReferencePleSampleIdeal.nD → PrngReg), Pre_ReferencePleSampleIdeal m →
    θ_run (Cert.ReferencePleSampleIdeal.defs (F := Ideal)) (onTc (τ := Cert.ReferencePleSampleIdeal.τ) (Cert.ReferencePleSampleIdeal.main (F := Ideal))) ⟨m, fun _ => 0, g⟩ (fun r => (∀ c : Dev Cert.ReferencePleSampleIdeal.nD,
      r.2.mem ((c.tc : Thread Cert.ReferencePleSampleIdeal.nD Cert.ReferencePleSampleIdeal.τ).loc Cert.ReferencePleSampleIdeal.main_arg0) = m ((c.tc : Thread Cert.ReferencePleSampleIdeal.nD Cert.ReferencePleSampleIdeal.τ).loc Cert.ReferencePleSampleIdeal.main_arg0)
      ∧ r.2.mem ((c.tc : Thread Cert.ReferencePleSampleIdeal.nD Cert.ReferencePleSampleIdeal.τ).loc Cert.ReferencePleSampleIdeal.main_arg1) = m ((c.tc : Thread Cert.ReferencePleSampleIdeal.nD Cert.ReferencePleSampleIdeal.τ).loc Cert.ReferencePleSampleIdeal.main_arg1)
      ∧ r.2.mem ((c.tc : Thread Cert.ReferencePleSampleIdeal.nD Cert.ReferencePleSampleIdeal.τ).loc Cert.ReferencePleSampleIdeal.main_arg2) = m ((c.tc : Thread Cert.ReferencePleSampleIdeal.nD Cert.ReferencePleSampleIdeal.τ).loc Cert.ReferencePleSampleIdeal.main_arg2)
      ∧ r.2.mem ((c.tc : Thread Cert.ReferencePleSampleIdeal.nD Cert.ReferencePleSampleIdeal.τ).loc Cert.ReferencePleSampleIdeal.main_arg3) = m ((c.tc : Thread Cert.ReferencePleSampleIdeal.nD Cert.ReferencePleSampleIdeal.τ).loc Cert.ReferencePleSampleIdeal.main_arg3)
      ∧ r.2.mem ((c.tc : Thread Cert.ReferencePleSampleIdeal.nD Cert.ReferencePleSampleIdeal.τ).loc Cert.ReferencePleSampleIdeal.main_arg4) = m ((c.tc : Thread Cert.ReferencePleSampleIdeal.nD Cert.ReferencePleSampleIdeal.τ).loc Cert.ReferencePleSampleIdeal.main_arg4)
      ∧ r.2.mem ((c.tc : Thread Cert.ReferencePleSampleIdeal.nD Cert.ReferencePleSampleIdeal.τ).loc Cert.ReferencePleSampleIdeal.main_arg5) = m ((c.tc : Thread Cert.ReferencePleSampleIdeal.nD Cert.ReferencePleSampleIdeal.τ).loc Cert.ReferencePleSampleIdeal.main_arg5))
      ∧ r.2.sem = fun _ => 0)

def quiescent_KernelMixSample [hKernelMixSample : Cert.KernelMixSample.Facts] : Prop :=
  ∀ (m : (ℓ : Loc Cert.KernelMixSample.nD Cert.KernelMixSample.τ Cert.KernelMixSample.sig) → Buf (Elt Bits) ℓ) (g : Dev Cert.KernelMixSample.nD → PrngReg), Pre_KernelMixSample m →
    θ_run (Cert.KernelMixSample.defs (F := Bits)) (onTc (τ := Cert.KernelMixSample.τ) (Cert.KernelMixSample.main (F := Bits))) ⟨m, fun _ => 0, g⟩ (fun r => (∀ c : Dev Cert.KernelMixSample.nD,
      r.2.mem ((c.tc : Thread Cert.KernelMixSample.nD Cert.KernelMixSample.τ).loc Cert.KernelMixSample.main_arg0) = m ((c.tc : Thread Cert.KernelMixSample.nD Cert.KernelMixSample.τ).loc Cert.KernelMixSample.main_arg0)
      ∧ r.2.mem ((c.tc : Thread Cert.KernelMixSample.nD Cert.KernelMixSample.τ).loc Cert.KernelMixSample.main_arg1) = m ((c.tc : Thread Cert.KernelMixSample.nD Cert.KernelMixSample.τ).loc Cert.KernelMixSample.main_arg1)
      ∧ r.2.mem ((c.tc : Thread Cert.KernelMixSample.nD Cert.KernelMixSample.τ).loc Cert.KernelMixSample.main_arg2) = m ((c.tc : Thread Cert.KernelMixSample.nD Cert.KernelMixSample.τ).loc Cert.KernelMixSample.main_arg2)
      ∧ r.2.mem ((c.tc : Thread Cert.KernelMixSample.nD Cert.KernelMixSample.τ).loc Cert.KernelMixSample.main_arg3) = m ((c.tc : Thread Cert.KernelMixSample.nD Cert.KernelMixSample.τ).loc Cert.KernelMixSample.main_arg3)
      ∧ r.2.mem ((c.tc : Thread Cert.KernelMixSample.nD Cert.KernelMixSample.τ).loc Cert.KernelMixSample.main_arg4) = m ((c.tc : Thread Cert.KernelMixSample.nD Cert.KernelMixSample.τ).loc Cert.KernelMixSample.main_arg4)
      ∧ r.2.mem ((c.tc : Thread Cert.KernelMixSample.nD Cert.KernelMixSample.τ).loc Cert.KernelMixSample.main_arg5) = m ((c.tc : Thread Cert.KernelMixSample.nD Cert.KernelMixSample.τ).loc Cert.KernelMixSample.main_arg5))
      ∧ r.2.sem = fun _ => 0)

def quiescent_KernelMixSampleIdeal [hKernelMixSampleIdeal : Cert.KernelMixSampleIdeal.Facts] : Prop :=
  ∀ (m : (ℓ : Loc Cert.KernelMixSampleIdeal.nD Cert.KernelMixSampleIdeal.τ Cert.KernelMixSampleIdeal.sig) → Buf (Elt Ideal) ℓ) (g : Dev Cert.KernelMixSampleIdeal.nD → PrngReg), Pre_KernelMixSampleIdeal m →
    θ_run (Cert.KernelMixSampleIdeal.defs (F := Ideal)) (onTc (τ := Cert.KernelMixSampleIdeal.τ) (Cert.KernelMixSampleIdeal.main (F := Ideal))) ⟨m, fun _ => 0, g⟩ (fun r => (∀ c : Dev Cert.KernelMixSampleIdeal.nD,
      r.2.mem ((c.tc : Thread Cert.KernelMixSampleIdeal.nD Cert.KernelMixSampleIdeal.τ).loc Cert.KernelMixSampleIdeal.main_arg0) = m ((c.tc : Thread Cert.KernelMixSampleIdeal.nD Cert.KernelMixSampleIdeal.τ).loc Cert.KernelMixSampleIdeal.main_arg0)
      ∧ r.2.mem ((c.tc : Thread Cert.KernelMixSampleIdeal.nD Cert.KernelMixSampleIdeal.τ).loc Cert.KernelMixSampleIdeal.main_arg1) = m ((c.tc : Thread Cert.KernelMixSampleIdeal.nD Cert.KernelMixSampleIdeal.τ).loc Cert.KernelMixSampleIdeal.main_arg1)
      ∧ r.2.mem ((c.tc : Thread Cert.KernelMixSampleIdeal.nD Cert.KernelMixSampleIdeal.τ).loc Cert.KernelMixSampleIdeal.main_arg2) = m ((c.tc : Thread Cert.KernelMixSampleIdeal.nD Cert.KernelMixSampleIdeal.τ).loc Cert.KernelMixSampleIdeal.main_arg2)
      ∧ r.2.mem ((c.tc : Thread Cert.KernelMixSampleIdeal.nD Cert.KernelMixSampleIdeal.τ).loc Cert.KernelMixSampleIdeal.main_arg3) = m ((c.tc : Thread Cert.KernelMixSampleIdeal.nD Cert.KernelMixSampleIdeal.τ).loc Cert.KernelMixSampleIdeal.main_arg3)
      ∧ r.2.mem ((c.tc : Thread Cert.KernelMixSampleIdeal.nD Cert.KernelMixSampleIdeal.τ).loc Cert.KernelMixSampleIdeal.main_arg4) = m ((c.tc : Thread Cert.KernelMixSampleIdeal.nD Cert.KernelMixSampleIdeal.τ).loc Cert.KernelMixSampleIdeal.main_arg4)
      ∧ r.2.mem ((c.tc : Thread Cert.KernelMixSampleIdeal.nD Cert.KernelMixSampleIdeal.τ).loc Cert.KernelMixSampleIdeal.main_arg5) = m ((c.tc : Thread Cert.KernelMixSampleIdeal.nD Cert.KernelMixSampleIdeal.τ).loc Cert.KernelMixSampleIdeal.main_arg5))
      ∧ r.2.sem = fun _ => 0)

def quiescent_ReferenceMixSampleIdeal [hReferenceMixSampleIdeal : Cert.ReferenceMixSampleIdeal.Facts] : Prop :=
  ∀ (m : (ℓ : Loc Cert.ReferenceMixSampleIdeal.nD Cert.ReferenceMixSampleIdeal.τ Cert.ReferenceMixSampleIdeal.sig) → Buf (Elt Ideal) ℓ) (g : Dev Cert.ReferenceMixSampleIdeal.nD → PrngReg), Pre_ReferenceMixSampleIdeal m →
    θ_run (Cert.ReferenceMixSampleIdeal.defs (F := Ideal)) (onTc (τ := Cert.ReferenceMixSampleIdeal.τ) (Cert.ReferenceMixSampleIdeal.main (F := Ideal))) ⟨m, fun _ => 0, g⟩ (fun r => (∀ c : Dev Cert.ReferenceMixSampleIdeal.nD,
      r.2.mem ((c.tc : Thread Cert.ReferenceMixSampleIdeal.nD Cert.ReferenceMixSampleIdeal.τ).loc Cert.ReferenceMixSampleIdeal.main_arg0) = m ((c.tc : Thread Cert.ReferenceMixSampleIdeal.nD Cert.ReferenceMixSampleIdeal.τ).loc Cert.ReferenceMixSampleIdeal.main_arg0)
      ∧ r.2.mem ((c.tc : Thread Cert.ReferenceMixSampleIdeal.nD Cert.ReferenceMixSampleIdeal.τ).loc Cert.ReferenceMixSampleIdeal.main_arg1) = m ((c.tc : Thread Cert.ReferenceMixSampleIdeal.nD Cert.ReferenceMixSampleIdeal.τ).loc Cert.ReferenceMixSampleIdeal.main_arg1)
      ∧ r.2.mem ((c.tc : Thread Cert.ReferenceMixSampleIdeal.nD Cert.ReferenceMixSampleIdeal.τ).loc Cert.ReferenceMixSampleIdeal.main_arg2) = m ((c.tc : Thread Cert.ReferenceMixSampleIdeal.nD Cert.ReferenceMixSampleIdeal.τ).loc Cert.ReferenceMixSampleIdeal.main_arg2)
      ∧ r.2.mem ((c.tc : Thread Cert.ReferenceMixSampleIdeal.nD Cert.ReferenceMixSampleIdeal.τ).loc Cert.ReferenceMixSampleIdeal.main_arg3) = m ((c.tc : Thread Cert.ReferenceMixSampleIdeal.nD Cert.ReferenceMixSampleIdeal.τ).loc Cert.ReferenceMixSampleIdeal.main_arg3)
      ∧ r.2.mem ((c.tc : Thread Cert.ReferenceMixSampleIdeal.nD Cert.ReferenceMixSampleIdeal.τ).loc Cert.ReferenceMixSampleIdeal.main_arg4) = m ((c.tc : Thread Cert.ReferenceMixSampleIdeal.nD Cert.ReferenceMixSampleIdeal.τ).loc Cert.ReferenceMixSampleIdeal.main_arg4)
      ∧ r.2.mem ((c.tc : Thread Cert.ReferenceMixSampleIdeal.nD Cert.ReferenceMixSampleIdeal.τ).loc Cert.ReferenceMixSampleIdeal.main_arg5) = m ((c.tc : Thread Cert.ReferenceMixSampleIdeal.nD Cert.ReferenceMixSampleIdeal.τ).loc Cert.ReferenceMixSampleIdeal.main_arg5))
      ∧ r.2.sem = fun _ => 0)

def quiescent_KernelUpSample [hKernelUpSample : Cert.KernelUpSample.Facts] : Prop :=
  ∀ (m : (ℓ : Loc Cert.KernelUpSample.nD Cert.KernelUpSample.τ Cert.KernelUpSample.sig) → Buf (Elt Bits) ℓ) (g : Dev Cert.KernelUpSample.nD → PrngReg), Pre_KernelUpSample m →
    θ_run (Cert.KernelUpSample.defs (F := Bits)) (onTc (τ := Cert.KernelUpSample.τ) (Cert.KernelUpSample.main (F := Bits))) ⟨m, fun _ => 0, g⟩ (fun r => (∀ c : Dev Cert.KernelUpSample.nD,
      r.2.mem ((c.tc : Thread Cert.KernelUpSample.nD Cert.KernelUpSample.τ).loc Cert.KernelUpSample.main_arg0) = m ((c.tc : Thread Cert.KernelUpSample.nD Cert.KernelUpSample.τ).loc Cert.KernelUpSample.main_arg0)
      ∧ r.2.mem ((c.tc : Thread Cert.KernelUpSample.nD Cert.KernelUpSample.τ).loc Cert.KernelUpSample.main_arg1) = m ((c.tc : Thread Cert.KernelUpSample.nD Cert.KernelUpSample.τ).loc Cert.KernelUpSample.main_arg1)
      ∧ r.2.mem ((c.tc : Thread Cert.KernelUpSample.nD Cert.KernelUpSample.τ).loc Cert.KernelUpSample.main_arg2) = m ((c.tc : Thread Cert.KernelUpSample.nD Cert.KernelUpSample.τ).loc Cert.KernelUpSample.main_arg2)
      ∧ r.2.mem ((c.tc : Thread Cert.KernelUpSample.nD Cert.KernelUpSample.τ).loc Cert.KernelUpSample.main_arg3) = m ((c.tc : Thread Cert.KernelUpSample.nD Cert.KernelUpSample.τ).loc Cert.KernelUpSample.main_arg3)
      ∧ r.2.mem ((c.tc : Thread Cert.KernelUpSample.nD Cert.KernelUpSample.τ).loc Cert.KernelUpSample.main_arg4) = m ((c.tc : Thread Cert.KernelUpSample.nD Cert.KernelUpSample.τ).loc Cert.KernelUpSample.main_arg4)
      ∧ r.2.mem ((c.tc : Thread Cert.KernelUpSample.nD Cert.KernelUpSample.τ).loc Cert.KernelUpSample.main_arg5) = m ((c.tc : Thread Cert.KernelUpSample.nD Cert.KernelUpSample.τ).loc Cert.KernelUpSample.main_arg5))
      ∧ r.2.sem = fun _ => 0)

def quiescent_KernelUpSampleIdeal [hKernelUpSampleIdeal : Cert.KernelUpSampleIdeal.Facts] : Prop :=
  ∀ (m : (ℓ : Loc Cert.KernelUpSampleIdeal.nD Cert.KernelUpSampleIdeal.τ Cert.KernelUpSampleIdeal.sig) → Buf (Elt Ideal) ℓ) (g : Dev Cert.KernelUpSampleIdeal.nD → PrngReg), Pre_KernelUpSampleIdeal m →
    θ_run (Cert.KernelUpSampleIdeal.defs (F := Ideal)) (onTc (τ := Cert.KernelUpSampleIdeal.τ) (Cert.KernelUpSampleIdeal.main (F := Ideal))) ⟨m, fun _ => 0, g⟩ (fun r => (∀ c : Dev Cert.KernelUpSampleIdeal.nD,
      r.2.mem ((c.tc : Thread Cert.KernelUpSampleIdeal.nD Cert.KernelUpSampleIdeal.τ).loc Cert.KernelUpSampleIdeal.main_arg0) = m ((c.tc : Thread Cert.KernelUpSampleIdeal.nD Cert.KernelUpSampleIdeal.τ).loc Cert.KernelUpSampleIdeal.main_arg0)
      ∧ r.2.mem ((c.tc : Thread Cert.KernelUpSampleIdeal.nD Cert.KernelUpSampleIdeal.τ).loc Cert.KernelUpSampleIdeal.main_arg1) = m ((c.tc : Thread Cert.KernelUpSampleIdeal.nD Cert.KernelUpSampleIdeal.τ).loc Cert.KernelUpSampleIdeal.main_arg1)
      ∧ r.2.mem ((c.tc : Thread Cert.KernelUpSampleIdeal.nD Cert.KernelUpSampleIdeal.τ).loc Cert.KernelUpSampleIdeal.main_arg2) = m ((c.tc : Thread Cert.KernelUpSampleIdeal.nD Cert.KernelUpSampleIdeal.τ).loc Cert.KernelUpSampleIdeal.main_arg2)
      ∧ r.2.mem ((c.tc : Thread Cert.KernelUpSampleIdeal.nD Cert.KernelUpSampleIdeal.τ).loc Cert.KernelUpSampleIdeal.main_arg3) = m ((c.tc : Thread Cert.KernelUpSampleIdeal.nD Cert.KernelUpSampleIdeal.τ).loc Cert.KernelUpSampleIdeal.main_arg3)
      ∧ r.2.mem ((c.tc : Thread Cert.KernelUpSampleIdeal.nD Cert.KernelUpSampleIdeal.τ).loc Cert.KernelUpSampleIdeal.main_arg4) = m ((c.tc : Thread Cert.KernelUpSampleIdeal.nD Cert.KernelUpSampleIdeal.τ).loc Cert.KernelUpSampleIdeal.main_arg4)
      ∧ r.2.mem ((c.tc : Thread Cert.KernelUpSampleIdeal.nD Cert.KernelUpSampleIdeal.τ).loc Cert.KernelUpSampleIdeal.main_arg5) = m ((c.tc : Thread Cert.KernelUpSampleIdeal.nD Cert.KernelUpSampleIdeal.τ).loc Cert.KernelUpSampleIdeal.main_arg5))
      ∧ r.2.sem = fun _ => 0)

def quiescent_KernelUpSampleIdeal_pre_finite_sample [hKernelUpSampleIdeal : Cert.KernelUpSampleIdeal.Facts] [hPre_finite_sample : Cert.Pre_finite_sample.Facts] : Prop :=
  ∀ (m : (ℓ : Loc Cert.KernelUpSampleIdeal.nD Cert.KernelUpSampleIdeal.τ Cert.KernelUpSampleIdeal.sig) → Buf (Elt Ideal) ℓ) (g : Dev Cert.KernelUpSampleIdeal.nD → PrngReg), Pre_KernelUpSampleIdeal_finite_sample m →
    θ_run (Cert.KernelUpSampleIdeal.defs (F := Ideal)) (onTc (τ := Cert.KernelUpSampleIdeal.τ) (Cert.KernelUpSampleIdeal.main (F := Ideal))) ⟨m, fun _ => 0, g⟩ (fun r => (∀ c : Dev Cert.KernelUpSampleIdeal.nD,
      r.2.mem ((c.tc : Thread Cert.KernelUpSampleIdeal.nD Cert.KernelUpSampleIdeal.τ).loc Cert.KernelUpSampleIdeal.main_arg0) = m ((c.tc : Thread Cert.KernelUpSampleIdeal.nD Cert.KernelUpSampleIdeal.τ).loc Cert.KernelUpSampleIdeal.main_arg0)
      ∧ r.2.mem ((c.tc : Thread Cert.KernelUpSampleIdeal.nD Cert.KernelUpSampleIdeal.τ).loc Cert.KernelUpSampleIdeal.main_arg1) = m ((c.tc : Thread Cert.KernelUpSampleIdeal.nD Cert.KernelUpSampleIdeal.τ).loc Cert.KernelUpSampleIdeal.main_arg1)
      ∧ r.2.mem ((c.tc : Thread Cert.KernelUpSampleIdeal.nD Cert.KernelUpSampleIdeal.τ).loc Cert.KernelUpSampleIdeal.main_arg2) = m ((c.tc : Thread Cert.KernelUpSampleIdeal.nD Cert.KernelUpSampleIdeal.τ).loc Cert.KernelUpSampleIdeal.main_arg2)
      ∧ r.2.mem ((c.tc : Thread Cert.KernelUpSampleIdeal.nD Cert.KernelUpSampleIdeal.τ).loc Cert.KernelUpSampleIdeal.main_arg3) = m ((c.tc : Thread Cert.KernelUpSampleIdeal.nD Cert.KernelUpSampleIdeal.τ).loc Cert.KernelUpSampleIdeal.main_arg3)
      ∧ r.2.mem ((c.tc : Thread Cert.KernelUpSampleIdeal.nD Cert.KernelUpSampleIdeal.τ).loc Cert.KernelUpSampleIdeal.main_arg4) = m ((c.tc : Thread Cert.KernelUpSampleIdeal.nD Cert.KernelUpSampleIdeal.τ).loc Cert.KernelUpSampleIdeal.main_arg4)
      ∧ r.2.mem ((c.tc : Thread Cert.KernelUpSampleIdeal.nD Cert.KernelUpSampleIdeal.τ).loc Cert.KernelUpSampleIdeal.main_arg5) = m ((c.tc : Thread Cert.KernelUpSampleIdeal.nD Cert.KernelUpSampleIdeal.τ).loc Cert.KernelUpSampleIdeal.main_arg5))
      ∧ r.2.sem = fun _ => 0)

def quiescent_ReferenceUpSampleIdeal [hReferenceUpSampleIdeal : Cert.ReferenceUpSampleIdeal.Facts] : Prop :=
  ∀ (m : (ℓ : Loc Cert.ReferenceUpSampleIdeal.nD Cert.ReferenceUpSampleIdeal.τ Cert.ReferenceUpSampleIdeal.sig) → Buf (Elt Ideal) ℓ) (g : Dev Cert.ReferenceUpSampleIdeal.nD → PrngReg), Pre_ReferenceUpSampleIdeal m →
    θ_run (Cert.ReferenceUpSampleIdeal.defs (F := Ideal)) (onTc (τ := Cert.ReferenceUpSampleIdeal.τ) (Cert.ReferenceUpSampleIdeal.main (F := Ideal))) ⟨m, fun _ => 0, g⟩ (fun r => (∀ c : Dev Cert.ReferenceUpSampleIdeal.nD,
      r.2.mem ((c.tc : Thread Cert.ReferenceUpSampleIdeal.nD Cert.ReferenceUpSampleIdeal.τ).loc Cert.ReferenceUpSampleIdeal.main_arg0) = m ((c.tc : Thread Cert.ReferenceUpSampleIdeal.nD Cert.ReferenceUpSampleIdeal.τ).loc Cert.ReferenceUpSampleIdeal.main_arg0)
      ∧ r.2.mem ((c.tc : Thread Cert.ReferenceUpSampleIdeal.nD Cert.ReferenceUpSampleIdeal.τ).loc Cert.ReferenceUpSampleIdeal.main_arg1) = m ((c.tc : Thread Cert.ReferenceUpSampleIdeal.nD Cert.ReferenceUpSampleIdeal.τ).loc Cert.ReferenceUpSampleIdeal.main_arg1)
      ∧ r.2.mem ((c.tc : Thread Cert.ReferenceUpSampleIdeal.nD Cert.ReferenceUpSampleIdeal.τ).loc Cert.ReferenceUpSampleIdeal.main_arg2) = m ((c.tc : Thread Cert.ReferenceUpSampleIdeal.nD Cert.ReferenceUpSampleIdeal.τ).loc Cert.ReferenceUpSampleIdeal.main_arg2)
      ∧ r.2.mem ((c.tc : Thread Cert.ReferenceUpSampleIdeal.nD Cert.ReferenceUpSampleIdeal.τ).loc Cert.ReferenceUpSampleIdeal.main_arg3) = m ((c.tc : Thread Cert.ReferenceUpSampleIdeal.nD Cert.ReferenceUpSampleIdeal.τ).loc Cert.ReferenceUpSampleIdeal.main_arg3)
      ∧ r.2.mem ((c.tc : Thread Cert.ReferenceUpSampleIdeal.nD Cert.ReferenceUpSampleIdeal.τ).loc Cert.ReferenceUpSampleIdeal.main_arg4) = m ((c.tc : Thread Cert.ReferenceUpSampleIdeal.nD Cert.ReferenceUpSampleIdeal.τ).loc Cert.ReferenceUpSampleIdeal.main_arg4)
      ∧ r.2.mem ((c.tc : Thread Cert.ReferenceUpSampleIdeal.nD Cert.ReferenceUpSampleIdeal.τ).loc Cert.ReferenceUpSampleIdeal.main_arg5) = m ((c.tc : Thread Cert.ReferenceUpSampleIdeal.nD Cert.ReferenceUpSampleIdeal.τ).loc Cert.ReferenceUpSampleIdeal.main_arg5))
      ∧ r.2.sem = fun _ => 0)

def quiescent_ReferenceUpSampleIdeal_pre_finite_sample [hReferenceUpSampleIdeal : Cert.ReferenceUpSampleIdeal.Facts] [hPre_finite_sample : Cert.Pre_finite_sample.Facts] : Prop :=
  ∀ (m : (ℓ : Loc Cert.ReferenceUpSampleIdeal.nD Cert.ReferenceUpSampleIdeal.τ Cert.ReferenceUpSampleIdeal.sig) → Buf (Elt Ideal) ℓ) (g : Dev Cert.ReferenceUpSampleIdeal.nD → PrngReg), Pre_ReferenceUpSampleIdeal_finite_sample m →
    θ_run (Cert.ReferenceUpSampleIdeal.defs (F := Ideal)) (onTc (τ := Cert.ReferenceUpSampleIdeal.τ) (Cert.ReferenceUpSampleIdeal.main (F := Ideal))) ⟨m, fun _ => 0, g⟩ (fun r => (∀ c : Dev Cert.ReferenceUpSampleIdeal.nD,
      r.2.mem ((c.tc : Thread Cert.ReferenceUpSampleIdeal.nD Cert.ReferenceUpSampleIdeal.τ).loc Cert.ReferenceUpSampleIdeal.main_arg0) = m ((c.tc : Thread Cert.ReferenceUpSampleIdeal.nD Cert.ReferenceUpSampleIdeal.τ).loc Cert.ReferenceUpSampleIdeal.main_arg0)
      ∧ r.2.mem ((c.tc : Thread Cert.ReferenceUpSampleIdeal.nD Cert.ReferenceUpSampleIdeal.τ).loc Cert.ReferenceUpSampleIdeal.main_arg1) = m ((c.tc : Thread Cert.ReferenceUpSampleIdeal.nD Cert.ReferenceUpSampleIdeal.τ).loc Cert.ReferenceUpSampleIdeal.main_arg1)
      ∧ r.2.mem ((c.tc : Thread Cert.ReferenceUpSampleIdeal.nD Cert.ReferenceUpSampleIdeal.τ).loc Cert.ReferenceUpSampleIdeal.main_arg2) = m ((c.tc : Thread Cert.ReferenceUpSampleIdeal.nD Cert.ReferenceUpSampleIdeal.τ).loc Cert.ReferenceUpSampleIdeal.main_arg2)
      ∧ r.2.mem ((c.tc : Thread Cert.ReferenceUpSampleIdeal.nD Cert.ReferenceUpSampleIdeal.τ).loc Cert.ReferenceUpSampleIdeal.main_arg3) = m ((c.tc : Thread Cert.ReferenceUpSampleIdeal.nD Cert.ReferenceUpSampleIdeal.τ).loc Cert.ReferenceUpSampleIdeal.main_arg3)
      ∧ r.2.mem ((c.tc : Thread Cert.ReferenceUpSampleIdeal.nD Cert.ReferenceUpSampleIdeal.τ).loc Cert.ReferenceUpSampleIdeal.main_arg4) = m ((c.tc : Thread Cert.ReferenceUpSampleIdeal.nD Cert.ReferenceUpSampleIdeal.τ).loc Cert.ReferenceUpSampleIdeal.main_arg4)
      ∧ r.2.mem ((c.tc : Thread Cert.ReferenceUpSampleIdeal.nD Cert.ReferenceUpSampleIdeal.τ).loc Cert.ReferenceUpSampleIdeal.main_arg5) = m ((c.tc : Thread Cert.ReferenceUpSampleIdeal.nD Cert.ReferenceUpSampleIdeal.τ).loc Cert.ReferenceUpSampleIdeal.main_arg5))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6)
      ∧ r.2.mem ((c.tc : Thread Cert.KernelSsd.nD Cert.KernelSsd.τ).loc Cert.KernelSsd.main_arg7) = m ((c.tc : Thread Cert.KernelSsd.nD Cert.KernelSsd.τ).loc Cert.KernelSsd.main_arg7))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)) →
    ∃ (v0 : (c : Dev Cert.KernelPleIdeal.nD) → Buf (Elt Ideal) ((c.tc : Thread Cert.KernelPleIdeal.nD Cert.KernelPleIdeal.τ).loc Cert.KernelPleIdeal.main_v10)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v10) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v40) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v6_0)) (v1 : (c : Dev Cert.KernelOutIdeal.nD) → Buf (Elt Ideal) ((c.tc : Thread Cert.KernelOutIdeal.nD Cert.KernelOutIdeal.τ).loc Cert.KernelOutIdeal.main_v6_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6_0) = v0 c
          ∧ r.2.mem ((c.tc : Thread Cert.KernelOutIdeal.nD Cert.KernelOutIdeal.τ).loc Cert.KernelOutIdeal.main_v6_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v18) = v0 c
          ∧ r.2.mem ((c.tc : Thread Cert.ReferenceOutIdeal.nD Cert.ReferenceOutIdeal.τ).loc Cert.ReferenceOutIdeal.main_v20) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelUp_KernelUpIdeal : Prop :=
  True

def algebraic_KernelUpIdeal_ReferenceUpIdeal_pre_finite [hKernelUpIdeal : Cert.KernelUpIdeal.Facts] [hReferenceUpIdeal : Cert.ReferenceUpIdeal.Facts] [hPre_finite : Cert.Pre_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_finite m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v6_0)) (v1 : (c : Dev Cert.KernelUpIdeal.nD) → Buf (Elt Ideal) ((c.tc : Thread Cert.KernelUpIdeal.nD Cert.KernelUpIdeal.τ).loc Cert.KernelUpIdeal.main_v10)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v6_0) = v0 c
          ∧ r.2.mem ((c.tc : Thread Cert.KernelUpIdeal.nD Cert.KernelUpIdeal.τ).loc Cert.KernelUpIdeal.main_v10) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v36) = v0 c
          ∧ r.2.mem ((c.tc : Thread Cert.ReferenceUpIdeal.nD Cert.ReferenceUpIdeal.τ).loc Cert.ReferenceUpIdeal.main_v30) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v7_0)) (v1 : (c : Dev Cert.KernelMixIdeal.nD) → Buf (Elt Ideal) ((c.tc : Thread Cert.KernelMixIdeal.nD Cert.KernelMixIdeal.τ).loc Cert.KernelMixIdeal.main_v11)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v7_0) = v0 c
          ∧ r.2.mem ((c.tc : Thread Cert.KernelMixIdeal.nD Cert.KernelMixIdeal.τ).loc Cert.KernelMixIdeal.main_v11) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v55) = v0 c
          ∧ r.2.mem ((c.tc : Thread Cert.ReferenceMixIdeal.nD Cert.ReferenceMixIdeal.τ).loc Cert.ReferenceMixIdeal.main_v35) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelPleSample_KernelPleSampleIdeal : Prop :=
  True

def algebraic_KernelPleSampleIdeal_ReferencePleSampleIdeal [hKernelPleSampleIdeal : Cert.KernelPleSampleIdeal.Facts] [hReferencePleSampleIdeal : Cert.ReferencePleSampleIdeal.Facts] : Prop :=
  ∀ (m : (ℓ : Loc Cert.KernelPleSampleIdeal.nD Cert.KernelPleSampleIdeal.τ Cert.KernelPleSampleIdeal.sig) → Buf (Elt Ideal) ℓ) (g : Dev Cert.KernelPleSampleIdeal.nD → PrngReg)
    (m' : (ℓ : Loc Cert.ReferencePleSampleIdeal.nD Cert.ReferencePleSampleIdeal.τ Cert.ReferencePleSampleIdeal.sig) → Buf (Elt Ideal) ℓ) (g' : Dev Cert.ReferencePleSampleIdeal.nD → PrngReg), Pre_KernelPleSampleIdeal m →
    (∀ c : Dev Cert.KernelPleSampleIdeal.nD,
      m' ((c.tc : Thread Cert.ReferencePleSampleIdeal.nD Cert.ReferencePleSampleIdeal.τ).loc Cert.ReferencePleSampleIdeal.main_arg0) = m ((c.tc : Thread Cert.KernelPleSampleIdeal.nD Cert.KernelPleSampleIdeal.τ).loc Cert.KernelPleSampleIdeal.main_arg0)
      ∧ m' ((c.tc : Thread Cert.ReferencePleSampleIdeal.nD Cert.ReferencePleSampleIdeal.τ).loc Cert.ReferencePleSampleIdeal.main_arg1) = m ((c.tc : Thread Cert.KernelPleSampleIdeal.nD Cert.KernelPleSampleIdeal.τ).loc Cert.KernelPleSampleIdeal.main_arg1)
      ∧ m' ((c.tc : Thread Cert.ReferencePleSampleIdeal.nD Cert.ReferencePleSampleIdeal.τ).loc Cert.ReferencePleSampleIdeal.main_arg2) = m ((c.tc : Thread Cert.KernelPleSampleIdeal.nD Cert.KernelPleSampleIdeal.τ).loc Cert.KernelPleSampleIdeal.main_arg2)
      ∧ m' ((c.tc : Thread Cert.ReferencePleSampleIdeal.nD Cert.ReferencePleSampleIdeal.τ).loc Cert.ReferencePleSampleIdeal.main_arg3) = m ((c.tc : Thread Cert.KernelPleSampleIdeal.nD Cert.KernelPleSampleIdeal.τ).loc Cert.KernelPleSampleIdeal.main_arg3)
      ∧ m' ((c.tc : Thread Cert.ReferencePleSampleIdeal.nD Cert.ReferencePleSampleIdeal.τ).loc Cert.ReferencePleSampleIdeal.main_arg4) = m ((c.tc : Thread Cert.KernelPleSampleIdeal.nD Cert.KernelPleSampleIdeal.τ).loc Cert.KernelPleSampleIdeal.main_arg4)
      ∧ m' ((c.tc : Thread Cert.ReferencePleSampleIdeal.nD Cert.ReferencePleSampleIdeal.τ).loc Cert.ReferencePleSampleIdeal.main_arg5) = m ((c.tc : Thread Cert.KernelPleSampleIdeal.nD Cert.KernelPleSampleIdeal.τ).loc Cert.KernelPleSampleIdeal.main_arg5)) →
    ∃ (v0 : (c : Dev Cert.KernelPleSampleIdeal.nD) → Buf (Elt Ideal) ((c.tc : Thread Cert.KernelPleSampleIdeal.nD Cert.KernelPleSampleIdeal.τ).loc Cert.KernelPleSampleIdeal.main_v10)),
      θ_run (Cert.KernelPleSampleIdeal.defs (F := Ideal)) (onTc (τ := Cert.KernelPleSampleIdeal.τ) (Cert.KernelPleSampleIdeal.main (F := Ideal))) ⟨m, fun _ => 0, g⟩ (fun r => ∀ c : Dev Cert.KernelPleSampleIdeal.nD,
          r.2.mem ((c.tc : Thread Cert.KernelPleSampleIdeal.nD Cert.KernelPleSampleIdeal.τ).loc Cert.KernelPleSampleIdeal.main_v10) = v0 c
          ∧ r.2.mem ((c.tc : Thread Cert.KernelPleSampleIdeal.nD Cert.KernelPleSampleIdeal.τ).loc Cert.KernelPleSampleIdeal.main_arg0) = m ((c.tc : Thread Cert.KernelPleSampleIdeal.nD Cert.KernelPleSampleIdeal.τ).loc Cert.KernelPleSampleIdeal.main_arg0)
          ∧ r.2.mem ((c.tc : Thread Cert.KernelPleSampleIdeal.nD Cert.KernelPleSampleIdeal.τ).loc Cert.KernelPleSampleIdeal.main_arg1) = m ((c.tc : Thread Cert.KernelPleSampleIdeal.nD Cert.KernelPleSampleIdeal.τ).loc Cert.KernelPleSampleIdeal.main_arg1)
          ∧ r.2.mem ((c.tc : Thread Cert.KernelPleSampleIdeal.nD Cert.KernelPleSampleIdeal.τ).loc Cert.KernelPleSampleIdeal.main_arg2) = m ((c.tc : Thread Cert.KernelPleSampleIdeal.nD Cert.KernelPleSampleIdeal.τ).loc Cert.KernelPleSampleIdeal.main_arg2)
          ∧ r.2.mem ((c.tc : Thread Cert.KernelPleSampleIdeal.nD Cert.KernelPleSampleIdeal.τ).loc Cert.KernelPleSampleIdeal.main_arg3) = m ((c.tc : Thread Cert.KernelPleSampleIdeal.nD Cert.KernelPleSampleIdeal.τ).loc Cert.KernelPleSampleIdeal.main_arg3)
          ∧ r.2.mem ((c.tc : Thread Cert.KernelPleSampleIdeal.nD Cert.KernelPleSampleIdeal.τ).loc Cert.KernelPleSampleIdeal.main_arg4) = m ((c.tc : Thread Cert.KernelPleSampleIdeal.nD Cert.KernelPleSampleIdeal.τ).loc Cert.KernelPleSampleIdeal.main_arg4)
          ∧ r.2.mem ((c.tc : Thread Cert.KernelPleSampleIdeal.nD Cert.KernelPleSampleIdeal.τ).loc Cert.KernelPleSampleIdeal.main_arg5) = m ((c.tc : Thread Cert.KernelPleSampleIdeal.nD Cert.KernelPleSampleIdeal.τ).loc Cert.KernelPleSampleIdeal.main_arg5))
      ∧ θ_run (Cert.ReferencePleSampleIdeal.defs (F := Ideal)) (onTc (τ := Cert.ReferencePleSampleIdeal.τ) (Cert.ReferencePleSampleIdeal.main (F := Ideal))) ⟨m', fun _ => 0, g'⟩ (fun r => ∀ c : Dev Cert.ReferencePleSampleIdeal.nD,
          r.2.mem ((c.tc : Thread Cert.ReferencePleSampleIdeal.nD Cert.ReferencePleSampleIdeal.τ).loc Cert.ReferencePleSampleIdeal.main_v40) = v0 c
          ∧ r.2.mem ((c.tc : Thread Cert.ReferencePleSampleIdeal.nD Cert.ReferencePleSampleIdeal.τ).loc Cert.ReferencePleSampleIdeal.main_arg0) = m' ((c.tc : Thread Cert.ReferencePleSampleIdeal.nD Cert.ReferencePleSampleIdeal.τ).loc Cert.ReferencePleSampleIdeal.main_arg0)
          ∧ r.2.mem ((c.tc : Thread Cert.ReferencePleSampleIdeal.nD Cert.ReferencePleSampleIdeal.τ).loc Cert.ReferencePleSampleIdeal.main_arg1) = m' ((c.tc : Thread Cert.ReferencePleSampleIdeal.nD Cert.ReferencePleSampleIdeal.τ).loc Cert.ReferencePleSampleIdeal.main_arg1)
          ∧ r.2.mem ((c.tc : Thread Cert.ReferencePleSampleIdeal.nD Cert.ReferencePleSampleIdeal.τ).loc Cert.ReferencePleSampleIdeal.main_arg2) = m' ((c.tc : Thread Cert.ReferencePleSampleIdeal.nD Cert.ReferencePleSampleIdeal.τ).loc Cert.ReferencePleSampleIdeal.main_arg2)
          ∧ r.2.mem ((c.tc : Thread Cert.ReferencePleSampleIdeal.nD Cert.ReferencePleSampleIdeal.τ).loc Cert.ReferencePleSampleIdeal.main_arg3) = m' ((c.tc : Thread Cert.ReferencePleSampleIdeal.nD Cert.ReferencePleSampleIdeal.τ).loc Cert.ReferencePleSampleIdeal.main_arg3)
          ∧ r.2.mem ((c.tc : Thread Cert.ReferencePleSampleIdeal.nD Cert.ReferencePleSampleIdeal.τ).loc Cert.ReferencePleSampleIdeal.main_arg4) = m' ((c.tc : Thread Cert.ReferencePleSampleIdeal.nD Cert.ReferencePleSampleIdeal.τ).loc Cert.ReferencePleSampleIdeal.main_arg4)
          ∧ r.2.mem ((c.tc : Thread Cert.ReferencePleSampleIdeal.nD Cert.ReferencePleSampleIdeal.τ).loc Cert.ReferencePleSampleIdeal.main_arg5) = m' ((c.tc : Thread Cert.ReferencePleSampleIdeal.nD Cert.ReferencePleSampleIdeal.τ).loc Cert.ReferencePleSampleIdeal.main_arg5))

def preserves_KernelMixSample_KernelMixSampleIdeal : Prop :=
  True

def algebraic_KernelMixSampleIdeal_ReferenceMixSampleIdeal [hKernelMixSampleIdeal : Cert.KernelMixSampleIdeal.Facts] [hReferenceMixSampleIdeal : Cert.ReferenceMixSampleIdeal.Facts] : Prop :=
  ∀ (m : (ℓ : Loc Cert.KernelMixSampleIdeal.nD Cert.KernelMixSampleIdeal.τ Cert.KernelMixSampleIdeal.sig) → Buf (Elt Ideal) ℓ) (g : Dev Cert.KernelMixSampleIdeal.nD → PrngReg)
    (m' : (ℓ : Loc Cert.ReferenceMixSampleIdeal.nD Cert.ReferenceMixSampleIdeal.τ Cert.ReferenceMixSampleIdeal.sig) → Buf (Elt Ideal) ℓ) (g' : Dev Cert.ReferenceMixSampleIdeal.nD → PrngReg), Pre_KernelMixSampleIdeal m →
    (∀ c : Dev Cert.KernelMixSampleIdeal.nD,
      m' ((c.tc : Thread Cert.ReferenceMixSampleIdeal.nD Cert.ReferenceMixSampleIdeal.τ).loc Cert.ReferenceMixSampleIdeal.main_arg0) = m ((c.tc : Thread Cert.KernelMixSampleIdeal.nD Cert.KernelMixSampleIdeal.τ).loc Cert.KernelMixSampleIdeal.main_arg0)
      ∧ m' ((c.tc : Thread Cert.ReferenceMixSampleIdeal.nD Cert.ReferenceMixSampleIdeal.τ).loc Cert.ReferenceMixSampleIdeal.main_arg1) = m ((c.tc : Thread Cert.KernelMixSampleIdeal.nD Cert.KernelMixSampleIdeal.τ).loc Cert.KernelMixSampleIdeal.main_arg1)
      ∧ m' ((c.tc : Thread Cert.ReferenceMixSampleIdeal.nD Cert.ReferenceMixSampleIdeal.τ).loc Cert.ReferenceMixSampleIdeal.main_arg2) = m ((c.tc : Thread Cert.KernelMixSampleIdeal.nD Cert.KernelMixSampleIdeal.τ).loc Cert.KernelMixSampleIdeal.main_arg2)
      ∧ m' ((c.tc : Thread Cert.ReferenceMixSampleIdeal.nD Cert.ReferenceMixSampleIdeal.τ).loc Cert.ReferenceMixSampleIdeal.main_arg3) = m ((c.tc : Thread Cert.KernelMixSampleIdeal.nD Cert.KernelMixSampleIdeal.τ).loc Cert.KernelMixSampleIdeal.main_arg3)
      ∧ m' ((c.tc : Thread Cert.ReferenceMixSampleIdeal.nD Cert.ReferenceMixSampleIdeal.τ).loc Cert.ReferenceMixSampleIdeal.main_arg4) = m ((c.tc : Thread Cert.KernelMixSampleIdeal.nD Cert.KernelMixSampleIdeal.τ).loc Cert.KernelMixSampleIdeal.main_arg4)
      ∧ m' ((c.tc : Thread Cert.ReferenceMixSampleIdeal.nD Cert.ReferenceMixSampleIdeal.τ).loc Cert.ReferenceMixSampleIdeal.main_arg5) = m ((c.tc : Thread Cert.KernelMixSampleIdeal.nD Cert.KernelMixSampleIdeal.τ).loc Cert.KernelMixSampleIdeal.main_arg5)) →
    ∃ (v0 : (c : Dev Cert.KernelMixSampleIdeal.nD) → Buf (Elt Ideal) ((c.tc : Thread Cert.KernelMixSampleIdeal.nD Cert.KernelMixSampleIdeal.τ).loc Cert.KernelMixSampleIdeal.main_v8_0)) (v1 : (c : Dev Cert.KernelMixSampleIdeal.nD) → Buf (Elt Ideal) ((c.tc : Thread Cert.KernelMixSampleIdeal.nD Cert.KernelMixSampleIdeal.τ).loc Cert.KernelMixSampleIdeal.main_v8_1)),
      θ_run (Cert.KernelMixSampleIdeal.defs (F := Ideal)) (onTc (τ := Cert.KernelMixSampleIdeal.τ) (Cert.KernelMixSampleIdeal.main (F := Ideal))) ⟨m, fun _ => 0, g⟩ (fun r => ∀ c : Dev Cert.KernelMixSampleIdeal.nD,
          r.2.mem ((c.tc : Thread Cert.KernelMixSampleIdeal.nD Cert.KernelMixSampleIdeal.τ).loc Cert.KernelMixSampleIdeal.main_v8_0) = v0 c
          ∧ r.2.mem ((c.tc : Thread Cert.KernelMixSampleIdeal.nD Cert.KernelMixSampleIdeal.τ).loc Cert.KernelMixSampleIdeal.main_v8_1) = v1 c
          ∧ r.2.mem ((c.tc : Thread Cert.KernelMixSampleIdeal.nD Cert.KernelMixSampleIdeal.τ).loc Cert.KernelMixSampleIdeal.main_arg0) = m ((c.tc : Thread Cert.KernelMixSampleIdeal.nD Cert.KernelMixSampleIdeal.τ).loc Cert.KernelMixSampleIdeal.main_arg0)
          ∧ r.2.mem ((c.tc : Thread Cert.KernelMixSampleIdeal.nD Cert.KernelMixSampleIdeal.τ).loc Cert.KernelMixSampleIdeal.main_arg1) = m ((c.tc : Thread Cert.KernelMixSampleIdeal.nD Cert.KernelMixSampleIdeal.τ).loc Cert.KernelMixSampleIdeal.main_arg1)
          ∧ r.2.mem ((c.tc : Thread Cert.KernelMixSampleIdeal.nD Cert.KernelMixSampleIdeal.τ).loc Cert.KernelMixSampleIdeal.main_arg2) = m ((c.tc : Thread Cert.KernelMixSampleIdeal.nD Cert.KernelMixSampleIdeal.τ).loc Cert.KernelMixSampleIdeal.main_arg2)
          ∧ r.2.mem ((c.tc : Thread Cert.KernelMixSampleIdeal.nD Cert.KernelMixSampleIdeal.τ).loc Cert.KernelMixSampleIdeal.main_arg3) = m ((c.tc : Thread Cert.KernelMixSampleIdeal.nD Cert.KernelMixSampleIdeal.τ).loc Cert.KernelMixSampleIdeal.main_arg3)
          ∧ r.2.mem ((c.tc : Thread Cert.KernelMixSampleIdeal.nD Cert.KernelMixSampleIdeal.τ).loc Cert.KernelMixSampleIdeal.main_arg4) = m ((c.tc : Thread Cert.KernelMixSampleIdeal.nD Cert.KernelMixSampleIdeal.τ).loc Cert.KernelMixSampleIdeal.main_arg4)
          ∧ r.2.mem ((c.tc : Thread Cert.KernelMixSampleIdeal.nD Cert.KernelMixSampleIdeal.τ).loc Cert.KernelMixSampleIdeal.main_arg5) = m ((c.tc : Thread Cert.KernelMixSampleIdeal.nD Cert.KernelMixSampleIdeal.τ).loc Cert.KernelMixSampleIdeal.main_arg5))
      ∧ θ_run (Cert.ReferenceMixSampleIdeal.defs (F := Ideal)) (onTc (τ := Cert.ReferenceMixSampleIdeal.τ) (Cert.ReferenceMixSampleIdeal.main (F := Ideal))) ⟨m', fun _ => 0, g'⟩ (fun r => ∀ c : Dev Cert.ReferenceMixSampleIdeal.nD,
          r.2.mem ((c.tc : Thread Cert.ReferenceMixSampleIdeal.nD Cert.ReferenceMixSampleIdeal.τ).loc Cert.ReferenceMixSampleIdeal.main_v55) = v0 c
          ∧ r.2.mem ((c.tc : Thread Cert.ReferenceMixSampleIdeal.nD Cert.ReferenceMixSampleIdeal.τ).loc Cert.ReferenceMixSampleIdeal.main_v35) = v1 c
          ∧ r.2.mem ((c.tc : Thread Cert.ReferenceMixSampleIdeal.nD Cert.ReferenceMixSampleIdeal.τ).loc Cert.ReferenceMixSampleIdeal.main_arg0) = m' ((c.tc : Thread Cert.ReferenceMixSampleIdeal.nD Cert.ReferenceMixSampleIdeal.τ).loc Cert.ReferenceMixSampleIdeal.main_arg0)
          ∧ r.2.mem ((c.tc : Thread Cert.ReferenceMixSampleIdeal.nD Cert.ReferenceMixSampleIdeal.τ).loc Cert.ReferenceMixSampleIdeal.main_arg1) = m' ((c.tc : Thread Cert.ReferenceMixSampleIdeal.nD Cert.ReferenceMixSampleIdeal.τ).loc Cert.ReferenceMixSampleIdeal.main_arg1)
          ∧ r.2.mem ((c.tc : Thread Cert.ReferenceMixSampleIdeal.nD Cert.ReferenceMixSampleIdeal.τ).loc Cert.ReferenceMixSampleIdeal.main_arg2) = m' ((c.tc : Thread Cert.ReferenceMixSampleIdeal.nD Cert.ReferenceMixSampleIdeal.τ).loc Cert.ReferenceMixSampleIdeal.main_arg2)
          ∧ r.2.mem ((c.tc : Thread Cert.ReferenceMixSampleIdeal.nD Cert.ReferenceMixSampleIdeal.τ).loc Cert.ReferenceMixSampleIdeal.main_arg3) = m' ((c.tc : Thread Cert.ReferenceMixSampleIdeal.nD Cert.ReferenceMixSampleIdeal.τ).loc Cert.ReferenceMixSampleIdeal.main_arg3)
          ∧ r.2.mem ((c.tc : Thread Cert.ReferenceMixSampleIdeal.nD Cert.ReferenceMixSampleIdeal.τ).loc Cert.ReferenceMixSampleIdeal.main_arg4) = m' ((c.tc : Thread Cert.ReferenceMixSampleIdeal.nD Cert.ReferenceMixSampleIdeal.τ).loc Cert.ReferenceMixSampleIdeal.main_arg4)
          ∧ r.2.mem ((c.tc : Thread Cert.ReferenceMixSampleIdeal.nD Cert.ReferenceMixSampleIdeal.τ).loc Cert.ReferenceMixSampleIdeal.main_arg5) = m' ((c.tc : Thread Cert.ReferenceMixSampleIdeal.nD Cert.ReferenceMixSampleIdeal.τ).loc Cert.ReferenceMixSampleIdeal.main_arg5))

def preserves_KernelUpSample_KernelUpSampleIdeal : Prop :=
  True

def algebraic_KernelUpSampleIdeal_ReferenceUpSampleIdeal_pre_finite_sample [hKernelUpSampleIdeal : Cert.KernelUpSampleIdeal.Facts] [hReferenceUpSampleIdeal : Cert.ReferenceUpSampleIdeal.Facts] [hPre_finite_sample : Cert.Pre_finite_sample.Facts] : Prop :=
  ∀ (m : (ℓ : Loc Cert.KernelUpSampleIdeal.nD Cert.KernelUpSampleIdeal.τ Cert.KernelUpSampleIdeal.sig) → Buf (Elt Ideal) ℓ) (g : Dev Cert.KernelUpSampleIdeal.nD → PrngReg)
    (m' : (ℓ : Loc Cert.ReferenceUpSampleIdeal.nD Cert.ReferenceUpSampleIdeal.τ Cert.ReferenceUpSampleIdeal.sig) → Buf (Elt Ideal) ℓ) (g' : Dev Cert.ReferenceUpSampleIdeal.nD → PrngReg), Pre_KernelUpSampleIdeal_finite_sample m →
    (∀ c : Dev Cert.KernelUpSampleIdeal.nD,
      m' ((c.tc : Thread Cert.ReferenceUpSampleIdeal.nD Cert.ReferenceUpSampleIdeal.τ).loc Cert.ReferenceUpSampleIdeal.main_arg0) = m ((c.tc : Thread Cert.KernelUpSampleIdeal.nD Cert.KernelUpSampleIdeal.τ).loc Cert.KernelUpSampleIdeal.main_arg0)
      ∧ m' ((c.tc : Thread Cert.ReferenceUpSampleIdeal.nD Cert.ReferenceUpSampleIdeal.τ).loc Cert.ReferenceUpSampleIdeal.main_arg1) = m ((c.tc : Thread Cert.KernelUpSampleIdeal.nD Cert.KernelUpSampleIdeal.τ).loc Cert.KernelUpSampleIdeal.main_arg1)
      ∧ m' ((c.tc : Thread Cert.ReferenceUpSampleIdeal.nD Cert.ReferenceUpSampleIdeal.τ).loc Cert.ReferenceUpSampleIdeal.main_arg2) = m ((c.tc : Thread Cert.KernelUpSampleIdeal.nD Cert.KernelUpSampleIdeal.τ).loc Cert.KernelUpSampleIdeal.main_arg2)
      ∧ m' ((c.tc : Thread Cert.ReferenceUpSampleIdeal.nD Cert.ReferenceUpSampleIdeal.τ).loc Cert.ReferenceUpSampleIdeal.main_arg3) = m ((c.tc : Thread Cert.KernelUpSampleIdeal.nD Cert.KernelUpSampleIdeal.τ).loc Cert.KernelUpSampleIdeal.main_arg3)
      ∧ m' ((c.tc : Thread Cert.ReferenceUpSampleIdeal.nD Cert.ReferenceUpSampleIdeal.τ).loc Cert.ReferenceUpSampleIdeal.main_arg4) = m ((c.tc : Thread Cert.KernelUpSampleIdeal.nD Cert.KernelUpSampleIdeal.τ).loc Cert.KernelUpSampleIdeal.main_arg4)
      ∧ m' ((c.tc : Thread Cert.ReferenceUpSampleIdeal.nD Cert.ReferenceUpSampleIdeal.τ).loc Cert.ReferenceUpSampleIdeal.main_arg5) = m ((c.tc : Thread Cert.KernelUpSampleIdeal.nD Cert.KernelUpSampleIdeal.τ).loc Cert.KernelUpSampleIdeal.main_arg5)) →
    ∃ (v0 : (c : Dev Cert.KernelUpSampleIdeal.nD) → Buf (Elt Ideal) ((c.tc : Thread Cert.KernelUpSampleIdeal.nD Cert.KernelUpSampleIdeal.τ).loc Cert.KernelUpSampleIdeal.main_v7_0)) (v1 : (c : Dev Cert.KernelUpSampleIdeal.nD) → Buf (Elt Ideal) ((c.tc : Thread Cert.KernelUpSampleIdeal.nD Cert.KernelUpSampleIdeal.τ).loc Cert.KernelUpSampleIdeal.main_v7_1)),
      θ_run (Cert.KernelUpSampleIdeal.defs (F := Ideal)) (onTc (τ := Cert.KernelUpSampleIdeal.τ) (Cert.KernelUpSampleIdeal.main (F := Ideal))) ⟨m, fun _ => 0, g⟩ (fun r => ∀ c : Dev Cert.KernelUpSampleIdeal.nD,
          r.2.mem ((c.tc : Thread Cert.KernelUpSampleIdeal.nD Cert.KernelUpSampleIdeal.τ).loc Cert.KernelUpSampleIdeal.main_v7_0) = v0 c
          ∧ r.2.mem ((c.tc : Thread Cert.KernelUpSampleIdeal.nD Cert.KernelUpSampleIdeal.τ).loc Cert.KernelUpSampleIdeal.main_v7_1) = v1 c
          ∧ r.2.mem ((c.tc : Thread Cert.KernelUpSampleIdeal.nD Cert.KernelUpSampleIdeal.τ).loc Cert.KernelUpSampleIdeal.main_arg0) = m ((c.tc : Thread Cert.KernelUpSampleIdeal.nD Cert.KernelUpSampleIdeal.τ).loc Cert.KernelUpSampleIdeal.main_arg0)
          ∧ r.2.mem ((c.tc : Thread Cert.KernelUpSampleIdeal.nD Cert.KernelUpSampleIdeal.τ).loc Cert.KernelUpSampleIdeal.main_arg1) = m ((c.tc : Thread Cert.KernelUpSampleIdeal.nD Cert.KernelUpSampleIdeal.τ).loc Cert.KernelUpSampleIdeal.main_arg1)
          ∧ r.2.mem ((c.tc : Thread Cert.KernelUpSampleIdeal.nD Cert.KernelUpSampleIdeal.τ).loc Cert.KernelUpSampleIdeal.main_arg2) = m ((c.tc : Thread Cert.KernelUpSampleIdeal.nD Cert.KernelUpSampleIdeal.τ).loc Cert.KernelUpSampleIdeal.main_arg2)
          ∧ r.2.mem ((c.tc : Thread Cert.KernelUpSampleIdeal.nD Cert.KernelUpSampleIdeal.τ).loc Cert.KernelUpSampleIdeal.main_arg3) = m ((c.tc : Thread Cert.KernelUpSampleIdeal.nD Cert.KernelUpSampleIdeal.τ).loc Cert.KernelUpSampleIdeal.main_arg3)
          ∧ r.2.mem ((c.tc : Thread Cert.KernelUpSampleIdeal.nD Cert.KernelUpSampleIdeal.τ).loc Cert.KernelUpSampleIdeal.main_arg4) = m ((c.tc : Thread Cert.KernelUpSampleIdeal.nD Cert.KernelUpSampleIdeal.τ).loc Cert.KernelUpSampleIdeal.main_arg4)
          ∧ r.2.mem ((c.tc : Thread Cert.KernelUpSampleIdeal.nD Cert.KernelUpSampleIdeal.τ).loc Cert.KernelUpSampleIdeal.main_arg5) = m ((c.tc : Thread Cert.KernelUpSampleIdeal.nD Cert.KernelUpSampleIdeal.τ).loc Cert.KernelUpSampleIdeal.main_arg5))
      ∧ θ_run (Cert.ReferenceUpSampleIdeal.defs (F := Ideal)) (onTc (τ := Cert.ReferenceUpSampleIdeal.τ) (Cert.ReferenceUpSampleIdeal.main (F := Ideal))) ⟨m', fun _ => 0, g'⟩ (fun r => ∀ c : Dev Cert.ReferenceUpSampleIdeal.nD,
          r.2.mem ((c.tc : Thread Cert.ReferenceUpSampleIdeal.nD Cert.ReferenceUpSampleIdeal.τ).loc Cert.ReferenceUpSampleIdeal.main_v36) = v0 c
          ∧ r.2.mem ((c.tc : Thread Cert.ReferenceUpSampleIdeal.nD Cert.ReferenceUpSampleIdeal.τ).loc Cert.ReferenceUpSampleIdeal.main_v30) = v1 c
          ∧ r.2.mem ((c.tc : Thread Cert.ReferenceUpSampleIdeal.nD Cert.ReferenceUpSampleIdeal.τ).loc Cert.ReferenceUpSampleIdeal.main_arg0) = m' ((c.tc : Thread Cert.ReferenceUpSampleIdeal.nD Cert.ReferenceUpSampleIdeal.τ).loc Cert.ReferenceUpSampleIdeal.main_arg0)
          ∧ r.2.mem ((c.tc : Thread Cert.ReferenceUpSampleIdeal.nD Cert.ReferenceUpSampleIdeal.τ).loc Cert.ReferenceUpSampleIdeal.main_arg1) = m' ((c.tc : Thread Cert.ReferenceUpSampleIdeal.nD Cert.ReferenceUpSampleIdeal.τ).loc Cert.ReferenceUpSampleIdeal.main_arg1)
          ∧ r.2.mem ((c.tc : Thread Cert.ReferenceUpSampleIdeal.nD Cert.ReferenceUpSampleIdeal.τ).loc Cert.ReferenceUpSampleIdeal.main_arg2) = m' ((c.tc : Thread Cert.ReferenceUpSampleIdeal.nD Cert.ReferenceUpSampleIdeal.τ).loc Cert.ReferenceUpSampleIdeal.main_arg2)
          ∧ r.2.mem ((c.tc : Thread Cert.ReferenceUpSampleIdeal.nD Cert.ReferenceUpSampleIdeal.τ).loc Cert.ReferenceUpSampleIdeal.main_arg3) = m' ((c.tc : Thread Cert.ReferenceUpSampleIdeal.nD Cert.ReferenceUpSampleIdeal.τ).loc Cert.ReferenceUpSampleIdeal.main_arg3)
          ∧ r.2.mem ((c.tc : Thread Cert.ReferenceUpSampleIdeal.nD Cert.ReferenceUpSampleIdeal.τ).loc Cert.ReferenceUpSampleIdeal.main_arg4) = m' ((c.tc : Thread Cert.ReferenceUpSampleIdeal.nD Cert.ReferenceUpSampleIdeal.τ).loc Cert.ReferenceUpSampleIdeal.main_arg4)
          ∧ r.2.mem ((c.tc : Thread Cert.ReferenceUpSampleIdeal.nD Cert.ReferenceUpSampleIdeal.τ).loc Cert.ReferenceUpSampleIdeal.main_arg5) = m' ((c.tc : Thread Cert.ReferenceUpSampleIdeal.nD Cert.ReferenceUpSampleIdeal.τ).loc Cert.ReferenceUpSampleIdeal.main_arg5))

def preserves_KernelSsd_KernelSsdIdeal : Prop :=
  True

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelPle : Cert.KernelPle.Facts) (hKernelPleIdeal : Cert.KernelPleIdeal.Facts) (hReferencePleIdeal : Cert.ReferencePleIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelMix : Cert.KernelMix.Facts) (hKernelMixIdeal : Cert.KernelMixIdeal.Facts) (hReferenceMixIdeal : Cert.ReferenceMixIdeal.Facts) (hKernelPleSample : Cert.KernelPleSample.Facts) (hKernelPleSampleIdeal : Cert.KernelPleSampleIdeal.Facts) (hReferencePleSampleIdeal : Cert.ReferencePleSampleIdeal.Facts) (hKernelMixSample : Cert.KernelMixSample.Facts) (hKernelMixSampleIdeal : Cert.KernelMixSampleIdeal.Facts) (hReferenceMixSampleIdeal : Cert.ReferenceMixSampleIdeal.Facts) (hKernelUpSample : Cert.KernelUpSample.Facts) (hKernelUpSampleIdeal : Cert.KernelUpSampleIdeal.Facts) (hReferenceUpSampleIdeal : Cert.ReferenceUpSampleIdeal.Facts) (hKernelSsd : Cert.KernelSsd.Facts) (hKernelSsdIdeal : Cert.KernelSsdIdeal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_ReferenceIdeal (hReferenceIdeal := hReferenceIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_KernelUpIdeal_pre_finite (hKernelUpIdeal := hKernelUpIdeal) (hPre_finite := hPre_finite)
    ∧ quiescent_ReferenceUpIdeal (hReferenceUpIdeal := hReferenceUpIdeal)
    ∧ quiescent_ReferenceUpIdeal_pre_finite (hReferenceUpIdeal := hReferenceUpIdeal) (hPre_finite := hPre_finite)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelPleSample (hKernelPleSample := hKernelPleSample)
    ∧ quiescent_KernelPleSampleIdeal (hKernelPleSampleIdeal := hKernelPleSampleIdeal)
    ∧ quiescent_ReferencePleSampleIdeal (hReferencePleSampleIdeal := hReferencePleSampleIdeal)
    ∧ quiescent_KernelMixSample (hKernelMixSample := hKernelMixSample)
    ∧ quiescent_KernelMixSampleIdeal (hKernelMixSampleIdeal := hKernelMixSampleIdeal)
    ∧ quiescent_ReferenceMixSampleIdeal (hReferenceMixSampleIdeal := hReferenceMixSampleIdeal)
    ∧ quiescent_KernelUpSample (hKernelUpSample := hKernelUpSample)
    ∧ quiescent_KernelUpSampleIdeal (hKernelUpSampleIdeal := hKernelUpSampleIdeal)
    ∧ quiescent_KernelUpSampleIdeal_pre_finite_sample (hKernelUpSampleIdeal := hKernelUpSampleIdeal) (hPre_finite_sample := hPre_finite_sample)
    ∧ quiescent_ReferenceUpSampleIdeal (hReferenceUpSampleIdeal := hReferenceUpSampleIdeal)
    ∧ quiescent_ReferenceUpSampleIdeal_pre_finite_sample (hReferenceUpSampleIdeal := hReferenceUpSampleIdeal) (hPre_finite_sample := hPre_finite_sample)
    ∧ quiescent_KernelSsd (hKernelSsd := hKernelSsd)
    ∧ quiescent_KernelSsdIdeal (hKernelSsdIdeal := hKernelSsdIdeal)
    ∧ preserves_Kernel_KernelIdeal
    ∧ algebraic_KernelIdeal_ReferenceIdeal (hKernelIdeal := hKernelIdeal) (hReferenceIdeal := hReferenceIdeal)
    ∧ preserves_KernelDown_KernelDownIdeal
    ∧ algebraic_KernelDownIdeal_ReferenceDownIdeal (hKernelDownIdeal := hKernelDownIdeal) (hReferenceDownIdeal := hReferenceDownIdeal)
    ∧ preserves_KernelPle_KernelPleIdeal
    ∧ algebraic_KernelPleIdeal_ReferencePleIdeal (hKernelPleIdeal := hKernelPleIdeal) (hReferencePleIdeal := hReferencePleIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal_pre_finite (hKernelUpIdeal := hKernelUpIdeal) (hReferenceUpIdeal := hReferenceUpIdeal) (hPre_finite := hPre_finite)
    ∧ preserves_KernelMix_KernelMixIdeal
    ∧ algebraic_KernelMixIdeal_ReferenceMixIdeal (hKernelMixIdeal := hKernelMixIdeal) (hReferenceMixIdeal := hReferenceMixIdeal)
    ∧ preserves_KernelPleSample_KernelPleSampleIdeal
    ∧ algebraic_KernelPleSampleIdeal_ReferencePleSampleIdeal (hKernelPleSampleIdeal := hKernelPleSampleIdeal) (hReferencePleSampleIdeal := hReferencePleSampleIdeal)
    ∧ preserves_KernelMixSample_KernelMixSampleIdeal
    ∧ algebraic_KernelMixSampleIdeal_ReferenceMixSampleIdeal (hKernelMixSampleIdeal := hKernelMixSampleIdeal) (hReferenceMixSampleIdeal := hReferenceMixSampleIdeal)
    ∧ preserves_KernelUpSample_KernelUpSampleIdeal
    ∧ algebraic_KernelUpSampleIdeal_ReferenceUpSampleIdeal_pre_finite_sample (hKernelUpSampleIdeal := hKernelUpSampleIdeal) (hReferenceUpSampleIdeal := hReferenceUpSampleIdeal) (hPre_finite_sample := hPre_finite_sample)
    ∧ preserves_KernelSsd_KernelSsdIdeal
-- ==== Pre_finite.lean ====
abbrev S4x2048x2048 : Shape := ⟨3, ![4, 2048, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S_ : Shape := ⟨0, ![]⟩

class Facts : Prop where
  bitsLt_bf16_f32 : FTy.bits .bf16 < FTy.bits .f32
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S1x2048x5632 : S_.BroadcastsInDim S1x2048x5632 (![] : Fin 0 → Fin S1x2048x5632.rank)
  reducesTo_S1x2048x5632_S_d0_1_2 : S1x2048x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v14 : IVec S_ 1) (main_v15 : FVec F S1x5632 .f32) (main_v16 : FVec F S1x5632 .f32) : IVec S_ 1 :=
  let main_v17 : IVec S1x5632 1 := cmpf .olt main_v15 main_v16
  let main_c_5 : IVec S_ 1 := constantI S_ 1 1#1
  let main_v18 : IVec S_ 1 := (fun x v => Host.reduce IntOp.andi x v reducesTo_S1x5632_S_d0_1 h_S_) main_v17 main_c_5
  let main_v19 : IVec S_ 1 := andi main_v14 main_v18
  main_v19

def fn {F : FTy → Type} [FloatOps F] (main_arg0 : FVec F S4x2048x2048 .bf16) (main_arg1 : FVec F S1x2048x5632 .f32) (main_arg2 : FVec F S1x2048x5632 .f32) (main_arg3 : FVec F S1x3x5632 .f32) (main_arg4 : FVec F S1x5632 .f32) : IVec S_ 1 :=
  let main_v0 : FVec F S4x2048x2048 .f32 := (extf .f32 · bitsLt_bf16_f32) main_arg0
  let main_v1 : FVec F S4x2048x2048 .f32 := Host.absf main_v0
  let main_cst : FVec F S_ .f32 := constant S_ .f32 0x7F800000#32
  let main_v2 : FVec F S4x2048x2048 .f32 := broadcastInDim S4x2048x2048 ![] bcast_S_S4x2048x2048 main_cst
  let main_v3 : IVec S4x2048x2048 1 := cmpf .olt main_v1 main_v2
  let main_c : IVec S_ 1 := constantI S_ 1 1#1
  let main_v4 : IVec S_ 1 := (fun x v => Host.reduce IntOp.andi x v reducesTo_S4x2048x2048_S_d0_1_2 h_S_) main_v3 main_c
  let main_v5 : FVec F S1x2048x5632 .f32 := Host.absf main_arg1
  let main_cst_0 : FVec F S_ .f32 := constant S_ .f32 0x7F800000#32
  let main_v6 : FVec F S1x2048x5632 .f32 := broadcastInDim S1x2048x5632 ![] bcast_S_S1x2048x5632 main_cst_0
  let main_v7 : IVec S1x2048x5632 1 := cmpf .olt main_v5 main_v6
  let main_c_1 : IVec S_ 1 := constantI S_ 1 1#1
  let main_v8 : IVec S_ 1 := (fun x v => Host.reduce IntOp.andi x v reducesTo_S1x2048x5632_S_d0_1_2 h_S_) main_v7 main_c_1
  let main_v9 : IVec S_ 1 := andi main_v4 main_v8
  let main_v10 : FVec F S1x3x5632 .f32 := Host.absf main_arg3
  let main_cst_2 : FVec F S_ .f32 := constant S_ .f32 0x7F800000#32
  let main_v11 : FVec F S1x3x5632 .f32 := broadcastInDim S1x3x5632 ![] bcast_S_S1x3x5632 main_cst_2
  let main_v12 : IVec S1x3x5632 1 := cmpf .olt main_v10 main_v11
  let main_c_3 : IVec S_ 1 := constantI S_ 1 1#1
  let main_v13 : IVec S_ 1 := (fun x v => Host.reduce IntOp.andi x v reducesTo_S1x3x5632_S_d0_1_2 h_S_) main_v12 main_c_3
  let main_v14 : IVec S_ 1 := andi main_v9 main_v13
  let main_v15 : FVec F S1x5632 .f32 := Host.absf main_arg4
  let main_cst_4 : FVec F S_ .f32 := constant S_ .f32 0x7F800000#32
  let main_v16 : FVec F S1x5632 .f32 := broadcastInDim S1x5632 ![] bcast_S_S1x5632 main_cst_4
  fn_part1 (F := F) main_v14 main_v15 main_v16
-- ==== Pre_finite_sample.lean ====
abbrev S128x8x2048 : Shape := ⟨3, ![128, 8, 2048]⟩
abbrev S1x128x2x5632 : Shape := ⟨4, ![1, 128, 2, 5632]⟩
abbrev S1x2048x5632 : Shape := ⟨3, ![1, 2048, 5632]⟩
abbrev S1x3x5632 : Shape := ⟨3, ![1, 3, 5632]⟩
abbrev S1x5632 : Shape := ⟨2, ![1, 5632]⟩
abbrev S_ : Shape := ⟨0, ![]⟩

class Facts : Prop where
  bitsLt_bf16_f32 : FTy.bits .bf16 < FTy.bits .f32
  bcast_S_S128x8x2048 : S_.BroadcastsInDim S128x8x2048 (![] : Fin 0 → Fin S128x8x2048.rank)
  reducesTo_S128x8x2048_S_d0_1_2 : S128x8x2048.ReducesTo [0, 1, 2] S_
  h_S_ : 0 < S_.numel
  bcast_S_S1x128x2x5632 : S_.BroadcastsInDim S1x128x2x5632 (![] : Fin 0 → Fin S1x128x2x5632.rank)
  reducesTo_S1x128x2x5632_S_d0_1_2_3 : S1x128x2x5632.ReducesTo [0, 1, 2, 3] S_
  bcast_S_S1x2048x5632 : S_.BroadcastsInDim S1x2048x5632 (![] : Fin 0 → Fin S1x2048x5632.rank)
  reducesTo_S1x2048x5632_S_d0_1_2 : S1x2048x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg5 : FVec F S1x5632 .f32) (main_v14 : IVec S_ 1) (main_v15 : FVec F S1x3x5632 .f32) (main_v16 : FVec F S1x3x5632 .f32) : IVec S_ 1 :=
  let main_v17 : IVec S1x3x5632 1 := cmpf .olt main_v15 main_v16
  let main_c_5 : IVec S_ 1 := constantI S_ 1 1#1
  let main_v18 : IVec S_ 1 := (fun x v => Host.reduce IntOp.andi x v reducesTo_S1x3x5632_S_d0_1_2 h_S_) main_v17 main_c_5
  let main_v19 : IVec S_ 1 := andi main_v14 main_v18
  let main_v20 : FVec F S1x5632 .f32 := Host.absf main_arg5
  let main_cst_6 : FVec F S_ .f32 := constant S_ .f32 0x7F800000#32
  let main_v21 : FVec F S1x5632 .f32 := broadcastInDim S1x5632 ![] bcast_S_S1x5632 main_cst_6
  let main_v22 : IVec S1x5632 1 := cmpf .olt main_v20 main_v21
  let main_c_7 : IVec S_ 1 := constantI S_ 1 1#1
  let main_v23 : IVec S_ 1 := (fun x v => Host.reduce IntOp.andi x v reducesTo_S1x5632_S_d0_1 h_S_) main_v22 main_c_7
  let main_v24 : IVec S_ 1 := andi main_v19 main_v23
  main_v24

def fn {F : FTy → Type} [FloatOps F] (main_arg0 : FVec F S128x8x2048 .bf16) (main_arg1 : FVec F S1x128x2x5632 .f32) (main_arg2 : FVec F S1x2048x5632 .f32) (main_arg3 : FVec F S1x2048x5632 .f32) (main_arg4 : FVec F S1x3x5632 .f32) (main_arg5 : FVec F S1x5632 .f32) : IVec S_ 1 :=
  let main_v0 : FVec F S128x8x2048 .f32 := (extf .f32 · bitsLt_bf16_f32) main_arg0
  let main_v1 : FVec F S128x8x2048 .f32 := Host.absf main_v0
  let main_cst : FVec F S_ .f32 := constant S_ .f32 0x7F800000#32
  let main_v2 : FVec F S128x8x2048 .f32 := broadcastInDim S128x8x2048 ![] bcast_S_S128x8x2048 main_cst
  let main_v3 : IVec S128x8x2048 1 := cmpf .olt main_v1 main_v2
  let main_c : IVec S_ 1 := constantI S_ 1 1#1
  let main_v4 : IVec S_ 1 := (fun x v => Host.reduce IntOp.andi x v reducesTo_S128x8x2048_S_d0_1_2 h_S_) main_v3 main_c
  let main_v5 : FVec F S1x128x2x5632 .f32 := Host.absf main_arg1
  let main_cst_0 : FVec F S_ .f32 := constant S_ .f32 0x7F800000#32
  let main_v6 : FVec F S1x128x2x5632 .f32 := broadcastInDim S1x128x2x5632 ![] bcast_S_S1x128x2x5632 main_cst_0
  let main_v7 : IVec S1x128x2x5632 1 := cmpf .olt main_v5 main_v6
  let main_c_1 : IVec S_ 1 := constantI S_ 1 1#1
  let main_v8 : IVec S_ 1 := (fun x v => Host.reduce IntOp.andi x v reducesTo_S1x128x2x5632_S_d0_1_2_3 h_S_) main_v7 main_c_1
  let main_v9 : IVec S_ 1 := andi main_v4 main_v8
  let main_v10 : FVec F S1x2048x5632 .f32 := Host.absf main_arg2
  let main_cst_2 : FVec F S_ .f32 := constant S_ .f32 0x7F800000#32
  let main_v11 : FVec F S1x2048x5632 .f32 := broadcastInDim S1x2048x5632 ![] bcast_S_S1x2048x5632 main_cst_2
  let main_v12 : IVec S1x2048x5632 1 := cmpf .olt main_v10 main_v11
  let main_c_3 : IVec S_ 1 := constantI S_ 1 1#1
  let main_v13 : IVec S_ 1 := (fun x v => Host.reduce IntOp.andi x v reducesTo_S1x2048x5632_S_d0_1_2 h_S_) main_v12 main_c_3
  let main_v14 : IVec S_ 1 := andi main_v9 main_v13
  let main_v15 : FVec F S1x3x5632 .f32 := Host.absf main_arg4
  let main_cst_4 : FVec F S_ .f32 := constant S_ .f32 0x7F800000#32
  let main_v16 : FVec F S1x3x5632 .f32 := broadcastInDim S1x3x5632 ![] bcast_S_S1x3x5632 main_cst_4
  fn_part1 (F := F) main_arg5 main_v14 main_v15 main_v16
-- ==== Kernel.lean ====
abbrev S4x2048x2048 : Shape := ⟨3, ![4, 2048, 2048]⟩
abbrev S1x2048 : Shape := ⟨2, ![1, 2048]⟩
abbrev S1x2048x20544 : Shape := ⟨3, ![1, 2048, 20544]⟩
abbrev S8192x2048 : Shape := ⟨2, ![8192, 2048]⟩
abbrev S2048 : Shape := ⟨1, ![2048]⟩
abbrev S2048x20544 : Shape := ⟨2, ![2048, 20544]⟩
abbrev S20544x2048 : Shape := ⟨2, ![20544, 2048]⟩
abbrev S8192x20480 : Shape := ⟨2, ![8192, 20480]⟩
abbrev S8192x128 : Shape := ⟨2, ![8192, 128]⟩
abbrev S1024x2048 : Shape := ⟨2, ![1024, 2048]⟩
abbrev S128x2048 : Shape := ⟨2, ![128, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S256x2048 : Shape := ⟨2, ![256, 2048]⟩
abbrev S1024x256 : Shape := ⟨2, ![1024, 256]⟩
abbrev S4x2048x20480 : Shape := ⟨3, ![4, 2048, 20480]⟩
abbrev S4x3x6144 : Shape := ⟨3, ![4, 3, 6144]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x20544, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x20544, .f32⟩
  | .hbm, ⟨7, _⟩ => ⟨S20544x2048, .f32⟩
  | .hbm, ⟨8, _⟩ => ⟨S8192x20480, .bf16⟩
  | .hbm, ⟨9, _⟩ => ⟨S8192x128, .f32⟩
  | .hbm, ⟨10, _⟩ => ⟨S4x2048x20480, .bf16⟩
  | .hbm, ⟨11, _⟩ => ⟨S4x3x6144, .bf16⟩
  | .hbm, ⟨12, _⟩ => ⟨S4x3x6144, .f32⟩
  | .local _ .vmem, ⟨0, _⟩ => ⟨S1024x2048, .f32⟩
  | .local _ .vmem, ⟨1, _⟩ => ⟨S1x2048, .f32⟩
  | .local _ .vmem, ⟨2, _⟩ => ⟨S128x2048, .f32⟩
  | .local _ .vmem, ⟨3, _⟩ => ⟨S1024x2048, .f32⟩
  | .local _ .vmem, ⟨4, _⟩ => ⟨S1024x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 20], ![false, false]⟩

def k0_mult1 (i : grid0.Coords) : BitVec 32 :=
  let arg1 : BitVec 32 := BitVec.ofNat 32 (i 1).val
  let c10_i32 : BitVec 32 := 10#32
  let v0 : BitVec 1 := Scalar.cmpi .slt arg1 c10_i32
  let c1024_i32 : BitVec 32 := 1024#32
  let v1 : BitVec 32 := Scalar.muli arg1 c1024_i32
  let c10304_i32 : BitVec 32 := 10304#32
  let c10_i32_0 : BitVec 32 := 10#32
  let v2 : BitVec 32 := Scalar.subi arg1 c10_i32_0
  let c1024_i32_1 : BitVec 32 := 1024#32
  let v3 : BitVec 32 := Scalar.muli v2 c1024_i32_1
  let v4 : BitVec 32 := Scalar.addi c10304_i32 v3
  let v5 : BitVec 32 := Scalar.select v0 v1 v4
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let c0_i32 : BitVec 32 := 0#32
  let c0_i32_0 : BitVec 32 := 0#32
  ![c80_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg1 c10_i32
  let c1024_i32 : BitVec 32 := 1024#32
  let v1 : BitVec 32 := Scalar.muli arg1 c1024_i32
  let c10_i32_0 : BitVec 32 := 10#32
  let v2 : BitVec 32 := Scalar.subi arg1 c10_i32_0
  let c1024_i32_1 : BitVec 32 := 1024#32
  let v3 : BitVec 32 := Scalar.muli v2 c1024_i32_1
  let c10304_i32 : BitVec 32 := 10304#32
  let v4 : BitVec 32 := Scalar.addi c10304_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x2048x2048 : Shape := ⟨3, ![4, 2048, 2048]⟩
abbrev S1x2048 : Shape := ⟨2, ![1, 2048]⟩
abbrev S1x2048x20544 : Shape := ⟨3, ![1, 2048, 20544]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x20544 : Shape := ⟨2, ![2048, 20544]⟩
abbrev S4x2048x20544 : Shape := ⟨3, ![4, 2048, 20544]⟩
abbrev S4x2048x4096 : Shape := ⟨3, ![4, 2048, 4096]⟩
abbrev S4x2048x6144 : Shape := ⟨3, ![4, 2048, 6144]⟩
abbrev S4x2048x64 : Shape := ⟨3, ![4, 2048, 64]⟩
abbrev S4x2048x20480 : Shape := ⟨3, ![4, 2048, 20480]⟩
abbrev S4x2048x128 : Shape := ⟨3, ![4, 2048, 128]⟩
abbrev S4x3x6144 : Shape := ⟨3, ![4, 3, 6144]⟩
abbrev S4x2051x6144 : Shape := ⟨3, ![4, 2051, 6144]⟩
abbrev S8192x20480 : Shape := ⟨2, ![8192, 20480]⟩
abbrev S8192x128 : Shape := ⟨2, ![8192, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x20544, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x20544, .f32⟩
  | .hbm, ⟨21, _⟩ => ⟨S4x2048x20544, .f32⟩
  | .hbm, ⟨22, _⟩ => ⟨S4x2048x4096, .f32⟩
  | .hbm, ⟨23, _⟩ => ⟨S4x2048x6144, .f32⟩
  | .hbm, ⟨24, _⟩ => ⟨S4x2048x64, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x20480, .f32⟩
  | .hbm, ⟨31, _⟩ => ⟨S4x2048x64, .f32⟩
  | .hbm, ⟨32, _⟩ => ⟨S4x2048x128, .f32⟩
  | .hbm, ⟨33, _⟩ => ⟨S_, .f32⟩
  | .hbm, ⟨34, _⟩ => ⟨S4x3x6144, .f32⟩
  | .hbm, ⟨35, _⟩ => ⟨S4x2051x6144, .f32⟩
  | .hbm, ⟨36, _⟩ => ⟨S8192x20480, .f32⟩
  | .hbm, ⟨37, _⟩ => ⟨S8192x20480, .bf16⟩
  | .hbm, ⟨38, _⟩ => ⟨S8192x128, .f32⟩
  | .hbm, ⟨39, _⟩ => ⟨S4x3x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelDown.lean ====
abbrev S4x2048x5632 : Shape := ⟨3, ![4, 2048, 5632]⟩
abbrev S1x5632x2048 : Shape := ⟨3, ![1, 5632, 2048]⟩
abbrev S4x2048x2048 : Shape := ⟨3, ![4, 2048, 2048]⟩
abbrev S8192x5632 : Shape := ⟨2, ![8192, 5632]⟩
abbrev S5632x2048 : Shape := ⟨2, ![5632, 2048]⟩
abbrev S8192x2048 : Shape := ⟨2, ![8192, 2048]⟩
abbrev S256x5632 : Shape := ⟨2, ![256, 5632]⟩
abbrev S256x2048 : Shape := ⟨2, ![256, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x5632, .bf16⟩
  | .hbm, ⟨1, _⟩ => ⟨S1x5632x2048, .f32⟩
  | .hbm, ⟨2, _⟩ => ⟨S4x2048x2048, .f32⟩
  | .hbm, ⟨3, _⟩ => ⟨S8192x5632, .bf16⟩
  | .hbm, ⟨4, _⟩ => ⟨S5632x2048, .f32⟩
  | .hbm, ⟨5, _⟩ => ⟨S5632x2048, .bf16⟩
  | .hbm, ⟨6, _⟩ => ⟨S8192x2048, .f32⟩
  | .hbm, ⟨7, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDownIdeal.lean ====
abbrev S4x2048x5632 : Shape := ⟨3, ![4, 2048, 5632]⟩
abbrev S1x5632x2048 : Shape := ⟨3, ![1, 5632, 2048]⟩
abbrev S4x2048x2048 : Shape := ⟨3, ![4, 2048, 2048]⟩
abbrev S5632x2048 : Shape := ⟨2, ![5632, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S1x5632x2048, .f32⟩
  | .hbm, ⟨2, _⟩ => ⟨S4x2048x2048, .f32⟩
  | .hbm, ⟨3, _⟩ => ⟨S4x2048x5632, .f32⟩
  | .hbm, ⟨4, _⟩ => ⟨S5632x2048, .f32⟩
  | .hbm, ⟨5, _⟩ => ⟨S4x2048x2048, .f32⟩
  | .hbm, ⟨6, _⟩ => ⟨S4x2048x2048, .f32⟩
  | .hbm, ⟨7, _⟩ => ⟨S8192x2048, .f32⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPle.lean ====
abbrev S4x2048x2048 : Shape := ⟨3, ![4, 2048, 2048]⟩
abbrev S1x4x2048x256 : Shape := ⟨4, ![1, 4, 2048, 256]⟩
abbrev S1x256x2048 : Shape := ⟨3, ![1, 256, 2048]⟩
abbrev S1x2048x2048 : Shape := ⟨3, ![1, 2048, 2048]⟩
abbrev S1x2048 : Shape := ⟨2, ![1, 2048]⟩
abbrev S2048 : Shape := ⟨1, ![2048]⟩
abbrev S4x2048x256 : Shape := ⟨3, ![4, 2048, 256]⟩
abbrev S8192x2048 : Shape := ⟨2, ![8192, 2048]⟩
abbrev S8192x256 : Shape := ⟨2, ![8192, 256]⟩
abbrev S256x2048 : Shape := ⟨2, ![256, 2048]⟩
abbrev S2048x2048 : Shape := ⟨2, ![2048, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x4x2048x256, .f32⟩
  | .hbm, ⟨2, _⟩ => ⟨S1x256x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S4x2048x256, .f32⟩
  | .hbm, ⟨7, _⟩ => ⟨S8192x2048, .f32⟩
  | .hbm, ⟨8, _⟩ => ⟨S8192x256, .f32⟩
  | .hbm, ⟨9, _⟩ => ⟨S256x2048, .f32⟩
  | .hbm, ⟨10, _⟩ => ⟨S256x2048, .bf16⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelPleIdeal.lean ====
abbrev S4x2048x2048 : Shape := ⟨3, ![4, 2048, 2048]⟩
abbrev S1x4x2048x256 : Shape := ⟨4, ![1, 4, 2048, 256]⟩
abbrev S1x256x2048 : Shape := ⟨3, ![1, 256, 2048]⟩
abbrev S1x2048x2048 : Shape := ⟨3, ![1, 2048, 2048]⟩
abbrev S1x2048 : Shape := ⟨2, ![1, 2048]⟩
abbrev S2048 : Shape := ⟨1, ![2048]⟩
abbrev S4x2048x256 : Shape := ⟨3, ![4, 2048, 256]⟩
abbrev S8192x2048 : Shape := ⟨2, ![8192, 2048]⟩
abbrev S8192x256 : Shape := ⟨2, ![8192, 256]⟩
abbrev S256x2048 : Shape := ⟨2, ![256, 2048]⟩
abbrev S2048x2048 : Shape := ⟨2, ![2048, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x4x2048x256, .f32⟩
  | .hbm, ⟨2, _⟩ => ⟨S1x256x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S4x2048x256, .f32⟩
  | .hbm, ⟨7, _⟩ => ⟨S8192x2048, .f32⟩
  | .hbm, ⟨8, _⟩ => ⟨S8192x256, .f32⟩
  | .hbm, ⟨9, _⟩ => ⟨S256x2048, .f32⟩
  | .hbm, ⟨10, _⟩ => ⟨S256x2048, .bf16⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePleIdeal.lean ====
abbrev S4x2048x2048 : Shape := ⟨3, ![4, 2048, 2048]⟩
abbrev S1x4x2048x256 : Shape := ⟨4, ![1, 4, 2048, 256]⟩
abbrev S1x256x2048 : Shape := ⟨3, ![1, 256, 2048]⟩
abbrev S1x2048x2048 : Shape := ⟨3, ![1, 2048, 2048]⟩
abbrev S1x2048 : Shape := ⟨2, ![1, 2048]⟩
abbrev S2048 : Shape := ⟨1, ![2048]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S256x2048 : Shape := ⟨2, ![256, 2048]⟩
abbrev S2048x2048 : Shape := ⟨2, ![2048, 2048]⟩
abbrev S8192x2048 : Shape := ⟨2, ![8192, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x4x2048x256, .f32⟩
  | .hbm, ⟨2, _⟩ => ⟨S1x256x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S4x2048x256, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S256x2048, .f32⟩
  | .hbm, ⟨25, _⟩ => ⟨S4x2048x2048, .f32⟩
  | .hbm, ⟨26, _⟩ => ⟨S2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelOut.lean ====
abbrev S4x2048x2048 : Shape := ⟨3, ![4, 2048, 2048]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S1x2048x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S4x2048x2048 : Shape := ⟨3, ![4, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S1x2048x2048, .f32⟩
  | .hbm, ⟨3, _⟩ => ⟨S1x2048, .f32⟩
  | .hbm, ⟨4, _⟩ => ⟨S4x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelUp.lean ====
abbrev S4x2048x2048 : Shape := ⟨3, ![4, 2048, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S8192x2048 : Shape := ⟨2, ![8192, 2048]⟩
abbrev S2048x5632 : Shape := ⟨2, ![2048, 5632]⟩
abbrev S3x5632 : Shape := ⟨2, ![3, 5632]⟩
abbrev S5632 : Shape := ⟨1, ![5632]⟩
abbrev S8192x5632 : Shape := ⟨2, ![8192, 5632]⟩
abbrev S64x5632 : Shape := ⟨2, ![64, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S8x512 : Shape := ⟨2, ![8, 512]⟩
abbrev S11x8x512 : Shape := ⟨3, ![11, 8, 512]⟩
abbrev S2048x256 : Shape := ⟨2, ![2048, 256]⟩
abbrev S1024x256 : Shape := ⟨2, ![1024, 256]⟩
abbrev S1x8x256 : Shape := ⟨3, ![1, 8, 256]⟩
abbrev S8x256 : Shape := ⟨2, ![8, 256]⟩
abbrev S1x256 : Shape := ⟨2, ![1, 256]⟩
abbrev S3x256 : Shape := ⟨2, ![3, 256]⟩
abbrev S1016x256 : Shape := ⟨2, ![1016, 256]⟩
abbrev S4x2x8x5632 : Shape := ⟨4, ![4, 2, 8, 5632]⟩
abbrev S4x1x8x5632 : Shape := ⟨4, ![4, 1, 8, 5632]⟩
abbrev S4x8x5632 : Shape := ⟨3, ![4, 8, 5632]⟩
abbrev S4x2x5632 : Shape := ⟨3, ![4, 2, 5632]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S8192x2048, .bf16⟩
  | .hbm, ⟨6, _⟩ => ⟨S2048x5632, .f32⟩
  | .hbm, ⟨7, _⟩ => ⟨S2048x5632, .f32⟩
  | .hbm, ⟨8, _⟩ => ⟨S3x5632, .f32⟩
  | .hbm, ⟨9, _⟩ => ⟨S5632, .f32⟩
  | .hbm, ⟨10, _⟩ => ⟨S1x5632, .f32⟩
  | .hbm, ⟨11, _⟩ => ⟨S8192x5632, .bf16⟩
  | .hbm, ⟨12, _⟩ => ⟨S64x5632, .f32⟩
  | .hbm, ⟨13, _⟩ => ⟨S4x2x8x5632, .f32⟩
  | .hbm, ⟨14, _⟩ => ⟨S4x1x8x5632, .f32⟩
  | .hbm, ⟨15, _⟩ => ⟨S4x8x5632, .f32⟩
  | .hbm, ⟨16, _⟩ => ⟨S4x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S8x512, .f32⟩
  | .local _ .vmem, ⟨13, _⟩ => ⟨S8x512, .f32⟩
  | .local _ .vmem, ⟨14, _⟩ => ⟨S11x8x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def k0_off1 (i : grid0.Coords) : Fin 3 → Nat :=
  let arg1 : BitVec 32 := BitVec.ofNat 32 (i 1).val
  let v21 : Index := Scalar.indexCast arg1
  let c0_10 : Index := 0#32
  let c0_11 : Index := 0#32
  ![v21.toNat, 0, 0]
def k0_off2 (i : grid0.Coords) : Fin 3 → Nat :=
  let arg1 : BitVec 32 := BitVec.ofNat 32 (i 1).val
  let v84 : Index := Scalar.indexCast arg1
  let c0_35 : Index := 0#32
  let c256_36 : Index := 256#32
  ![v84.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceUpIdeal.lean ====
abbrev S4x2048x2048 : Shape := ⟨3, ![4, 2048, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S_ : Shape := ⟨0, ![]⟩
abbrev S4x2x5632 : Shape := ⟨3, ![4, 2, 5632]⟩
abbrev S2048x5632 : Shape := ⟨2, ![2048, 5632]⟩
abbrev S4x2048x5632 : Shape := ⟨3, ![4, 2048, 5632]⟩
abbrev S3x5632 : Shape := ⟨2, ![3, 5632]⟩
abbrev S5632 : Shape := ⟨1, ![5632]⟩
abbrev S4x2050x5632 : Shape := ⟨3, ![4, 2050, 5632]⟩
abbrev S1x1x5632 : Shape := ⟨3, ![1, 1, 5632]⟩
abbrev S8192x5632 : Shape := ⟨2, ![8192, 5632]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S4x2048x2048, .f32⟩
  | .hbm, ⟨6, _⟩ => ⟨S_, .f32⟩
  | .hbm, ⟨7, _⟩ => ⟨S4x2x5632, .f32⟩
  | .hbm, ⟨8, _⟩ => ⟨S2048x5632, .f32⟩
  | .hbm, ⟨9, _⟩ => ⟨S4x2048x5632, .f32⟩
  | .hbm, ⟨10, _⟩ => ⟨S3x5632, .f32⟩
  | .hbm, ⟨11, _⟩ => ⟨S5632, .f32⟩
  | .hbm, ⟨12, _⟩ => ⟨S4x2050x5632, .f32⟩
  | .hbm, ⟨13, _⟩ => ⟨S4x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S1x1x5632, .f32⟩
  | .hbm, ⟨34, _⟩ => ⟨S4x2048x5632, .f32⟩
  | .hbm, ⟨35, _⟩ => ⟨S4x2048x5632, .f32⟩
  | .hbm, ⟨36, _⟩ => ⟨S4x2x5632, .f32⟩
  | .hbm, ⟨37, _⟩ => ⟨S4x2048x5632, .f32⟩
  | .hbm, ⟨38, _⟩ => ⟨S4x2048x5632, .f32⟩
  | .hbm, ⟨39, _⟩ => ⟨S_, .f32⟩
  | .hbm, ⟨40, _⟩ => ⟨S4x2048x5632, .f32⟩
  | .hbm, ⟨41, _⟩ => ⟨S4x2048x5632, .f32⟩
  | .hbm, ⟨42, _⟩ => ⟨S_, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S2048x5632, .f32⟩
  | .hbm, ⟨47, _⟩ => ⟨S4x2048x5632, .f32⟩
  | .hbm, ⟨48, _⟩ => ⟨S4x2048x5632, .f32⟩
  | .hbm, ⟨49, _⟩ => ⟨S8192x5632, .f32⟩
  | .hbm, ⟨50, _⟩ => ⟨S8192x5632, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== KernelMix.lean ====
abbrev S4x2048x4096 : Shape := ⟨3, ![4, 2048, 4096]⟩
abbrev S4x2048x20480 : Shape := ⟨3, ![4, 2048, 20480]⟩
abbrev S1x3x2048 : Shape := ⟨3, ![1, 3, 2048]⟩
abbrev S1x4096x2048 : Shape := ⟨3, ![1, 4096, 2048]⟩
abbrev S1x2048x2048 : Shape := ⟨3, ![1, 2048, 2048]⟩
abbrev S8192x4096 : Shape := ⟨2, ![8192, 4096]⟩
abbrev S8192x20480 : Shape := ⟨2, ![8192, 20480]⟩
abbrev S3x2048 : Shape := ⟨2, ![3, 2048]⟩
abbrev S4096x2048 : Shape := ⟨2, ![4096, 2048]⟩
abbrev S2048x2048 : Shape := ⟨2, ![2048, 2048]⟩
abbrev S8192x2048 : Shape := ⟨2, ![8192, 2048]⟩
abbrev S256x2048 : Shape := ⟨2, ![256, 2048]⟩
abbrev S256x4096 : Shape := ⟨2, ![256, 4096]⟩
abbrev S8x2048 : Shape := ⟨2, ![8, 2048]⟩
abbrev S1x2048 : Shape := ⟨2, ![1, 2048]⟩
abbrev S248x2048 : Shape := ⟨2, ![248, 2048]⟩
abbrev S4x8x8x2048 : Shape := ⟨4, ![4, 8, 8, 2048]⟩
abbrev S4x1x8x2048 : Shape := ⟨4, ![4, 1, 8, 2048]⟩
abbrev S4x8x2048 : Shape := ⟨3, ![4, 8, 2048]⟩
abbrev S4x2x2048 : Shape := ⟨3, ![4, 2, 2048]⟩

abbrev nBuf : Space → Nat
  | .hbm => 18
  | .vmem => 20
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x20480, .bf16⟩
  | .hbm, ⟨2, _⟩ => ⟨S1x3x2048, .f32⟩
  | .hbm, ⟨3, _⟩ => ⟨S1x4096x2048, .f32⟩
  | .hbm, ⟨4, _⟩ => ⟨S1x2048x2048, .f32⟩
  | .hbm, ⟨5, _⟩ => ⟨S8192x4096, .bf16⟩
  | .hbm, ⟨6, _⟩ => ⟨S8192x20480, .bf16⟩
  | .hbm, ⟨7, _⟩ => ⟨S3x2048, .f32⟩
  | .hbm, ⟨8, _⟩ => ⟨S4096x2048, .f32⟩
  | .hbm, ⟨9, _⟩ => ⟨S4096x2048, .bf16⟩
  | .hbm, ⟨10, _⟩ => ⟨S2048x2048, .f32⟩
  | .hbm, ⟨11, _⟩ => ⟨S2048x2048, .bf16⟩
  | .hbm, ⟨12, _⟩ => ⟨S8192x2048, .bf16⟩
  | .hbm, ⟨13, _⟩ => ⟨S256x2048, .f32⟩
  | .hbm, ⟨14, _⟩ => ⟨S4x8x8x2048, .f32⟩
  | .hbm, ⟨15, _⟩ => ⟨S4x1x8x2048, .f32⟩
  | .hbm, ⟨16, _⟩ => ⟨S4x8x2048, .f32⟩
  | .hbm, ⟨17, _⟩ => ⟨S4x2x2048, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S3x2048, .f32⟩
  | .local _ .vmem, ⟨13, _⟩ => ⟨S4096x2048, .bf16⟩
  | .local _ .vmem, ⟨14, _⟩ => ⟨S2048x2048, .bf16⟩
  | .local _ .vmem, ⟨15, _⟩ => ⟨S256x2048, .bf16⟩
  | .local _ .vmem, ⟨16, _⟩ => ⟨S256x2048, .bf16⟩
  | .local _ .vmem, ⟨17, _⟩ => ⟨S8x2048, .f32⟩
  | .local _ .vmem, ⟨18, _⟩ => ⟨S8x2048, .f32⟩
  | .local _ .vmem, ⟨19, _⟩ => ⟨S8x2048, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMixIdeal.lean ====
abbrev S4x2048x4096 : Shape := ⟨3, ![4, 2048, 4096]⟩
abbrev S4x2048x20480 : Shape := ⟨3, ![4, 2048, 20480]⟩
abbrev S1x3x2048 : Shape := ⟨3, ![1, 3, 2048]⟩
abbrev S1x4096x2048 : Shape := ⟨3, ![1, 4096, 2048]⟩
abbrev S1x2048x2048 : Shape := ⟨3, ![1, 2048, 2048]⟩
abbrev S4x2048x6144 : Shape := ⟨3, ![4, 2048, 6144]⟩
abbrev S4x2048x2048 : Shape := ⟨3, ![4, 2048, 2048]⟩
abbrev S_ : Shape := ⟨0, ![]⟩
abbrev S4x2x2048 : Shape := ⟨3, ![4, 2, 2048]⟩
abbrev S4096x2048 : Shape := ⟨2, ![4096, 2048]⟩
abbrev S3x2048 : Shape := ⟨2, ![3, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S2048x2048 : Shape := ⟨2, ![2048, 2048]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x20480, .bf16⟩
  | .hbm, ⟨2, _⟩ => ⟨S1x3x2048, .f32⟩
  | .hbm, ⟨3, _⟩ => ⟨S1x4096x2048, .f32⟩
  | .hbm, ⟨4, _⟩ => ⟨S1x2048x2048, .f32⟩
  | .hbm, ⟨5, _⟩ => ⟨S4x2048x4096, .f32⟩
  | .hbm, ⟨6, _⟩ => ⟨S4x2048x20480, .f32⟩
  | .hbm, ⟨7, _⟩ => ⟨S4x2048x4096, .f32⟩
  | .hbm, ⟨8, _⟩ => ⟨S4x2048x6144, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2x2048, .f32⟩
  | .hbm, ⟨16, _⟩ => ⟨S4096x2048, .f32⟩
  | .hbm, ⟨17, _⟩ => ⟨S4x2048x2048, .f32⟩
  | .hbm, ⟨18, _⟩ => ⟨S4x2048x2048, .f32⟩
  | .hbm, ⟨19, _⟩ => ⟨S3x2048, .f32⟩
  | .hbm, ⟨20, _⟩ => ⟨S4x2050x2048, .f32⟩
  | .hbm, ⟨21, _⟩ => ⟨S4x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2x2048, .f32⟩
  | .hbm, ⟨42, _⟩ => ⟨S4x2048x2048, .f32⟩
  | .hbm, ⟨43, _⟩ => ⟨S2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .f32⟩
  | .hbm, ⟨59, _⟩ => ⟨S_, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S8192x2048, .f32⟩
  | .hbm, ⟨65, _⟩ => ⟨S8192x2048, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_0 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== KernelPleSample.lean ====
abbrev S128x8x2048 : Shape := ⟨3, ![128, 8, 2048]⟩
abbrev S1x128x8x256 : Shape := ⟨4, ![1, 128, 8, 256]⟩
abbrev S1x256x2048 : Shape := ⟨3, ![1, 256, 2048]⟩
abbrev S1x2048x2048 : Shape := ⟨3, ![1, 2048, 2048]⟩
abbrev S1x2048 : Shape := ⟨2, ![1, 2048]⟩
abbrev S2048 : Shape := ⟨1, ![2048]⟩
abbrev S128x8x256 : Shape := ⟨3, ![128, 8, 256]⟩
abbrev S1024x2048 : Shape := ⟨2, ![1024, 2048]⟩
abbrev S1024x256 : Shape := ⟨2, ![1024, 256]⟩
abbrev S256x2048 : Shape := ⟨2, ![256, 2048]⟩
abbrev S2048x2048 : Shape := ⟨2, ![2048, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 10
  | .smem => 0
  | _ => 0

abbrev bufTy : (tb : Table) → Fin (tcTables nBuf tb) → BufTy
  | .hbm, ⟨0, _⟩ => ⟨S128x8x2048, .f32⟩
  | .hbm, ⟨1, _⟩ => ⟨S1x128x8x256, .f32⟩
  | .hbm, ⟨2, _⟩ => ⟨S1x256x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S128x8x256, .f32⟩
  | .hbm, ⟨7, _⟩ => ⟨S1024x2048, .f32⟩
  | .hbm, ⟨8, _⟩ => ⟨S1024x256, .f32⟩
  | .hbm, ⟨9, _⟩ => ⟨S256x2048, .f32⟩
  | .hbm, ⟨10, _⟩ => ⟨S256x2048, .bf16⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePleSampleIdeal.lean ====
abbrev S128x8x2048 : Shape := ⟨3, ![128, 8, 2048]⟩
abbrev S1x128x8x256 : Shape := ⟨4, ![1, 128, 8, 256]⟩
abbrev S1x256x2048 : Shape := ⟨3, ![1, 256, 2048]⟩
abbrev S1x2048x2048 : Shape := ⟨3, ![1, 2048, 2048]⟩
abbrev S1x2048 : Shape := ⟨2, ![1, 2048]⟩
abbrev S2048 : Shape := ⟨1, ![2048]⟩
abbrev S128x8x256 : Shape := ⟨3, ![128, 8, 256]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S256x2048 : Shape := ⟨2, ![256, 2048]⟩
abbrev S2048x2048 : Shape := ⟨2, ![2048, 2048]⟩
abbrev S1024x2048 : Shape := ⟨2, ![1024, 2048]⟩

abbrev nBuf : Space → Nat
  | .hbm => 55
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x128x8x256, .f32⟩
  | .hbm, ⟨2, _⟩ => ⟨S1x256x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S128x8x256, .f32⟩
  | .hbm, ⟨7, _⟩ => ⟨S2048, .f32⟩
  | .hbm, ⟨8, _⟩ => ⟨S128x8x2048, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x2048, .f32⟩
  | .hbm, ⟨20, _⟩ => ⟨S128x8x2048, .f32⟩
  | .hbm, ⟨21, _⟩ => ⟨S1x1x2048, .f32⟩
  | .hbm, ⟨22, _⟩ => ⟨S128x8x2048, .f32⟩
  | .hbm, ⟨23, _⟩ => ⟨S128x8x2048, .f32⟩
  | .hbm, ⟨24, _⟩ => ⟨S256x2048, .f32⟩
  | .hbm, ⟨25, _⟩ => ⟨S128x8x2048, .f32⟩
  | .hbm, ⟨26, _⟩ => ⟨S2048x2048, .f32⟩
  | .hbm, ⟨27, _⟩ => ⟨S128x8x2048, .f32⟩
  | .hbm, ⟨28, _⟩ => ⟨S128x8x2048, .f32⟩
  | .hbm, ⟨29, _⟩ => ⟨S128x8x2048, .f32⟩
  | .hbm, ⟨30, _⟩ => ⟨S_, .f32⟩
  | .hbm, ⟨31, _⟩ => ⟨S128x8x2048, .f32⟩
  | .hbm, ⟨32, _⟩ => ⟨S128x8x2048, .f32⟩
  | .hbm, ⟨33, _⟩ => ⟨S_, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S128x8x2048, .f32⟩
  | .hbm, ⟨38, _⟩ => ⟨S128x8x2048, .f32⟩
  | .hbm, ⟨39, _⟩ => ⟨S_, .f32⟩
  | .hbm, ⟨40, _⟩ => ⟨S128x8, .f32⟩
  | .hbm, ⟨41, _⟩ => ⟨S128x8x1, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S_, .f32⟩
  | .hbm, ⟨46, _⟩ => ⟨S128x8x1, .f32⟩
  | .hbm, ⟨47, _⟩ => ⟨S128x8x1, .f32⟩
  | .hbm, ⟨48, _⟩ => ⟨S128x8x1, .f32⟩
  | .hbm, ⟨49, _⟩ => ⟨S128x8x2048, .f32⟩
  | .hbm, ⟨50, _⟩ => ⟨S128x8x2048, .f32⟩
  | .hbm, ⟨51, _⟩ => ⟨S1x1x2048, .f32⟩
  | .hbm, ⟨52, _⟩ => ⟨S128x8x2048, .f32⟩
  | .hbm, ⟨53, _⟩ => ⟨S128x8x2048, .f32⟩
  | .hbm, ⟨54, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelMixSample.lean ====
abbrev S128x8x4096 : Shape := ⟨3, ![128, 8, 4096]⟩
abbrev S128x8x20480 : Shape := ⟨3, ![128, 8, 20480]⟩
abbrev S1x128x2x2048 : Shape := ⟨4, ![1, 128, 2, 2048]⟩
abbrev S1x3x2048 : Shape := ⟨3, ![1, 3, 2048]⟩
abbrev S1x4096x2048 : Shape := ⟨3, ![1, 4096, 2048]⟩
abbrev S1x2048x2048 : Shape := ⟨3, ![1, 2048, 2048]⟩
abbrev S1024x4096 : Shape := ⟨2, ![1024, 4096]⟩
abbrev S1024x20480 : Shape := ⟨2, ![1024, 20480]⟩
abbrev S3x2048 : Shape := ⟨2, ![3, 2048]⟩
abbrev S4096x2048 : Shape := ⟨2, ![4096, 2048]⟩
abbrev S2048x2048 : Shape := ⟨2, ![2048, 2048]⟩
abbrev S128x2x2048 : Shape := ⟨3, ![128, 2, 2048]⟩
abbrev S1024x2048 : Shape := ⟨2, ![1024, 2048]⟩
abbrev S256x4096 : Shape := ⟨2, ![256, 4096]⟩
abbrev S256x2048 : Shape := ⟨2, ![256, 2048]⟩
abbrev S32x2x2048 : Shape := ⟨3, ![32, 2, 2048]⟩
abbrev S32x8x2048 : Shape := ⟨3, ![32, 8, 2048]⟩
abbrev S32x1x2048 : Shape := ⟨3, ![32, 1, 2048]⟩
abbrev S1x2048 : Shape := ⟨2, ![1, 2048]⟩

abbrev nBuf : Space → Nat
  | .hbm => 16
  | .vmem => 21
  | .smem => 0
  | _ => 0

abbrev bufTy : (tb : Table) → Fin (tcTables nBuf tb) → BufTy
  | .hbm, ⟨0, _⟩ => ⟨S128x8x4096, .bf16⟩
  | .hbm, ⟨1, _⟩ => ⟨S128x8x20480, .bf16⟩
  | .hbm, ⟨2, _⟩ => ⟨S1x128x2x2048, .f32⟩
  | .hbm, ⟨3, _⟩ => ⟨S1x3x2048, .f32⟩
  | .hbm, ⟨4, _⟩ => ⟨S1x4096x2048, .f32⟩
  | .hbm, ⟨5, _⟩ => ⟨S1x2048x2048, .f32⟩
  | .hbm, ⟨6, _⟩ => ⟨S1024x4096, .bf16⟩
  | .hbm, ⟨7, _⟩ => ⟨S1024x20480, .bf16⟩
  | .hbm, ⟨8, _⟩ => ⟨S3x2048, .f32⟩
  | .hbm, ⟨9, _⟩ => ⟨S4096x2048, .f32⟩
  | .hbm, ⟨10, _⟩ => ⟨S4096x2048, .bf16⟩
  | .hbm, ⟨11, _⟩ => ⟨S2048x2048, .f32⟩
  | .hbm, ⟨12, _⟩ => ⟨S2048x2048, .bf16⟩
  | .hbm, ⟨13, _⟩ => ⟨S128x2x2048, .f32⟩
  | .hbm, ⟨14, _⟩ => ⟨S1024x2048, .bf16⟩
  | .hbm, ⟨15, _⟩ => ⟨S128x2x2048, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S3x2048, .f32⟩
  | .local _ .vmem, ⟨13, _⟩ => ⟨S4096x2048, .bf16⟩
  | .local _ .vmem, ⟨14, _⟩ => ⟨S2048x2048, .bf16⟩
  | .local _ .vmem, ⟨15, _⟩ => ⟨S32x2x2048, .f32⟩
  | .local _ .vmem, ⟨16, _⟩ => ⟨S32x2x2048, .f32⟩
  | .local _ .vmem, ⟨17, _⟩ => ⟨S256x2048, .bf16⟩
  | .local _ .vmem, ⟨18, _⟩ => ⟨S256x2048, .bf16⟩
  | .local _ .vmem, ⟨19, _⟩ => ⟨S32x2x2048, .f32⟩
  | .local _ .vmem, ⟨20, _⟩ => ⟨S32x2x2048, .f32⟩
  | _, _ => ⟨S128x8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x2x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMixSampleIdeal.lean ====
abbrev S128x8x4096 : Shape := ⟨3, ![128, 8, 4096]⟩
abbrev S128x8x20480 : Shape := ⟨3, ![128, 8, 20480]⟩
abbrev S1x128x2x2048 : Shape := ⟨4, ![1, 128, 2, 2048]⟩
abbrev S1x3x2048 : Shape := ⟨3, ![1, 3, 2048]⟩
abbrev S1x4096x2048 : Shape := ⟨3, ![1, 4096, 2048]⟩
abbrev S1x2048x2048 : Shape := ⟨3, ![1, 2048, 2048]⟩
abbrev S128x8x6144 : Shape := ⟨3, ![128, 8, 6144]⟩
abbrev S128x8x2048 : Shape := ⟨3, ![128, 8, 2048]⟩
abbrev S4096x2048 : Shape := ⟨2, ![4096, 2048]⟩
abbrev S128x2x2048 : Shape := ⟨3, ![128, 2, 2048]⟩
abbrev S3x2048 : Shape := ⟨2, ![3, 2048]⟩
abbrev S128x10x2048 : Shape := ⟨3, ![128, 10, 2048]⟩
abbrev S1x2048 : Shape := ⟨2, ![1, 2048]⟩
abbrev S2048 : Shape := ⟨1, ![2048]⟩
abbrev S1x1x2048 : Shape := ⟨3, ![1, 1, 2048]⟩
abbrev S2048x2048 : Shape := ⟨2, ![2048, 2048]⟩
abbrev S_ : Shape := ⟨0, ![]⟩
abbrev S1024x2048 : Shape := ⟨2, ![1024, 2048]⟩

abbrev nBuf : Space → Nat
  | .hbm => 66
  | .vmem => 0
  | .smem => 0
  | _ => 0

abbrev bufTy : (tb : Table) → Fin (tcTables nBuf tb) → BufTy
  | .hbm, ⟨0, _⟩ => ⟨S128x8x4096, .bf16⟩
  | .hbm, ⟨1, _⟩ => ⟨S128x8x20480, .bf16⟩
  | .hbm, ⟨2, _⟩ => ⟨S1x128x2x2048, .f32⟩
  | .hbm, ⟨3, _⟩ => ⟨S1x3x2048, .f32⟩
  | .hbm, ⟨4, _⟩ => ⟨S1x4096x2048, .f32⟩
  | .hbm, ⟨5, _⟩ => ⟨S1x2048x2048, .f32⟩
  | .hbm, ⟨6, _⟩ => ⟨S128x8x4096, .f32⟩
  | .hbm, ⟨7, _⟩ => ⟨S128x8x20480, .f32⟩
  | .hbm, ⟨8, _⟩ => ⟨S128x8x4096, .f32⟩
  | .hbm, ⟨9, _⟩ => ⟨S128x8x6144, .f32⟩
  | .hbm, ⟨10, _⟩ => ⟨S128x8x2048, .f32⟩
  | .hbm, ⟨11, _⟩ => ⟨S128x8x2048, .f32⟩
  | .hbm, ⟨12, _⟩ => ⟨S128x8x2048, .f32⟩
  | .hbm, ⟨13, _⟩ => ⟨S128x8x2048, .f32⟩
  | .hbm, ⟨14, _⟩ => ⟨S128x8x2048, .f32⟩
  | .hbm, ⟨15, _⟩ => ⟨S4096x2048, .f32⟩
  | .hbm, ⟨16, _⟩ => ⟨S128x8x2048, .f32⟩
  | .hbm, ⟨17, _⟩ => ⟨S128x8x2048, .f32⟩
  | .hbm, ⟨18, _⟩ => ⟨S128x2x2048, .f32⟩
  | .hbm, ⟨19, _⟩ => ⟨S3x2048, .f32⟩
  | .hbm, ⟨20, _⟩ => ⟨S128x10x2048, .f32⟩
  | .hbm, ⟨21, _⟩ => ⟨S128x8x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S128x8x2048, .f32⟩
  | .hbm, ⟨26, _⟩ => ⟨S128x8x2048, .f32⟩
  | .hbm, ⟨27, _⟩ => ⟨S128x8x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S128x8x2048, .f32⟩
  | .hbm, ⟨32, _⟩ => ⟨S128x8x2048, .f32⟩
  | .hbm, ⟨33, _⟩ => ⟨S128x8x2048, .f32⟩
  | .hbm, ⟨34, _⟩ => ⟨S128x8x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S128x8x2048, .f32⟩
  | .hbm, ⟨39, _⟩ => ⟨S128x8x2048, .f32⟩
  | .hbm, ⟨40, _⟩ => ⟨S128x8x2048, .f32⟩
  | .hbm, ⟨41, _⟩ => ⟨S128x2x2048, .f32⟩
  | .hbm, ⟨42, _⟩ => ⟨S128x8x2048, .f32⟩
  | .hbm, ⟨43, _⟩ => ⟨S2048x2048, .f32⟩
  | .hbm, ⟨44, _⟩ => ⟨S128x8x2048, .f32⟩
  | .hbm, ⟨45, _⟩ => ⟨S128x8x2048, .f32⟩
  | .hbm, ⟨46, _⟩ => ⟨S128x8x2048, .f32⟩
  | .hbm, ⟨47, _⟩ => ⟨S_, .f32⟩
  | .hbm, ⟨48, _⟩ => ⟨S128x8x2048, .f32⟩
  | .hbm, ⟨49, _⟩ => ⟨S128x8x2048, .f32⟩
  | .hbm, ⟨50, _⟩ => ⟨S_, .f32⟩
  | .hbm, ⟨51, _⟩ => ⟨S128x8x2048, .f32⟩
  | .hbm, ⟨52, _⟩ => ⟨S128x8x2048, .f32⟩
  | .hbm, ⟨53, _⟩ => ⟨S128x8x2048, .f32⟩
  | .hbm, ⟨54, _⟩ => ⟨S128x8x2048, .f32⟩
  | .hbm, ⟨55, _⟩ => ⟨S128x8x2048, .f32⟩
  | .hbm, ⟨56, _⟩ => ⟨S_, .f32⟩
  | .hbm, ⟨57, _⟩ => ⟨S128x8x2048, .f32⟩
  | .hbm, ⟨58, _⟩ => ⟨S128x8x2048, .f32⟩
  | .hbm, ⟨59, _⟩ => ⟨S_, .f32⟩
  | .hbm, ⟨60, _⟩ => ⟨S128x8x2048, .f32⟩
  | .hbm, ⟨61, _⟩ => ⟨S128x8x2048, .f32⟩
  | .hbm, ⟨62, _⟩ => ⟨S128x8x2048, .f32⟩
  | .hbm, ⟨63, _⟩ => ⟨S128x8x2048, .f32⟩
  | .hbm, ⟨64, _⟩ => ⟨S1024x2048, .f32⟩
  | .hbm, ⟨65, _⟩ => ⟨S1024x2048, .bf16⟩
  | _, _ => ⟨S128x8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_1 : Ref sig .tc := ⟨.hbm, 56, rfl⟩
abbrev main_v48 : Ref sig .tc := ⟨.hbm, 57, rfl⟩
abbrev main_v49 : Ref sig .tc := ⟨.hbm, 58, rfl⟩
abbrev main_cst_2 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== KernelUpSample.lean ====
abbrev S128x8x2048 : Shape := ⟨3, ![128, 8, 2048]⟩
abbrev S1x128x2x5632 : Shape := ⟨4, ![1, 128, 2, 5632]⟩
abbrev S1x2048x5632 : Shape := ⟨3, ![1, 2048, 5632]⟩
abbrev S1x3x5632 : Shape := ⟨3, ![1, 3, 5632]⟩
abbrev S1x5632 : Shape := ⟨2, ![1, 5632]⟩
abbrev S1024x2048 : Shape := ⟨2, ![1024, 2048]⟩
abbrev S2048x5632 : Shape := ⟨2, ![2048, 5632]⟩
abbrev S3x5632 : Shape := ⟨2, ![3, 5632]⟩
abbrev S5632 : Shape := ⟨1, ![5632]⟩
abbrev S128x2x5632 : Shape := ⟨3, ![128, 2, 5632]⟩
abbrev S1024x5632 : Shape := ⟨2, ![1024, 5632]⟩
abbrev S2048x512 : Shape := ⟨2, ![2048, 512]⟩
abbrev S3x512 : Shape := ⟨2, ![3, 512]⟩
abbrev S1x512 : Shape := ⟨2, ![1, 512]⟩
abbrev S128x2x512 : Shape := ⟨3, ![128, 2, 512]⟩
abbrev S1024x512 : Shape := ⟨2, ![1024, 512]⟩
abbrev S2048x256 : Shape := ⟨2, ![2048, 256]⟩
abbrev S1024x256 : Shape := ⟨2, ![1024, 256]⟩
abbrev S128x2x256 : Shape := ⟨3, ![128, 2, 256]⟩
abbrev S128x8x256 : Shape := ⟨3, ![128, 8, 256]⟩
abbrev S128x1x256 : Shape := ⟨3, ![128, 1, 256]⟩
abbrev S1x256 : Shape := ⟨2, ![1, 256]⟩
abbrev S3x256 : Shape := ⟨2, ![3, 256]⟩

abbrev nBuf : Space → Nat
  | .hbm => 15
  | .vmem => 15
  | .smem => 0
  | _ => 0

abbrev bufTy : (tb : Table) → Fin (tcTables nBuf tb) → BufTy
  | .hbm, ⟨0, _⟩ => ⟨S128x8x2048, .bf16⟩
  | .hbm, ⟨1, _⟩ => ⟨S1x128x2x5632, .f32⟩
  | .hbm, ⟨2, _⟩ => ⟨S1x2048x5632, .f32⟩
  | .hbm, ⟨3, _⟩ => ⟨S1x2048x5632, .f32⟩
  | .hbm, ⟨4, _⟩ => ⟨S1x3x5632, .f32⟩
  | .hbm, ⟨5, _⟩ => ⟨S1x5632, .f32⟩
  | .hbm, ⟨6, _⟩ => ⟨S1024x2048, .bf16⟩
  | .hbm, ⟨7, _⟩ => ⟨S2048x5632, .f32⟩
  | .hbm, ⟨8, _⟩ => ⟨S2048x5632, .f32⟩
  | .hbm, ⟨9, _⟩ => ⟨S3x5632, .f32⟩
  | .hbm, ⟨10, _⟩ => ⟨S5632, .f32⟩
  | .hbm, ⟨11, _⟩ => ⟨S1x5632, .f32⟩
  | .hbm, ⟨12, _⟩ => ⟨S128x2x5632, .f32⟩
  | .hbm, ⟨13, _⟩ => ⟨S1024x5632, .bf16⟩
  | .hbm, ⟨14, _⟩ => ⟨S128x2x5632, .f32⟩
  | .local _ .vmem, ⟨0, _⟩ => ⟨S1024x2048, .bf16⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S3x512, .f32⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S128x2x512, .f32⟩
  | .local _ .vmem, ⟨10, _⟩ => ⟨S128x2x512, .f32⟩
  | .local _ .vmem, ⟨11, _⟩ => ⟨S1024x512, .bf16⟩
  | .local _ .vmem, ⟨12, _⟩ => ⟨S1024x512, .bf16⟩
  | .local _ .vmem, ⟨13, _⟩ => ⟨S128x2x512, .f32⟩
  | .local _ .vmem, ⟨14, _⟩ => ⟨S128x2x512, .f32⟩
  | _, _ => ⟨S128x8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpSampleIdeal.lean ====
abbrev S128x8x2048 : Shape := ⟨3, ![128, 8, 2048]⟩
abbrev S1x128x2x5632 : Shape := ⟨4, ![1, 128, 2, 5632]⟩
abbrev S1x2048x5632 : Shape := ⟨3, ![1, 2048, 5632]⟩
abbrev S1x3x5632 : Shape := ⟨3, ![1, 3, 5632]⟩
abbrev S1x5632 : Shape := ⟨2, ![1, 5632]⟩
abbrev S2048x5632 : Shape := ⟨2, ![2048, 5632]⟩
abbrev S128x8x5632 : Shape := ⟨3, ![128, 8, 5632]⟩
abbrev S128x2x5632 : Shape := ⟨3, ![128, 2, 5632]⟩
abbrev S3x5632 : Shape := ⟨2, ![3, 5632]⟩
abbrev S5632 : Shape := ⟨1, ![5632]⟩
abbrev S128x10x5632 : Shape := ⟨3, ![128, 10, 5632]⟩
abbrev S1x1x5632 : Shape := ⟨3, ![1, 1, 5632]⟩
abbrev S_ : Shape := ⟨0, ![]⟩
abbrev S1024x5632 : Shape := ⟨2, ![1024, 5632]⟩

abbrev nBuf : Space → Nat
  | .hbm => 51
  | .vmem => 0
  | .smem => 0
  | _ => 0

abbrev bufTy : (tb : Table) → Fin (tcTables nBuf tb) → BufTy
  | .hbm, ⟨0, _⟩ => ⟨S128x8x2048, .bf16⟩
  | .hbm, ⟨1, _⟩ => ⟨S1x128x2x5632, .f32⟩
  | .hbm, ⟨2, _⟩ => ⟨S1x2048x5632, .f32⟩
  | .hbm, ⟨3, _⟩ => ⟨S1x2048x5632, .f32⟩
  | .hbm, ⟨4, _⟩ => ⟨S1x3x5632, .f32⟩
  | .hbm, ⟨5, _⟩ => ⟨S1x5632, .f32⟩
  | .hbm, ⟨6, _⟩ => ⟨S128x8x2048, .f32⟩
  | .hbm, ⟨7, _⟩ => ⟨S2048x5632, .f32⟩
  | .hbm, ⟨8, _⟩ => ⟨S128x8x5632, .f32⟩
  | .hbm, ⟨9, _⟩ => ⟨S128x2x5632, .f32⟩
  | .hbm, ⟨10, _⟩ => ⟨S3x5632, .f32⟩
  | .hbm, ⟨11, _⟩ => ⟨S5632, .f32⟩
  | .hbm, ⟨12, _⟩ => ⟨S128x10x5632, .f32⟩
  | .hbm, ⟨13, _⟩ => ⟨S128x8x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S128x8x5632, .f32⟩
  | .hbm, ⟨18, _⟩ => ⟨S128x8x5632, .f32⟩
  | .hbm, ⟨19, _⟩ => ⟨S128x8x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S128x8x5632, .f32⟩
  | .hbm, ⟨24, _⟩ => ⟨S128x8x5632, .f32⟩
  | .hbm, ⟨25, _⟩ => ⟨S128x8x5632, .f32⟩
  | .hbm, ⟨26, _⟩ => ⟨S128x8x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S128x8x5632, .f32⟩
  | .hbm, ⟨31, _⟩ => ⟨S128x8x5632, .f32⟩
  | .hbm, ⟨32, _⟩ => ⟨S128x8x5632, .f32⟩
  | .hbm, ⟨33, _⟩ => ⟨S1x1x5632, .f32⟩
  | .hbm, ⟨34, _⟩ => ⟨S128x8x5632, .f32⟩
  | .hbm, ⟨35, _⟩ => ⟨S128x8x5632, .f32⟩
  | .hbm, ⟨36, _⟩ => ⟨S128x2x5632, .f32⟩
  | .hbm, ⟨37, _⟩ => ⟨S128x8x5632, .f32⟩
  | .hbm, ⟨38, _⟩ => ⟨S128x8x5632, .f32⟩
  | .hbm, ⟨39, _⟩ => ⟨S_, .f32⟩
  | .hbm, ⟨40, _⟩ => ⟨S128x8x5632, .f32⟩
  | .hbm, ⟨41, _⟩ => ⟨S128x8x5632, .f32⟩
  | .hbm, ⟨42, _⟩ => ⟨S_, .f32⟩
  | .hbm, ⟨43, _⟩ => ⟨S128x8x5632, .f32⟩
  | .hbm, ⟨44, _⟩ => ⟨S128x8x5632, .f32⟩
  | .hbm, ⟨45, _⟩ => ⟨S128x8x5632, .f32⟩
  | .hbm, ⟨46, _⟩ => ⟨S2048x5632, .f32⟩
  | .hbm, ⟨47, _⟩ => ⟨S128x8x5632, .f32⟩
  | .hbm, ⟨48, _⟩ => ⟨S128x8x5632, .f32⟩
  | .hbm, ⟨49, _⟩ => ⟨S1024x5632, .f32⟩
  | .hbm, ⟨50, _⟩ => ⟨S1024x5632, .bf16⟩
  | _, _ => ⟨S128x8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== KernelSsd.lean ====
abbrev S4x2048x20480 : Shape := ⟨3, ![4, 2048, 20480]⟩
abbrev S4x2048x128 : Shape := ⟨3, ![4, 2048, 128]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S4x6144 : Shape := ⟨2, ![4, 6144]⟩
abbrev S6144 : Shape := ⟨1, ![6144]⟩
abbrev S4x4096 : Shape := ⟨2, ![4, 4096]⟩
abbrev S4096 : Shape := ⟨1, ![4096]⟩
abbrev S4x2048 : Shape := ⟨2, ![4, 2048]⟩
abbrev S2048 : Shape := ⟨1, ![2048]⟩
abbrev S1x2048 : Shape := ⟨2, ![1, 2048]⟩
abbrev S64 : Shape := ⟨1, ![64]⟩
abbrev S_ : Shape := ⟨0, ![]⟩
abbrev S128 : Shape := ⟨1, ![128]⟩
abbrev S1x128 : Shape := ⟨2, ![1, 128]⟩
abbrev S64x64 : Shape := ⟨2, ![64, 64]⟩
abbrev S8192x20480 : Shape := ⟨2, ![8192, 20480]⟩
abbrev S8192x128 : Shape := ⟨2, ![8192, 128]⟩
abbrev S128x1 : Shape := ⟨2, ![128, 1]⟩
abbrev S128x128 : Shape := ⟨2, ![128, 128]⟩
abbrev S1x128x1 : Shape := ⟨3, ![1, 128, 1]⟩
abbrev S8 : Shape := ⟨1, ![8]⟩
abbrev S8x1x1 : Shape := ⟨3, ![8, 1, 1]⟩
abbrev S512 : Shape := ⟨1, ![512]⟩
abbrev S1x1x512 : Shape := ⟨3, ![1, 1, 512]⟩
abbrev S8x1x512 : Shape := ⟨3, ![8, 1, 512]⟩
abbrev S8x128x512 : Shape := ⟨3, ![8, 128, 512]⟩
abbrev S8192x4096 : Shape := ⟨2, ![8192, 4096]⟩
abbrev S4x4096x128 : Shape := ⟨3, ![4, 4096, 128]⟩
abbrev S128x4096 : Shape := ⟨2, ![128, 4096]⟩
abbrev S128x2048 : Shape := ⟨2, ![128, 2048]⟩
abbrev S1x4096x128 : Shape := ⟨3, ![1, 4096, 128]⟩
abbrev S8x128x128 : Shape := ⟨3, ![8, 128, 128]⟩
abbrev S8x4096 : Shape := ⟨2, ![8, 4096]⟩
abbrev S8x2048 : Shape := ⟨2, ![8, 2048]⟩
abbrev S128x512 : Shape := ⟨2, ![128, 512]⟩
abbrev S8x512 : Shape := ⟨2, ![8, 512]⟩
abbrev S1x512 : Shape := ⟨2, ![1, 512]⟩
abbrev S4x512 : Shape := ⟨2, ![4, 512]⟩
abbrev S120x512 : Shape := ⟨2, ![120, 512]⟩
abbrev S8x128 : Shape := ⟨2, ![8, 128]⟩
abbrev S4x128 : Shape := ⟨2, ![4, 128]⟩
abbrev S120x128 : Shape := ⟨2, ![120, 128]⟩
abbrev S1x128x512 : Shape := ⟨3, ![1, 128, 512]⟩
abbrev S1x128x128 : Shape := ⟨3, ![1, 128, 128]⟩
abbrev S128x256 : Shape := ⟨2, ![128, 256]⟩
abbrev S256x128 : Shape := ⟨2, ![256, 128]⟩
abbrev S512x128 : Shape := ⟨2, ![512, 128]⟩
abbrev S1x512x128 : Shape := ⟨3, ![1, 512, 128]⟩

abbrev nBuf : Space → Nat
  | .hbm => 91
  | .vmem => 36
  | .smem => 0
  | _ => 0

abbrev bufTy : (tb : Table) → Fin (tcTables nBuf tb) → BufTy
  | .hbm, ⟨0, _⟩ => ⟨S4x2048x20480, .bf16⟩
  | .hbm, ⟨1, _⟩ => ⟨S4x2048x128, .f32⟩
  | .hbm, ⟨2, _⟩ => ⟨S1x4x6144, .f32⟩
  | .hbm, ⟨3, _⟩ => ⟨S1x6144, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x4096, .f32⟩
  | .hbm, ⟨8, _⟩ => ⟨S4x6144, .f32⟩
  | .hbm, ⟨9, _⟩ => ⟨S6144, .f32⟩
  | .hbm, ⟨10, _⟩ => ⟨S4x4096, .f32⟩
  | .hbm, ⟨11, _⟩ => ⟨S4096, .f32⟩
  | .hbm, ⟨12, _⟩ => ⟨S1x4096, .f32⟩
  | .hbm, ⟨13, _⟩ => ⟨S4x2048, .f32⟩
  | .hbm, ⟨14, _⟩ => ⟨S2048, .f32⟩
  | .hbm, ⟨15, _⟩ => ⟨S1x2048, .f32⟩
  | .hbm, ⟨16, _⟩ => ⟨S64, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S64, .f32⟩
  | .hbm, ⟨29, _⟩ => ⟨S64x64, .f32⟩
  | .hbm, ⟨30, _⟩ => ⟨S4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S8192x20480, .bf16⟩
  | .hbm, ⟨35, _⟩ => ⟨S8192x128, .f32⟩
  | .hbm, ⟨36, _⟩ => ⟨S128, .i32⟩
  | .hbm, ⟨37, _⟩ => ⟨S128x1, .i32⟩
  | .hbm, ⟨38, _⟩ => ⟨S128, .i32⟩
  | .hbm, ⟨39, _⟩ => ⟨S1x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S128x128, .i1⟩
  | .hbm, ⟨47, _⟩ => ⟨S_, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128, .i32⟩
  | .hbm, ⟨54, _⟩ => ⟨S1x128x1, .i32⟩
  | .hbm, ⟨55, _⟩ => ⟨S8, .i32⟩
  | .hbm, ⟨56, _⟩ => ⟨S8x1x1, .i32⟩
  | .hbm, ⟨57, _⟩ => ⟨S512, .i32⟩
  | .hbm, ⟨58, _⟩ => ⟨S1x1x512, .i32⟩
  | .hbm, ⟨59, _⟩ => ⟨S_, .i32⟩
  | .hbm, ⟨60, _⟩ => ⟨S8x1x1, .i32⟩
  | .hbm, ⟨61, _⟩ => ⟨S8x1x1, .i32⟩
  | .hbm, ⟨62, _⟩ => ⟨S_, .i32⟩
  | .hbm, ⟨63, _⟩ => ⟨S_, .i32⟩
  | .hbm, ⟨64, _⟩ => ⟨S1x1x512, .i32⟩
  | .hbm, ⟨65, _⟩ => ⟨S1x1x512, .i32⟩
  | .hbm, ⟨66, _⟩ => ⟨S1x1x512, .i32⟩
  | .hbm, ⟨67, _⟩ => ⟨S_, .i32⟩
  | .hbm, ⟨68, _⟩ => ⟨S1x1x512, .i32⟩
  | .hbm, ⟨69, _⟩ => ⟨S1x1x512, .i1⟩
  | .hbm, ⟨70, _⟩ => ⟨S1x1x512, .i32⟩
  | .hbm, ⟨71, _⟩ => ⟨S1x1x512, .i32⟩
  | .hbm, ⟨72, _⟩ => ⟨S_, .i32⟩
  | .hbm, ⟨73, _⟩ => ⟨S1x1x512, .i32⟩
  | .hbm, ⟨74, _⟩ => ⟨S1x1x512, .i1⟩
  | .hbm, ⟨75, _⟩ => ⟨S1x1x512, .i1⟩
  | .hbm, ⟨76, _⟩ => ⟨S_, .i32⟩
  | .hbm, ⟨77, _⟩ => ⟨S1x1x512, .i32⟩
  | .hbm, ⟨78, _⟩ => ⟨S1x1x512, .i32⟩
  | .hbm, ⟨79, _⟩ => ⟨S1x1x512, .i32⟩
  | .hbm, ⟨80, _⟩ => ⟨S8x1x512, .i32⟩
  | .hbm, ⟨81, _⟩ => ⟨S8x1x512, .i32⟩
  | .hbm, ⟨82, _⟩ => ⟨S8x1x512, .i32⟩
  | .hbm, ⟨83, _⟩ => ⟨S8x128x512, .i32⟩
  | .hbm, ⟨84, _⟩ => ⟨S8x128x512, .i32⟩
  | .hbm, ⟨85, _⟩ => ⟨S8x128x512, .i1⟩
  | .hbm, ⟨86, _⟩ => ⟨S128x128, .bf16⟩
  | .hbm, ⟨87, _⟩ => ⟨S128x128, .bf16⟩
  | .hbm, ⟨88, _⟩ => ⟨S8x128x512, .bf16⟩
  | .hbm, ⟨89, _⟩ => ⟨S8192x4096, .bf16⟩
  | .hbm, ⟨90, _⟩ => ⟨S4x4096x128, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S128x128, .bf16⟩
  | .local _ .vmem, ⟨9, _⟩ => ⟨S128x128, .bf16⟩
  | .local _ .vmem, ⟨10, _⟩ => ⟨S128x128, .f32⟩
  | .local _ .vmem, ⟨11, _⟩ => ⟨S8x128x512, .bf16⟩
  | .local _ .vmem, ⟨12, _⟩ => ⟨S4x4096, .f32⟩
  | .local _ .vmem, ⟨13, _⟩ => ⟨S1x4096, .f32⟩
  | .local _ .vmem, ⟨14, _⟩ => ⟨S4x2048, .f32⟩
  | .local _ .vmem, ⟨15, _⟩ => ⟨S1x2048, .f32⟩
  | .local _ .vmem, ⟨16, _⟩ => ⟨S1x128, .f32⟩
  | .local _ .vmem, ⟨17, _⟩ => ⟨S1x128, .f32⟩
  | .local _ .vmem, ⟨18, _⟩ => ⟨S1x4096, .f32⟩
  | .local _ .vmem, ⟨19, _⟩ => ⟨S1x4096, .f32⟩
  | .local _ .vmem, ⟨20, _⟩ => ⟨S128x4096, .bf16⟩
  | .local _ .vmem, ⟨21, _⟩ => ⟨S128x4096, .bf16⟩
  | .local _ .vmem, ⟨22, _⟩ => ⟨S1x4096x128, .f32⟩
  | .local _ .vmem, ⟨23, _⟩ => ⟨S1x4096x128, .f32⟩
  | .local _ .vmem, ⟨24, _⟩ => ⟨S8x128x512, .f32⟩
  | .local _ .vmem, ⟨25, _⟩ => ⟨S8x128x128, .f32⟩
  | .local _ .vmem, ⟨26, _⟩ => ⟨S8x128x128, .f32⟩
  | .local _ .vmem, ⟨27, _⟩ => ⟨S8x128x512, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S8x128x512, .f32⟩
  | .local _ .vmem, ⟨34, _⟩ => ⟨S8x4096, .f32⟩
  | .local _ .vmem, ⟨35, _⟩ => ⟨S8x2048, .f32⟩
  | _, _ => ⟨S4x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_cst_2 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_3 : Ref sig .tc := ⟨.hbm, 59, rfl⟩
abbrev main_v42 : Ref sig .tc := ⟨.hbm, 60, rfl⟩
abbrev main_v43 : Ref sig .tc := ⟨.hbm, 61, rfl⟩
abbrev main_c_4 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54_0 : Ref sig .tc := ⟨.hbm, 89, rfl⟩
abbrev main_v54_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v3582 : BitVec 1 := Scalar.cmpi .eq arg1 c15_i32
  let v3583 : BitVec 32 := Scalar.extui v3582
  let c0_i32_1352 : BitVec 32 := 0#32
  let v3584 : BitVec 1 := Scalar.cmpi .ne v3583 c0_i32_1352
  v3584

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4096x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Proof.InProj.Body.lean ====
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block of streams one grid step leaves: four column strips, each the normalized rows `n1` times 256 rows of the
    weight block `w` (the window of `w_in` the step has staged). -/
def strips (n1 : Vec F S1024x2048 .bf16) (w : Vec F S1024x2048 .f32) : Vec F S1024x1024 .bf16 :=
  View.canon [⟨Rect.unit (s := S1024x1024) ![0, 768] S1024x256.size inb_S1024x1024_S1024x256_0_768,
      k0_pay7 n1 (View.ld w (Rect.unit (s := S1024x2048) ![768, 0] S256x2048.size inb_S1024x2048_S256x2048_768_0))⟩,
    ⟨Rect.unit (s := S1024x1024) ![0, 512] S1024x256.size inb_S1024x1024_S1024x256_0_512,
      k0_pay6 n1 (View.ld w (Rect.unit (s := S1024x2048) ![512, 0] S256x2048.size inb_S1024x2048_S256x2048_512_0))⟩,
    ⟨Rect.unit (s := S1024x1024) ![0, 256] S1024x256.size inb_S1024x1024_S1024x256_0_256,
      k0_pay5 n1 (View.ld w (Rect.unit (s := S1024x2048) ![256, 0] S256x2048.size inb_S1024x2048_S256x2048_256_0))⟩,
    ⟨Rect.unit (s := S1024x1024) ![0, 0] S1024x256.size inb_S1024x1024_S1024x256_0_0,
      k0_pay4 n1 (View.ld w (Rect.unit (s := S1024x2048) ![0, 0] S256x2048.size inb_S1024x2048_S256x2048_0_0))⟩]

/-- Loading a whole buffer that holds `X` reads `X`. -/
theorem load_whole {S : Shape} {e : EltTy} (M : Memref sig .tc .vmem S e) (hM : M.IsWhole) {off : Fin S.rank → Nat}
    (inb : ∀ a, off a + S.size a ≤ S.size a) (X : Vec F S e) (h0 : ∀ a, off a = 0) :
    View.readAt (Elt F) M.view (Rect.unit (s := S) off S.size inb).toLoadRect (hM.unread X) = X :=
  (congrArg (fun Y => View.ld Y _) (hM.read_unread X)).trans (View.ld_unit_lit _ _ h0)

set_option maxHeartbeats 1000000 in
/-- The body at a column step after the first: the normalized rows kept in the scratch and the time-step block are left as
    they were found, and the streams' block becomes the four strips of the kept rows times the staged weights. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S1024x2048 .f32) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : ¬k0_cond1 i = 1#1)
    (x0 : Vec F S1024x2048 .f32) (x1 : Vec F S1x2048 .f32) (x2 : Vec F S128x2048 .f32) (x3 : Vec F S1024x2048 .f32)
    (x5 : Vec F S1024x128 .f32) (n1 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare n1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (strips n1 x3) ∗ owns (c : Thread nD τ) arg7 fullShare x5 ∗ owns (c : Thread nD τ) arg8 fullShare n1) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, H5, ⟨%fs0, %hfs0, HS0⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_open
    refine (View.read_writes_eq_canon (Val := Elt F) _ _ _ ?cov).trans ?_
    case cov => exact fun y => View.cover_of_tiledL (s := S1024x1024) _ S1024x256.size (by sl_kernel_rfl) y
    rw [load_whole arg8 harg8 _ n1 (by decide)]
    simp only [View.readAt_eq_ld, harg5.read_unread]
  isplitl [H5]; · iexact H5
  iexists _; isplitr; · ipureintro; exact harg8.read_unread _
  iexact HS0

set_option maxHeartbeats 1000000 in
/-- The body at the first column step of a row block: the scratch receives the normalized rows, the time-step block their
    product with the staged time-step weights, and the streams' block the four strips of these rows times the weights. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S1024x2048 .f32) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : k0_cond1 i = 1#1)
    (x0 : Vec F S1024x2048 .f32) (x1 : Vec F S1x2048 .f32) (x2 : Vec F S128x2048 .f32) (x3 : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (strips (k0_pay2 x0 x1) x3) ∗ owns (c : Thread nD τ) arg7 fullShare (k0_pay3 x0 x1 x2) ∗ owns (c : Thread nD τ) arg8 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_open
    refine (View.read_writes_eq_canon (Val := Elt F) _ _ _ ?cov).trans ?_
    case cov => exact fun y => View.cover_of_tiledL (s := S1024x1024) _ S1024x256.size (by sl_kernel_rfl) y
    simp only [View.readCov_cons_toLoadRect]
    rw [load_whole arg2 harg2 _ x0 (by decide), load_whole arg3 harg3 _ x1 (by decide)]
    simp only [View.readAt_eq_ld, harg5.read_unread]
  isplitl [H5]
  · iexists _; isplitr
    swap; · iexact H5
    ipureintro
    frame_open
    refine (View.read_writes_eq_canon (Val := Elt F) _ _ _ ?cov).trans ?_
    case cov => exact fun y => View.cover_of_tiledL _ S1024x128.size (by sl_kernel_rfl) y
    rw [load_whole arg2 harg2 _ x0 (by decide), load_whole arg3 harg3 _ x1 (by decide), load_whole arg4 harg4 _ x2 (by decide)]
    exact View.canon_cons_unit_lit (Val := Elt F) _ _ _ (by decide)
  iexists _; isplitr
  swap; · iexact HS0
  ipureintro
  frame_open
  refine (View.read_writes_eq_canon (Val := Elt F) _ _ _ ?cov).trans ?_
  case cov => exact fun y => View.cover_of_tiledL _ S1024x2048.size (by sl_kernel_rfl) y
  rw [load_whole arg2 harg2 _ x0 (by decide), load_whole arg3 harg3 _ x1 (by decide)]
  exact View.canon_cons_unit_lit (Val := Elt F) _ _ _ (by decide)

end Cert.KernelIdeal.InProj

end
-- ==== Proof.InProj.Launch.lean ====
module

public import proofs.«01_k».proof.Proof.Gen.KernelIdeal.Frame
public import proofs.«01_k».proof.Proof.InProj.Body
public import Idealize.ShloMosaic.Lib.Pipeline.ValueKit

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch of the body that normalizes the rows is taken at the first of the twenty column steps of a row block. -/
theorem first_iff : ∀ t : Fin cfg0.N, k0_cond1 (grid0.coords t) = 1#1 ↔ t.val % 20 = 0 :=
  (fun t => by
    have ht : t.val < 160 := Nat.lt_of_lt_of_eq t.isLt N_0
    have e0 : (grid0.coords t 0).val = t.val / 20 % 8 := Pipeline.Grid.coords_val t 0 (by decide) rfl
    have e1 : (grid0.coords t 1).val = t.val / 1 % 20 := Pipeline.Grid.coords_val t 1 (by decide) rfl
    simp only [k0_cond1, e0, e1]
    word_cmp
   : ∀ t : Fin grid0.N, k0_cond1 (grid0.coords t) = 1#1 ↔ t.val % 20 = 0)

/-- The first grid step of the row block that step `t` works on. -/
def first (t : Fin cfg0.N) : Fin cfg0.N := ⟨t.val / 20 * 20, Nat.lt_of_le_of_lt (Nat.div_mul_le_self _ _) t.isLt⟩

theorem first_self (t : Fin cfg0.N) (h : t.val % 20 = 0) : first t = t := Fin.ext (by simp only [first]; omega)

theorem first_pred (t t' : Fin cfg0.N) (h : ¬t.val % 20 = 0) (h' : t'.val = t.val - 1) : first t' = first t :=
  Fin.ext (by simp only [first, h']; omega)

/-- The normalized rows the scratch holds after step `t`: those of `t`'s row block. -/
def rows (c : Dev nD) (t : Fin cfg0.N) : Vec F S1024x2048 .bf16 := k0_pay2 (iblk m c 0 (first t)) (iblk m c 1 (first t))

/-- The time-step block of `t`'s row block. -/
def steps (c : Dev nD) (t : Fin cfg0.N) : Vec F S1024x128 .f32 :=
  k0_pay3 (iblk m c 0 (first t)) (iblk m c 1 (first t)) (X0_2 m c (first t))

/-- The scratch of the body, a whole buffer. -/
abbrev scratch : Memref sig .tc .vmem S1024x2048 .bf16 := Memref.whole cc0_scratch0

theorem start_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- What holds between grid steps: before the first the scratch has any contents, and after step `n` the normalized rows of
    that step's row block. -/
def between (c : Dev nD) : (n : ℕ) → n ≤ cfg0.N → sProp 𝕄
  | 0, _ => Pipeline.ΦA spec0 c
  | n + 1, hn => iprop(iprop(owns (c : Thread nD τ) scratch fullShare (rows m c ⟨n, hn⟩)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h
      = iprop(iprop(owns (c : Thread nD τ) scratch fullShare (rows m c ⟨n - 1, by omega⟩)) ∗ (∃ r, prngReg c r)) := by
  cases n with
  | zero => exact absurd rfl hz
  | succ n => rfl

/-- The pipeline's proof data: each input's buffer keeps its block, the streams' buffer holds the four strips of its step,
    the time-step buffer the block of its row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => strips (rows m c t) (iblk m c 3 t)
    | ⟨5, _⟩ => steps m c t
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = strips (rows m c t) (iblk m c 3 t) := by
  dsimp only [dats]
theorem after_5 (c : Dev nD) (t : Fin cfg0.N) : (dats m 0 c).after 5 t = steps m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The body leaves the time-step buffer alone at every step but the first of a row block. -/
theorem idle_5 (t : Fin cfg0.N) : cfg0.idle 5 (cfg0.grid.coords t) = true ↔ ¬t.val % 20 = 0 := by
  rw [← first_iff t]
  show (!(k0_cond1 (grid0.coords t) == 1#1)) = true ↔ _
  simp

/-- Through the later steps of a row block the time-step buffer still holds what the first step stored. -/
theorem before_5 (c : Dev nD) : ∀ (t : Fin cfg0.N), ¬t.val % 20 = 0 → ∀ d, (dats m 0 c).before 5 t d = steps m c t := by
  intro t
  induction hn : t.val using Nat.strong_induction_on generalizing t with
  | _ n ih =>
    subst hn; intro h d
    have ht : t.val ≠ 0 := fun h0 => h (by rw [h0])
    have hp : t.val - 1 < cfg0.N := Nat.lt_of_le_of_lt (Nat.sub_le _ _) t.isLt
    have hfl : (cfg0.win 5).flush ⟨t.val - 1, hp⟩ = false := by
      rw [Bool.eq_false_iff, ne_eq, flush0_5]; show ¬(t.val - 1) % 20 = 19; omega
    have hs : steps m c ⟨t.val - 1, hp⟩ = steps m c t := by unfold steps; rw [first_pred t ⟨t.val - 1, hp⟩ h rfl]
    rw [(dats m 0 c).before_of_pos 5 t ht ((cfg0.win 5).fetch_out rfl t), hfl, if_neg Bool.false_ne_true]
    unfold Dat.left
    by_cases hi : (t.val - 1) % 20 = 0
    · have hl : cfg0.idle 5 (cfg0.grid.coords ⟨t.val - 1, hp⟩) = false := by
        rw [Bool.eq_false_iff, ne_eq, idle_5]; exact fun hh => hh hi
      rw [hl]
      show (dats m 0 c).kept 5 ⟨t.val - 1, hp⟩ d = _
      unfold Dat.kept
      rw [Pipeline.fill_of_clip_none 5 _ (fun _ => rfl) d ((dats m 0 c).after 5 ⟨t.val - 1, hp⟩),
        Pipeline.Window.fill_cut, after_5, hs]
    · rw [(idle_5 ⟨t.val - 1, hp⟩).mpr hi]
      exact (ih (t.val - 1) (by omega) ⟨t.val - 1, hp⟩ rfl hi d).trans hs

/-- The windows' current buffers at step `t`. -/
abbrev ms_0 (t : Fin cfg0.N) : Memref sig .tc .vmem S1024x2048 .f32 := win0_0.stage (cfg0.slots t 0)
abbrev ms_1 (t : Fin cfg0.N) : Memref sig .tc .vmem S1x2048 .f32 := win0_1.stage (cfg0.slots t 1)
abbrev ms_2 (t : Fin cfg0.N) : Memref sig .tc .vmem S128x2048 .f32 := win0_2.stage (cfg0.slots t 2)
abbrev ms_3 (t : Fin cfg0.N) : Memref sig .tc .vmem S1024x2048 .f32 := win0_3.stage (cfg0.slots t 3)
abbrev ms_4 (t : Fin cfg0.N) : Memref sig .tc .vmem S1024x1024 .bf16 := win0_4.stage (cfg0.slots t 4)
abbrev ms_5 (t : Fin cfg0.N) : Memref sig .tc .vmem S1024x128 .f32 := win0_5.stage (cfg0.slots t 5)

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ (dats m 0 c).leavesExact 5 t)

/-- The time-step buffer at its block is what the pipeline asks of it after the body, whether the step stored it or kept it. -/
theorem leaves_5 (c : Dev nD) (t : Fin cfg0.N) :
    (owns (c : Thread nD τ) (ms_5 t) fullShare (steps m c t) : sProp 𝕄) ⊢ (dats m 0 c).leavesExact 5 t := by
  by_cases h : t.val % 20 = 0
  · have hl : cfg0.idle 5 (cfg0.grid.coords t) = false := by
      rw [Bool.eq_false_iff, ne_eq, idle_5]; exact fun hh => hh h
    unfold Dat.leavesExact; rw [hl, after_5]
    try exact Idealize.SL.BI.Entails.refl _
  · have hl := (idle_5 t).mpr h
    unfold Dat.leavesExact; rw [hl]
    cases hf : (cfg0.win 5).flush t with
    | true => rw [after_5]; try exact Idealize.SL.BI.Entails.refl _
    | false =>
      iintro H
      iexists (steps m c t)
      rw [before_5 m c t h]
      iexact H

set_option maxHeartbeats 3200000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.succ
    = iprop(iprop(owns (c : Thread nD τ) scratch fullShare (rows m c t)) ∗ (∃ r, prngReg c r)) from rfl]
  by_cases h0 : t.val % 20 = 0
  · have hr : rows m c t = k0_pay2 (iblk m c 0 t) (iblk m c 1 t) := by unfold rows; rw [first_self t h0]
    have hd : steps m c t = k0_pay3 (iblk m c 0 t) (iblk m c 1 t) (X0_2 m c t) := by unfold steps; rw [first_self t h0]
    have hΦ : (dats m 0 c).Φ t.castSucc
        ⊢ (iprop(iprop((∃ d, owns (c : Thread nD τ) scratch fullShare d)) ∗ (∃ r, prngReg c r)) : sProp 𝕄) := by
      rw [between_castSucc m c t]
      by_cases hz : t.val = 0
      · rw [between_zero m c _ _ hz, start_eq]
        try exact Idealize.SL.BI.Entails.refl _
      · rw [between_pos m c _ _ hz]
        iintro ⟨H, Hg⟩
        isplitl [H]; · iexists _; iexact H
        iexact Hg
    refine Entails.trans (sep_mono_l hΦ) (?_ : iprop(_ ∗ _) ⊢ _)
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((first_iff t).mpr h0) (iblk m c 0 t) (iblk m c 1 t) (X0_2 m c t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [hr]
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    rw [hd]
    iexact H5
  · have hz : t.val ≠ 0 := fun h => h0 (by rw [h])
    have hr : rows m c ⟨t.val - 1, Nat.lt_of_le_of_lt (Nat.sub_le _ _) t.isLt⟩ = rows m c t := by
      unfold rows; rw [first_pred t _ h0 rfl]
    simp only [before_5 m c t h0]
    rw [between_castSucc m c t, between_pos m c _ _ hz, hr]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun h => h0 ((first_iff t).mp h)) (iblk m c 0 t) (iblk m c 1 t) (X0_2 m c t) (iblk m c 3 t) (steps m c t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c cfg0.N (le_refl _) from rfl,
    between_pos m c _ _ (by have : cfg0.N = 160 := N_0; omega), start_eq]
  iintro ⟨H, Hg⟩
  isplitl [H]; · iexists _; iexact H
  iexact Hg

set_option backward.isDefEq.respectTransparency.types false in
/-- The whole run: it terminates, each array of the pipeline ends at the blocks written back, the other arrays at what the
    operations after the call leave, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KernelIdeal.InProj

end
-- ==== Proof.InProj.Reference.lean ====
module

public import proofs.«01_k».proof.Proof.Gen.ReferenceIdeal.Run
public import Idealize.ShloMosaic.Lib.Pipeline.ValueKit

@[expose] public section

set_option maxRecDepth 16384

noncomputable section

namespace Cert.ReferenceIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Idealize.ShloMosaic.StableHlo

/-- One element of the normalised input: token `l` of sequence `b`, feature `k`. -/
def norm1 (X : FVec Ideal S4x2048x2048 .f32) (G : FVec Ideal S1x2048 .f32) (b : Fin 4) (l k : Fin 2048) : EReal :=
  X (ix3 b l k) * Ideal.rsqrt (Ideal.div (∑ j : Fin 2048, X (ix3 b l j) * X (ix3 b l j)) (Ideal.ofBits .f32 0x45000000#32)
    + Ideal.ofBits .f32 0x358637BD#32) * G (ix2 0 k)

/-- Row `r`, column `n` of the projection. -/
def proj1 (X : FVec Ideal S4x2048x2048 .f32) (G : FVec Ideal S1x2048 .f32) (W : FVec Ideal S1x2048x20544 .f32)
    (r : Fin 8192) (n : Fin 20544) : EReal :=
  ∑ k : Fin 2048, norm1 X G ⟨r / 2048, by omega⟩ ⟨r % 2048, by omega⟩ k * W (ix3 0 k n)

/-- The column of the weights which column `n` of the streams reads: the 64 time-step columns are passed over. -/
def col (n : Fin 20480) : Fin 20544 := ⟨if (n : ℕ) < 10240 then n else n + 64, by split <;> omega⟩

/-- The projection as the reference computes it, an array. -/
def projection (X : FVec Ideal S4x2048x2048 .f32) (G : FVec Ideal S1x2048 .f32) (W : FVec Ideal S1x2048x20544 .f32) :
    FVec Ideal S4x2048x20544 .f32 :=
  Host.dotGeneral dot_S4x2048x2048_S2048x20544_S4x2048x20544_2_0_01_1_n_n none (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))) (shapeCast _ W shapeCasts_S1x2048x20544_S2048x20544)

/-- The streams are columns of the projection, the sequences one below the other. -/
def streams (P : FVec Ideal S4x2048x20544 .f32) : FVec Ideal S8192x20480 .bf16 :=
  truncf .bf16 (shapeCast _ ((concatenate S4x2048x20480 2 [⟨S4x2048x4096, ((extractStridedSlice S4x2048x4096 ![0, 0, 0] P slices_S4x2048x20544_S4x2048x4096_0_0_0) : (⟨S4x2048x4096, .f32⟩ : BufTy).Contents (Elt Ideal))⟩, ⟨S4x2048x6144, ((extractStridedSlice S4x2048x6144 ![0, 0, 4096] P slices_S4x2048x20544_S4x2048x6144_0_0_4096) : (⟨S4x2048x6144, .f32⟩ : BufTy).Contents (Elt Ideal))⟩, ⟨S4x2048x2048, ((extractStridedSlice S4x2048x2048 ![0, 0, 10304] P slices_S4x2048x20544_S4x2048x2048_0_0_10304) : (⟨S4x2048x2048, .f32⟩ : BufTy).Contents (Elt Ideal))⟩, ⟨S4x2048x2048, ((extractStridedSlice S4x2048x2048 ![0, 0, 12352] P slices_S4x2048x20544_S4x2048x2048_0_0_12352) : (⟨S4x2048x2048, .f32⟩ : BufTy).Contents (Elt Ideal))⟩, ⟨S4x2048x2048, ((extractStridedSlice S4x2048x2048 ![0, 0, 14400] P slices_S4x2048x20544_S4x2048x2048_0_0_14400) : (⟨S4x2048x2048, .f32⟩ : BufTy).Contents (Elt Ideal))⟩, ⟨S4x2048x2048, ((extractStridedSlice S4x2048x2048 ![0, 0, 16448] P slices_S4x2048x20544_S4x2048x2048_0_0_16448) : (⟨S4x2048x2048, .f32⟩ : BufTy).Contents (Elt Ideal))⟩, ⟨S4x2048x2048, ((extractStridedSlice S4x2048x2048 ![0, 0, 18496] P slices_S4x2048x20544_S4x2048x2048_0_0_18496) : (⟨S4x2048x2048, .f32⟩ : BufTy).Contents (Elt Ideal))⟩] concatenates_S4x2048x4096_S4x2048x6144_S4x2048x2048_S4x2048x2048_S4x2048x2048_S4x2048x2048_S4x2048x2048_S4x2048x20480_d2 : (⟨S4x2048x20480, .f32⟩ : BufTy).Contents (Elt Ideal))) shapeCasts_S4x2048x20480_S8192x20480) bitsLt_bf16_f32

/-- So are the time-step lanes. -/
def lanes (P : FVec Ideal S4x2048x20544 .f32) : FVec Ideal S8192x128 .f32 :=
  shapeCast _ (concatenate S4x2048x128 2 [⟨S4x2048x64, (extractStridedSlice S4x2048x64 ![0, 0, 10240] P slices_S4x2048x20544_S4x2048x64_0_0_10240)⟩, ⟨S4x2048x64, (extractStridedSlice S4x2048x64 ![0, 0, 0] (extractStridedSlice S4x2048x2048 ![0, 0, 10304] P slices_S4x2048x20544_S4x2048x2048_0_0_10304) slices_S4x2048x2048_S4x2048x64_0_0_0)⟩] concatenates_S4x2048x64_S4x2048x64_S4x2048x128_d2) shapeCasts_S4x2048x128_S8192x128

theorem projection_at (X : FVec Ideal S4x2048x2048 .f32) (G : FVec Ideal S1x2048 .f32) (W : FVec Ideal S1x2048x20544 .f32)
    (b : Fin 4) (l : Fin 2048) (n : Fin 20544) :
    projection X G W (ix3 b l n) = ∑ k : Fin 2048, norm1 X G b l k * W (ix3 0 k n) := by
  pointwise [projection, norm1]

theorem streams_at (P : FVec Ideal S4x2048x20544 .f32) (r : Fin 8192) (n : Fin 20480) :
    streams P (ix2 r n) = P (ix3 ⟨r / 2048, by omega⟩ ⟨r % 2048, by omega⟩ (col n)) := by
  pointwise [streams]
  have hn := n.isLt
  split_ifs <;> exact congrArg P (congrArg (ix3 _ _) (Fin.ext (by dsimp only [col]; split_ifs <;> omega)))

theorem lanes_at (P : FVec Ideal S4x2048x20544 .f32) (r : Fin 8192) (n : Fin 128) :
    lanes P (ix2 r n) = P (ix3 ⟨r / 2048, by omega⟩ ⟨r % 2048, by omega⟩ ⟨10240 + n, by omega⟩) := by
  pointwise [lanes]
  have hn := n.isLt
  by_cases h : (n : ℕ) < 64
  · rw [dif_pos h]
  · rw [dif_neg h]
    exact congrArg P (congrArg (ix3 _ _) (Fin.ext (by dsimp only; omega)))

/-- The streams' middle columns behind three rows of zeros, the last three rows of each sequence. -/
def kept (P : FVec Ideal S4x2048x20544 .f32) : FVec Ideal S4x3x6144 .f32 :=
  extractStridedSlice S4x3x6144 ![0, 2048, 0] (concatenate S4x2051x6144 1 [⟨S4x3x6144, (broadcastInDim S4x3x6144 ![] bcast_S_S4x3x6144 (constant S_ .f32 0x00000000#32))⟩, ⟨S4x2048x6144, (extractStridedSlice S4x2048x6144 ![0, 0, 4096] P slices_S4x2048x20544_S4x2048x6144_0_0_4096)⟩] concatenates_S4x3x6144_S4x2048x6144_S4x2051x6144_d1) slices_S4x2051x6144_S4x3x6144_0_2048_0

theorem kept_at (P : FVec Ideal S4x2048x20544 .f32) (b : Fin 4) (i : Fin 3) (n : Fin 6144) :
    kept P (ix3 b i n) = P (ix3 b ⟨2045 + i, by omega⟩ ⟨4096 + n, by omega⟩) := by
  pointwise [kept]
  have hi := i.isLt
  refine (dif_neg (by omega)).trans (congrArg P (congrArg (ix3 _ · _) (Fin.ext ?_)))
  dsimp only
  omega

section Result
variable (m : (ℓ : Loc nD τ sig) → Buf (Elt Ideal) ℓ) (ρ : Dev nD → PrngReg)

/-- The projection of device `c`'s arguments. -/
abbrev projectionOf (c : Dev nD) : FVec Ideal S4x2048x20544 .f32 :=
  projection (m ((c.tc : Thread nD τ).loc main_arg0)) (m ((c.tc : Thread nD τ).loc main_arg1)) (m ((c.tc : Thread nD τ).loc main_arg2))

/-- The reference's run: the results from the projection, the arguments unchanged. -/
theorem run : θ_run defs (onTc (τ := τ) (main (F := Ideal))) ⟨m, fun _ => 0, ρ⟩ fun r => ∀ c : Dev nD,
      r.2.mem ((c.tc : Thread nD τ).loc main_v30) = streams (projectionOf m c)
      ∧ r.2.mem ((c.tc : Thread nD τ).loc main_v31) = lanes (projectionOf m c)
      ∧ r.2.mem ((c.tc : Thread nD τ).loc main_v32) = kept (projectionOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Result

end Cert.ReferenceIdeal.InProj

end
-- ==== Proof.InProj.Value.lean ====
module

public import proofs.«01_k».proof.Proof.Gen.KernelIdeal.Frame
public import proofs.«01_k».proof.Proof.InProj.Launch
public import proofs.«01_k».proof.Proof.InProj.Reference
public import Idealize.ShloMosaic.Lib.Pipeline.ValueKit

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.ReferenceIdeal.InProj (norm1 proj1 col)

theorem strips_at (n1 : FVec Ideal S1024x2048 .bf16) (w : FVec Ideal S1024x2048 .f32) (y : S1024x1024.Idx) :
    strips (F := Ideal) n1 w y = ∑ k : Fin 2048, n1 (ix2 (y 0) k) * w (ix2 (y 1) k) := by
  unfold strips
  canon_tiles x h
  all_goals (open_payloads; pointwise; blk_point [])

theorem pay2_at (x : FVec Ideal S1024x2048 .f32) (g : FVec Ideal S1x2048 .f32) (i : S1024x2048.Idx) :
    k0_pay2 (F := Ideal) x g i = x i * Ideal.rsqrt (Ideal.div (∑ j : Fin 2048, x (ix2 (i 0) j) * x (ix2 (i 0) j)) (Ideal.ofBits .f32 0x45000000#32)
    + Ideal.ofBits .f32 0x358637BD#32) * g (ix2 0 (i 1)) := by
  pointwise [k0_pay2, k0_pay1]

theorem pay3_at (x : FVec Ideal S1024x2048 .f32) (g : FVec Ideal S1x2048 .f32) (w : FVec Ideal S128x2048 .f32) (i : S1024x128.Idx) :
    k0_pay3 (F := Ideal) x g w i = ∑ k : Fin 2048, k0_pay2 (F := Ideal) x g (ix2 (i 0) k) * w (ix2 (i 1) k) := by
  pointwise [k0_pay3, k0_pay2, k0_pay1]

variable (m : (ℓ : Loc nD τ sig) → Buf (Elt Ideal) ℓ)

/-- What the region finds in a buffer is what the operations before it leave there. -/
theorem V_after (c : Dev nD) (b : Ref sig .tc) : V m c b = StableHlo.after hostOps0 (fun b => m (c, b)) b := by
  show StableHlo.after (hostOps0 ++ []) _ _ = _
  rw [List.append_nil]

theorem entry_x (c : Dev nD) (r : Fin 8192) (k : Fin 2048) :
    V m c main_v0 (ix2 r k) = m ((c.tc : Thread nD τ).loc main_arg0) (ix3 ⟨r / 2048, by omega⟩ ⟨r % 2048, by omega⟩ k) := by
  refine (congrFun (V_after m c _) _).trans ?_
  entry_read
  pointwise
theorem entry_g (c : Dev nD) (k : Fin 2048) :
    V m c main_v2 (ix2 0 k) = m ((c.tc : Thread nD τ).loc main_arg1) (ix2 0 k) := by
  refine (congrFun (V_after m c _) _).trans ?_
  entry_read
  pointwise
theorem entry_w (c : Dev nD) (n : Fin 20544) (k : Fin 2048) :
    V m c main_v4 (ix2 n k) = m ((c.tc : Thread nD τ).loc main_arg2) (ix3 0 k n) := by
  refine (congrFun (V_after m c _) _).trans ?_
  entry_read
  pointwise

theorem idx : ∀ t : Fin cfg0.N, win0_0.index t = ![t.val / 20, 0] ∧ win0_1.index t = ![0, 0] ∧ win0_2.index t = ![80, 0]
    ∧ win0_3.index t = ![if t.val % 20 < 10 then t.val % 20 * 1024 else 64 + t.val % 20 * 1024, 0]
    ∧ win0_4.index t = ![t.val / 20, t.val % 20] ∧ win0_5.index t = ![t.val / 20, 0] :=
  (by decide +kernel : ∀ t : Fin grid0.N, _)

/-- The row of the weights at which the element window of point `t` starts, plus `j`. -/
theorem row_lt (t : Fin cfg0.N) (j : Fin 1024) :
    (if t.val % 20 < 10 then t.val % 20 * 1024 else 64 + t.val % 20 * 1024) + (j : ℕ) < 20544 := by
  split <;> omega

theorem rows_lt (t : Fin cfg0.N) (j : Fin 1024) : t.val / 20 * 1024 + (j : ℕ) < 8192 := by
  have ht : t.val < 160 := lt_of_lt_of_eq t.isLt (by decide +kernel)
  omega

theorem point_w (c : Dev nD) (t : Fin cfg0.N) (y : S1024x2048.Idx) :
    iblk m c 3 t y = V m c main_v4 (ix2 ⟨_, row_lt t (y 0)⟩ (y 1)) := by
  blk_simp [iblk, idx t]
  have e : ∀ a, ((win0_3.blk t).view.emb y a : ℕ) = win0_3.index t a + y a := fun a => (by
    show win0_3.index t a + 1 * (y a : ℕ) = _
    omega)
  refine congrArg (V m c main_v4) (funext fun a => Fin.ext ((e a).trans ?_))
  rw [(idx t).2.2.2.1]
  match a with
  | ⟨0, _⟩ => rfl
  | ⟨1, _⟩ => exact Nat.zero_add _

theorem point_x (c : Dev nD) (t : Fin cfg0.N) (y : S1024x2048.Idx) :
    iblk m c 0 t y = V m c main_v0 (ix2 ⟨_, rows_lt t (y 0)⟩ (y 1)) := by
  blk_ext [iblk, idx t]

theorem point_g (c : Dev nD) (t : Fin cfg0.N) (y : S1x2048.Idx) :
    iblk m c 1 t y = V m c main_v2 (ix2 0 (y 1)) := by
  blk_ext [iblk, idx t]

theorem point_dt (c : Dev nD) (t : Fin cfg0.N) (y : S128x2048.Idx) :
    X0_2 m c t y = V m c main_v4 (ix2 ⟨10240 + y 0, by have h : (y 0 : ℕ) < 128 := (y 0).isLt; omega⟩ (y 1)) := by
  unfold X0_2 Pipeline.Window.fill
  rw [dif_pos (moved0_2 t y)]
  show V m c main_v4 ((win0_2.blk t).view.emb _) = _
  refine congrArg (V m c main_v4) (funext fun a => Fin.ext ?_)
  match a with
  | ⟨0, _⟩ =>
    show win0_2.index t 0 * 128 + 1 * (y 0 : ℕ) = 10240 + (y 0 : ℕ)
    rw [(idx t).2.2.1]
    show 80 * 128 + 1 * (y 0 : ℕ) = 10240 + (y 0 : ℕ)
    omega
  | ⟨1, _⟩ =>
    show win0_2.index t 1 * 2048 + 1 * (y 1 : ℕ) = (y 1 : ℕ)
    rw [(idx t).2.2.1]
    show 0 * 2048 + 1 * (y 1 : ℕ) = (y 1 : ℕ)
    omega

theorem first_row (t : Fin cfg0.N) : (first t).val / 20 = t.val / 20 := by
  show t.val / 20 * 20 / 20 = _
  omega

/-- What the scratch holds at point `t`: the normalised rows of its row block. -/
theorem rows_at (c : Dev nD) (t : Fin cfg0.N) (j : Fin 1024) (k : Fin 2048) :
    rows m c t (ix2 j k) = norm1 (m ((c.tc : Thread nD τ).loc main_arg0)) (m ((c.tc : Thread nD τ).loc main_arg1))
      ⟨(t.val / 20 * 1024 + j) / 2048, by have := rows_lt t j; omega⟩ ⟨(t.val / 20 * 1024 + j) % 2048, by omega⟩ k := by
  have hx : ∀ l : Fin 2048, iblk m c 0 (first t) (ix2 j l : S1024x2048.Idx) = m ((c.tc : Thread nD τ).loc main_arg0)
      (ix3 ⟨(t.val / 20 * 1024 + j) / 2048, by have := rows_lt t j; omega⟩ ⟨(t.val / 20 * 1024 + j) % 2048, by omega⟩ l) := fun l => by
    refine (point_x m c (first t) (ix2 j l)).trans ((entry_x m c _ l).trans ?_)
    simp only [first_row]
    rfl
  unfold rows
  refine (pay2_at _ _ _).trans ?_
  unfold norm1
  refine congrArg₂ (· * ·) (congrArg₂ (· * ·) (hx k) (congrArg Ideal.rsqrt (congrArg (· + _) (congrArg (Ideal.div · _)
    (Finset.sum_congr rfl fun l _ => congrArg₂ (· * ·) (hx l) (hx l)))))) ?_
  exact (point_g m c (first t) (ix2 0 k)).trans (entry_g m c k)

theorem flushed_4 (c : Dev nD) (t : Fin cfg0.N) (y : S1024x1024.Idx) :
    strips (F := Ideal) (rows m c t) (iblk m c 3 t) y
      = proj1 (m ((c.tc : Thread nD τ).loc main_arg0)) (m ((c.tc : Thread nD τ).loc main_arg1)) (m ((c.tc : Thread nD τ).loc main_arg2))
        ⟨_, rows_lt t (y 0)⟩ ⟨_, row_lt t (y 1)⟩ := by
  refine (strips_at _ _ _).trans (Finset.sum_congr rfl fun k _ => congrArg₂ (· * ·) (rows_at m c t (y 0) k) ?_)
  exact (point_w m c t (ix2 (y 1) k)).trans (entry_w m c _ k)

theorem flushed_5 (c : Dev nD) (t : Fin cfg0.N) (y : S1024x128.Idx) :
    steps m c t y
      = proj1 (m ((c.tc : Thread nD τ).loc main_arg0)) (m ((c.tc : Thread nD τ).loc main_arg1)) (m ((c.tc : Thread nD τ).loc main_arg2))
        ⟨_, rows_lt t (y 0)⟩ ⟨10240 + y 1, by have h : (y 1 : ℕ) < 128 := (y 1).isLt; omega⟩ := by
  unfold steps
  refine (pay3_at _ _ _ _).trans (Finset.sum_congr rfl fun k _ => congrArg₂ (· * ·) (rows_at m c t (y 0) k) ?_)
  exact (point_dt m c (first t) (ix2 (y 1) k)).trans (entry_w m c _ k)

/-- The streams, an array: the projection's columns as `col` places them. -/
def streamsOut (X : FVec Ideal S4x2048x2048 .f32) (G : FVec Ideal S1x2048 .f32) (W : FVec Ideal S1x2048x20544 .f32) :
    FVec Ideal S8192x20480 .bf16 := fun i => proj1 X G W (i 0) (col (i 1))

/-- The time-step lanes, an array: columns 10240 to 10367 of the projection. -/
def lanesOut (X : FVec Ideal S4x2048x2048 .f32) (G : FVec Ideal S1x2048 .f32) (W : FVec Ideal S1x2048x20544 .f32) :
    FVec Ideal S8192x128 .f32 := fun i => proj1 X G W (i 0) ⟨10240 + i 1, by have h : (i 1 : ℕ) < 128 := (i 1).isLt; omega⟩

theorem proj1_congr {X : FVec Ideal S4x2048x2048 .f32} {G : FVec Ideal S1x2048 .f32} {W : FVec Ideal S1x2048x20544 .f32}
    {r r' : Fin 8192} {n n' : Fin 20544} (hr : (r : ℕ) = r') (hn : (n : ℕ) = n') : proj1 X G W r n = proj1 X G W r' n' := by
  rw [Fin.ext hr, Fin.ext hn]

theorem place_4 (t : Fin cfg0.N) (y : S1024x1024.Idx) :
    (((win0_4.blk t).view.emb y) 0 : ℕ) = t.val / 20 * 1024 + y 0 ∧ (((win0_4.blk t).view.emb y) 1 : ℕ) = t.val % 20 * 1024 + y 1 := by
  constructor
  · blk_simp [idx t]
  · blk_simp [idx t]

theorem place_5 (t : Fin cfg0.N) (y : S1024x128.Idx) :
    (((win0_5.blk t).view.emb y) 0 : ℕ) = t.val / 20 * 1024 + y 0 ∧ (((win0_5.blk t).view.emb y) 1 : ℕ) = y 1 := by
  constructor
  · blk_simp [idx t]
  · blk_simp [idx t]

theorem final_4 (c : Dev nD) : (dats m 0 c).arrAt 4 (cfgs 0).N =
    streamsOut (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after_4]
  refine (flushed_4 m c t y).trans ?_
  unfold streamsOut
  refine proj1_congr (place_4 t y).1.symm ?_
  have hy : (y 1 : ℕ) < 1024 := (y 1).isLt
  have e := (place_4 t y).2
  unfold col
  show _ = if (((win0_4.blk t).view.emb y) 1 : ℕ) < 10240 then (((win0_4.blk t).view.emb y) 1 : ℕ) else (((win0_4.blk t).view.emb y) 1 : ℕ) + 64
  rw [e]
  dsimp only
  split_ifs <;> omega

theorem final_5 (c : Dev nD) : (dats m 0 c).arrAt 5 (cfgs 0).N =
    lanesOut (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after_5]
  refine (flushed_5 m c t y).trans ?_
  unfold lanesOut
  exact proj1_congr (place_5 t y).1.symm (congrArg (10240 + ·) (place_5 t y).2.symm)

/-- The convolution's state, an array: the last three rows of each sequence, columns 4096 to 10239 of the projection. -/
def stateOut (X : FVec Ideal S4x2048x2048 .f32) (G : FVec Ideal S1x2048 .f32) (W : FVec Ideal S1x2048x20544 .f32) :
    FVec Ideal S4x3x6144 .f32 := fun i => proj1 X G W ⟨(i 0).val * 2048 + 2045 + (i 1).val, by
      have h0 : (i 0).val < 4 := (i 0).isLt
      have h1 : (i 1).val < 3 := (i 1).isLt
      omega⟩ ⟨4096 + i 2, by have h : (i 2 : ℕ) < 6144 := (i 2).isLt; omega⟩

/-- What the operations after the call cut out of the streams. -/
def lastRows (T : FVec Ideal S8192x20480 .bf16) : FVec Ideal S4x3x6144 .f32 :=
  extf .f32 (extractStridedSlice S4x3x6144 ![0, 2045, 4096] (shapeCast S4x2048x20480 T shapeCasts_S8192x20480_S4x2048x20480) slices_S4x2048x20480_S4x3x6144_0_2045_4096) bitsLt_bf16_f32

theorem lastRows_at (T : FVec Ideal S8192x20480 .bf16) (b : Fin 4) (i : Fin 3) (n : Fin 6144) :
    lastRows T (ix3 b i n) = T (ix2 ⟨b * 2048 + (2045 + i), by omega⟩ ⟨4096 + n, by omega⟩) := by
  pointwise [lastRows]

/-- What the operations after the region leave in the third result. -/
theorem tail_eq (c : Dev nD) : Pipeline.afterTail₀ cfgs (dats m) 0 (V0 m) [hostOps1] c main_v8 = stateOut (m ((c.tc : Thread nD τ).loc main_arg0)) (m ((c.tc : Thread nD τ).loc main_arg1)) (m ((c.tc : Thread nD τ).loc main_arg2)) := by
  have e := ((dats m 0 c).withArrays_arrAt sharedIn0 (V0 m c) (A_eq m c) 4).trans (final_4 m c)
  unfold Pipeline.afterTail₀
  change StableHlo.after (hostOps1 ++ []) _ _ = _
  rw [List.append_nil]
  generalize (Pipeline.withArrays (cfgs 0).spec c (V0 m c) fun w => (dats m 0 c).arrAt w (cfgs 0).N) = T at e ⊢
  after_results
  change lastRows (T (Proc.tc.devRef main_v5_0)) = _
  rw [show T (Proc.tc.devRef main_v5_0) = streamsOut (m ((c.tc : Thread nD τ).loc main_arg0)) (m ((c.tc : Thread nD τ).loc main_arg1)) (m ((c.tc : Thread nD τ).loc main_arg2)) from e]
  funext i
  rw [eq_ix3 i]
  refine (lastRows_at _ _ _ _).trans (proj1_congr ?_ ?_)
  · show (i 0).val * 2048 + (2045 + (i 1).val) = (i 0).val * 2048 + 2045 + (i 1).val
    omega
  · have h2 : (i 2).val < 6144 := (i 2).isLt
    show (if 4096 + (i 2).val < 10240 then 4096 + (i 2).val else 4096 + (i 2).val + 64) = 4096 + (i 2).val
    rw [if_pos (by omega)]

/-- The whole run, its results named. -/
theorem run_named (ρ : Dev nD → PrngReg) : θ_run defs (onTc (τ := τ) (main (F := Ideal))) ⟨m, fun _ => 0, ρ⟩ fun r => ∀ c : Dev nD,
      r.2.mem ((c.tc : Thread nD τ).loc main_v5_0) = streamsOut (m ((c.tc : Thread nD τ).loc main_arg0)) (m ((c.tc : Thread nD τ).loc main_arg1)) (m ((c.tc : Thread nD τ).loc main_arg2))
      ∧ r.2.mem ((c.tc : Thread nD τ).loc main_v5_1) = lanesOut (m ((c.tc : Thread nD τ).loc main_arg0)) (m ((c.tc : Thread nD τ).loc main_arg1)) (m ((c.tc : Thread nD τ).loc main_arg2))
      ∧ r.2.mem ((c.tc : Thread nD τ).loc main_v8) = stateOut (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0)) ∧ r.2.mem ((c.tc : Thread nD τ).loc main_arg1) = (m ((c.tc : Thread nD τ).loc main_arg1)) ∧ r.2.mem ((c.tc : Thread nD τ).loc main_arg2) = (m ((c.tc : Thread nD τ).loc main_arg2)) :=
  (θ_run defs _ _).mono (fun r h c => ⟨((h.1 c).1 4).trans (final_4 m c), ((h.1 c).1 5).trans (final_5 m c),
    ((h.1 c).2 main_v8 (Pipeline.mem_restRefs_of _ (by decide) (by decide))).trans (tail_eq m c), h.2.1 c⟩)
    (θ_run_and (run_main m ρ) (frame_ideal m ρ))

end Cert.KernelIdeal.InProj

end
-- ==== Proof.InProj.Claims.lean ====
module

public import proofs.«01_k».proof.Defs
public import proofs.«01_k».proof.Proof.Gen.Kernel
public import proofs.«01_k».proof.Proof.InProj.Value
public import Idealize.ShloMosaic.Lib.Claim
public import Idealize.ShloMosaic.Lib.Quiescent

@[expose] public section

set_option maxRecDepth 16384

noncomputable section

namespace Cert.InProj

open Idealize.ShloMosaic Idealize.ShloMosaic.TcCoe Idealize.SL.Sem

theorem streams_eq (X : FVec Ideal Cert.ReferenceIdeal.S4x2048x2048 .f32) (G : FVec Ideal Cert.ReferenceIdeal.S1x2048 .f32)
    (W : FVec Ideal Cert.ReferenceIdeal.S1x2048x20544 .f32) :
    Cert.ReferenceIdeal.InProj.streams (Cert.ReferenceIdeal.InProj.projection X G W) = Cert.KernelIdeal.InProj.streamsOut X G W := by
  funext i
  rw [eq_ix2 i]
  exact (Cert.ReferenceIdeal.InProj.streams_at _ _ _).trans (Cert.ReferenceIdeal.InProj.projection_at ..)

theorem lanes_eq (X : FVec Ideal Cert.ReferenceIdeal.S4x2048x2048 .f32) (G : FVec Ideal Cert.ReferenceIdeal.S1x2048 .f32)
    (W : FVec Ideal Cert.ReferenceIdeal.S1x2048x20544 .f32) :
    Cert.ReferenceIdeal.InProj.lanes (Cert.ReferenceIdeal.InProj.projection X G W) = Cert.KernelIdeal.InProj.lanesOut X G W := by
  funext i
  rw [eq_ix2 i]
  exact (Cert.ReferenceIdeal.InProj.lanes_at _ _ _).trans (Cert.ReferenceIdeal.InProj.projection_at ..)

theorem state_eq (X : FVec Ideal Cert.ReferenceIdeal.S4x2048x2048 .f32) (G : FVec Ideal Cert.ReferenceIdeal.S1x2048 .f32)
    (W : FVec Ideal Cert.ReferenceIdeal.S1x2048x20544 .f32) :
    Cert.ReferenceIdeal.InProj.kept (Cert.ReferenceIdeal.InProj.projection X G W) = Cert.KernelIdeal.InProj.stateOut X G W := by
  funext i
  rw [eq_ix3 i]
  have h1 : (i 1).val < 3 := (i 1).isLt
  refine (Cert.ReferenceIdeal.InProj.kept_at _ _ _ _).trans ((Cert.ReferenceIdeal.InProj.projection_at ..).trans ?_)
  refine Finset.sum_congr rfl fun k _ => congrArg (· * _) ?_
  refine congrArg₂ (fun b l => Cert.ReferenceIdeal.InProj.norm1 X G b l k) (Fin.ext ?_) (Fin.ext ?_)
  · show (i 0).val = ((i 0).val * 2048 + 2045 + (i 1).val) / 2048
    omega
  · show 2045 + (i 1).val = ((i 0).val * 2048 + 2045 + (i 1).val) % 2048
    omega

/-- The body table of the kernel is its idealized form's: the ideal pass rewrote nothing. -/
theorem bodies_eq : Cert.Kernel.defs₀ (F := Bits) = Cert.KernelIdeal.defs₀ := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs := congrArg (Pipeline.defs Cert.KernelIdeal.pcfgs) bodies_eq

theorem frame_kernel : Cert.quiescent_Kernel := fun m ρ _ => by
  have h := Cert.KernelIdeal.InProj.frame_ideal (F := Bits) m ρ
  rw [← defs_eq] at h
  exact h

theorem frame_ideal : Cert.quiescent_KernelIdeal := fun m ρ _ => Cert.KernelIdeal.InProj.frame_ideal (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The results of the kernel are the reference's. -/
theorem algebraic : Cert.algebraic_KernelIdeal_ReferenceIdeal := by
  pair_intro
  · run_from Cert.KernelIdeal.InProj.run_named m g
  · run_from Cert.ReferenceIdeal.InProj.run m' g'
    all_goals
      unfold Cert.ReferenceIdeal.InProj.projectionOf
      rw [(hagree c).1, (hagree c).2.1, (hagree c).2.2]
    · exact streams_eq _ _ _
    · exact lanes_eq _ _ _
    · exact state_eq _ _ _

end Cert.InProj

end
-- ==== Proof.Down.Value.lean ====
module

public import proofs.«01_k».proof.Proof.Gen.KernelDownIdeal.Value
public import proofs.«01_k».proof.Proof.Gen.ReferenceDownIdeal.Run
public import Idealize.ShloMosaic.Lib.Pipeline.ValueKit

@[expose] public section

set_option maxRecDepth 16384

noncomputable section

namespace Cert.KernelDownIdeal.Down

open Idealize.ShloMosaic Idealize.ShloMosaic.TcCoe Idealize.ShloMosaic.Tactic
open Idealize.SL Idealize.SL.Sem
open Idealize.ShloMosaic.Pipeline (Dat Cfg Window BodyObligation cellOf)
open Cert.KernelDownIdeal Cert.KernelDownIdeal.Gen
open Cert.KernelDownIdeal.Value (run_blocks)
/-- Row `r`, feature `n` of the result: the residual plus the activation's product with the down projection. -/
def downOut (A : FVec Ideal S4x2048x5632 .bf16) (W : FVec Ideal S1x5632x2048 .f32) (X : FVec Ideal S4x2048x2048 .f32) :
    FVec Ideal S8192x2048 .f32 := fun i =>
  X (ix3 ⟨i 0 / 2048, by have h : (i 0 : ℕ) < 8192 := (i 0).isLt; omega⟩ ⟨i 0 % 2048, by omega⟩ (i 1))
    + ∑ k : Fin 5632, A (ix3 ⟨i 0 / 2048, by have h : (i 0 : ℕ) < 8192 := (i 0).isLt; omega⟩ ⟨i 0 % 2048, by omega⟩ k) * W (ix3 0 k (i 1))

/-- One block of the kernel's result. -/
theorem block_at (a : FVec Ideal S256x5632 .bf16) (w : FVec Ideal S5632x2048 .bf16) (x : FVec Ideal S256x2048 .f32) (y : S256x2048.Idx) :
    out0_3 (F := Ideal) a w x y = x (ix2 (y 0) (y 1)) + ∑ k : Fin 5632, a (ix2 (y 0) k) * w (ix2 k (y 1)) := by
  unfold out0_3
  canon_tiles z h
  all_goals (open_payloads; pointwise; blk_point [])

variable (m : (ℓ : Loc nD τ sig) → Buf (Elt Ideal) ℓ)

theorem entry_act (c : Dev nD) (r : Fin 8192) (k : Fin 5632) :
    V m c main_v0 (ix2 r k) = m ((c.tc : Thread nD τ).loc main_arg0) (ix3 ⟨r / 2048, by omega⟩ ⟨r % 2048, by omega⟩ k) := by
  entry_read
  pointwise

theorem entry_w (c : Dev nD) (k : Fin 5632) (n : Fin 2048) :
    V m c main_v2 (ix2 k n) = m ((c.tc : Thread nD τ).loc main_arg1) (ix3 0 k n) := by
  entry_read
  pointwise

theorem entry_x (c : Dev nD) (r : Fin 8192) (n : Fin 2048) :
    V m c main_v3 (ix2 r n) = m ((c.tc : Thread nD τ).loc main_arg2) (ix3 ⟨r / 2048, by omega⟩ ⟨r % 2048, by omega⟩ n) := by
  entry_read
  pointwise

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem rows_lt (t : Fin cfg0.N) (j : Fin 256) : t.val * 256 + (j : ℕ) < 8192 := by
  have ht : t.val < 32 := lt_of_lt_of_eq t.isLt (by decide +kernel)
  omega

theorem point_act (c : Dev nD) (t : Fin cfg0.N) (y : S256x5632.Idx) :
    iblk m c 0 t y = V m c main_v0 (ix2 ⟨_, rows_lt t (y 0)⟩ (y 1)) := by
  blk_ext [iblk, idx t]

theorem point_w (c : Dev nD) (t : Fin cfg0.N) (y : S5632x2048.Idx) :
    iblk m c 1 t y = V m c main_v2 (ix2 (y 0) (y 1)) := by
  blk_ext [iblk, idx t]

theorem point_x (c : Dev nD) (t : Fin cfg0.N) (y : S256x2048.Idx) :
    iblk m c 2 t y = V m c main_v3 (ix2 ⟨_, rows_lt t (y 0)⟩ (y 1)) := by
  blk_ext [iblk, idx t]

/-- What point `t` writes back is its block of the result. -/
theorem flushed_at (c : Dev nD) (t : Fin cfg0.N) (y : S256x2048.Idx) :
    out0_3 (F := Ideal) (iblk m c 0 t) (iblk m c 1 t) (iblk m c 2 t) y
      = downOut (m ((c.tc : Thread nD τ).loc main_arg0)) (m ((c.tc : Thread nD τ).loc main_arg1)) (m ((c.tc : Thread nD τ).loc main_arg2))
        (ix2 ⟨_, rows_lt t (y 0)⟩ (y 1)) := by
  refine (block_at _ _ _ _).trans (congrArg₂ (· + ·) ?_ (Finset.sum_congr rfl fun k _ => congrArg₂ (· * ·) ?_ ?_))
  · exact (point_x m c t (ix2 (y 0) (y 1))).trans (entry_x m c _ _)
  · exact (point_act m c t (ix2 (y 0) k)).trans (entry_act m c _ _)
  · exact (point_w m c t (ix2 k (y 1))).trans (entry_w m c _ _)

theorem place (t : Fin cfg0.N) (y : S256x2048.Idx) :
    (((win0_3.blk t).view.emb y) 0 : ℕ) = t.val * 256 + y 0 ∧ (((win0_3.blk t).view.emb y) 1 : ℕ) = y 1 := by
  constructor
  · blk_simp [idx t]
  · blk_simp [idx t]

/-- The array which the kernel returns. -/
theorem final (c : Dev nD) : (dats m 0 c).arrAt 3 (cfgs 0).N =
    downOut (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  refine (flushed_at m c t y).trans (congrArg (downOut _ _ _) ?_)
  funext a
  match a with
  | ⟨0, _⟩ => exact Fin.ext (place t y).1.symm
  | ⟨1, _⟩ => exact Fin.ext (place t y).2.symm

end Cert.KernelDownIdeal.Down

namespace Cert.ReferenceDownIdeal.Down

open Idealize.ShloMosaic Idealize.ShloMosaic.TcCoe Idealize.ShloMosaic.Tactic Idealize.SL.Sem
open Cert.ReferenceDownIdeal Cert.ReferenceDownIdeal.Gen Idealize.ShloMosaic.StableHlo

/-- The reference's result, the operations' composed term. -/
def result (A : FVec Ideal S4x2048x5632 .bf16) (W : FVec Ideal S1x5632x2048 .f32) (X : FVec Ideal S4x2048x2048 .f32) :
    FVec Ideal S8192x2048 .f32 :=
  shapeCast _ (addf X (Host.dotGeneral dot_S4x2048x5632_S5632x2048_S4x2048x2048_2_0_01_1_n_n none (extf .f32 A bitsLt_bf16_f32) (shapeCast _ W shapeCasts_S1x5632x2048_S5632x2048))) shapeCasts_S4x2048x2048_S8192x2048

theorem result_eq (A : FVec Ideal S4x2048x5632 .bf16) (W : FVec Ideal S1x5632x2048 .f32) (X : FVec Ideal S4x2048x2048 .f32) :
    result A W X = Cert.KernelDownIdeal.Down.downOut A W X := by
  funext i
  rw [eq_ix2 i]
  pointwise [result, Cert.KernelDownIdeal.Down.downOut]

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceDownIdeal.Down

end
-- ==== Proof.Down.Claims.lean ====
module

public import proofs.«01_k».proof.Defs
public import proofs.«01_k».proof.Proof.Gen.KernelDown
public import proofs.«01_k».proof.Proof.Down.Value
public import Idealize.ShloMosaic.Lib.Claim
public import Idealize.ShloMosaic.Lib.Quiescent

@[expose] public section

set_option maxRecDepth 16384

noncomputable section

namespace Cert.Down

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelDown.defs₀ (F := Bits) = Cert.KernelDownIdeal.defs₀ := by
  unfold Cert.KernelDown.defs₀ Cert.KernelDownIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelDown.defs (F := Bits) = Cert.KernelDownIdeal.defs := congrArg (Pipeline.defs Cert.KernelDownIdeal.pcfgs) bodies_eq

theorem frame_kernel : Cert.quiescent_KernelDown := fun m ρ _ => by
  have h := Cert.KernelDownIdeal.Gen.frame (F := Bits) m ρ
  rw [← defs_eq] at h
  exact h

theorem frame_ideal : Cert.quiescent_KernelDownIdeal := fun m ρ _ => Cert.KernelDownIdeal.Gen.frame (F := Ideal) m ρ

theorem frame_reference : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The kernel's result is the reference's. -/
theorem algebraic : Cert.algebraic_KernelDownIdeal_ReferenceDownIdeal := by
  pair_intro
  · run_from Cert.KernelDownIdeal.Value.run_blocks m g
  · run_from Cert.ReferenceDownIdeal.Down.run m' g'
    refine Eq.trans ?_ (Cert.KernelDownIdeal.Down.final m c).symm
    exact Cert.ReferenceDownIdeal.Down.result_eq _ _ _

end Cert.Down

end
-- ==== Proof.Common.Functions.lean ====
module

public import Idealize.ShloMosaic.Lib.Pipeline.ValueKit
public import Idealize.ShloMosaic.PureOps.Ideal.Laws
public import Idealize.ShloMosaic.Lib.IdealHost

@[expose] public section

noncomputable section

namespace Cert.Common

open Idealize.ShloMosaic

/-- One feature of a row normalised by its root mean square, times the gain. -/
def rms (x : Fin 2048 → EReal) (g : EReal) (k : Fin 2048) : EReal :=
  x k * Ideal.rsqrt (Ideal.div (∑ j : Fin 2048, x j * x j) (Ideal.ofBits .f32 0x45000000#32) + Ideal.ofBits .f32 0x358637BD#32) * g

/-- The sigmoid, as the reference writes it. -/
def sigmoid (x : EReal) : EReal := Ideal.div 1 (1 + Ideal.exp (-x))

theorem half : Ideal.ofBits .f32 0x3F000000#32 = ((1 / 2 : ℝ) : EReal) := by
  simp [Ideal.ofBits, Ideal.ieee, -EReal.coe_mul]
  norm_num

theorem sigmoid_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]
    congr 1
    ring
  have n : Real.exp (1 / 2 * r) * Real.exp (-(1 / 2 * r)) = 1 := by
    rw [← Real.exp_add, add_neg_cancel, Real.exp_zero]
  rw [e, Real.tanh_eq_sinh_div_cosh, Real.sinh_eq, Real.cosh_eq]
  set a := Real.exp (1 / 2 * r)
  set b := Real.exp (-(1 / 2 * r))
  have ha : 0 < a := Real.exp_pos _
  have hb : 0 < b := Real.exp_pos _
  have hb' : b = a⁻¹ := eq_inv_of_mul_eq_one_right n
  rw [hb']
  have h2 : a ^ 2 + 1 ≠ 0 := by positivity
  field_simp
  ring

/-- The kernel's form of the sigmoid, by the hyperbolic tangent of half the argument, on every extended real. -/
theorem sigmoid_tanh (x : EReal) :
    Ideal.ofBits .f32 0x3F000000#32 * Ideal.tanh (Ideal.ofBits .f32 0x3F000000#32 * x) + Ideal.ofBits .f32 0x3F000000#32 = sigmoid x := by
  rw [half]
  unfold sigmoid
  change _ = Ideal.logistic x
  have hp : (0 : ℝ) < 1 / 2 := by norm_num
  induction x using EReal.rec with
  | bot =>
    rw [EReal.coe_mul_bot_of_pos hp, Ideal.tanh_bot, Ideal.logistic_bot, ← EReal.coe_one, ← EReal.coe_neg, ← EReal.coe_mul, ← EReal.coe_add, ← EReal.coe_zero]
    norm_num
  | top =>
    rw [EReal.coe_mul_top_of_pos hp, Ideal.tanh_top, Ideal.logistic_top, mul_one, ← EReal.coe_one, ← EReal.coe_add]
    norm_num
  | coe r =>
    rw [← EReal.coe_mul, Ideal.tanh_coe, Ideal.logistic_coe, ← EReal.coe_mul, ← EReal.coe_add, sigmoid_real]

/-- The kernel's form of the silu of a finite number. At minus infinity the two differ: there the kernel's is minus
    infinity and the reference's is zero. -/
theorem silu_tanh (x : EReal) (hx : x ≠ ⊥) :
    Ideal.ofBits .f32 0x3F000000#32 * x * Ideal.tanh (Ideal.ofBits .f32 0x3F000000#32 * x) + Ideal.ofBits .f32 0x3F000000#32 * x
      = x * sigmoid x := by
  rw [← sigmoid_tanh, half]
  have hp : (0 : ℝ) < 1 / 2 := by norm_num
  induction x using EReal.rec with
  | bot => exact absurd rfl hx
  | top =>
    rw [EReal.coe_mul_top_of_pos hp, Ideal.tanh_top, mul_one, mul_one, ← EReal.coe_add, EReal.top_mul_coe_of_pos (by norm_num)]
    rfl
  | coe r =>
    rw [← EReal.coe_mul, Ideal.tanh_coe, ← EReal.coe_mul, ← EReal.coe_mul, ← EReal.coe_add, ← EReal.coe_add, ← EReal.coe_mul]
    congr 1
    ring

end Cert.Common

end
-- ==== Proof.Ple.Value.lean ====
module

public import proofs.«01_k».proof.Proof.Gen.KernelPleIdeal.Value
public import proofs.«01_k».proof.Proof.Gen.ReferencePleIdeal.Run
public import proofs.«01_k».proof.Proof.Common.Functions

@[expose] public section

set_option maxRecDepth 16384

noncomputable section

namespace Cert.KernelPleIdeal.Ple

open Idealize.ShloMosaic Idealize.ShloMosaic.TcCoe Idealize.ShloMosaic.Tactic
open Idealize.SL Idealize.SL.Sem
open Idealize.ShloMosaic.Pipeline (Dat Cfg Window BodyObligation cellOf)
open Cert.KernelPleIdeal Cert.KernelPleIdeal.Gen
open Cert.Common (rms sigmoid sigmoid_tanh)
/-- Row `r`, feature `n` of the stream after the gated embedding. -/
def x3At (X : FVec Ideal S4x2048x2048 .f32) (P : FVec Ideal S1x4x2048x256 .f32) (U : FVec Ideal S1x256x2048 .f32) (W : FVec Ideal S1x2048x2048 .f32) (N : FVec Ideal S1x2048 .f32) (r : Fin 8192) (n : Fin 2048) : EReal :=
  X (ix3 ⟨r / 2048, by omega⟩ ⟨r % 2048, by omega⟩ n) + (∑ k : Fin 256, P (ix4 0 ⟨r / 2048, by omega⟩ ⟨r % 2048, by omega⟩ k) * U (ix3 0 k n))
    * sigmoid (∑ k : Fin 2048, rms (fun j => X (ix3 ⟨r / 2048, by omega⟩ ⟨r % 2048, by omega⟩ j)) (N (ix2 0 k)) k * W (ix3 0 k n))

/-- The layer's output, an array: the stream normalised by the final gain. -/
def yOut (X : FVec Ideal S4x2048x2048 .f32) (P : FVec Ideal S1x4x2048x256 .f32) (U : FVec Ideal S1x256x2048 .f32) (W : FVec Ideal S1x2048x2048 .f32) (N : FVec Ideal S1x2048 .f32) (Z : FVec Ideal S2048 .f32) : FVec Ideal S8192x2048 .f32 :=
  fun i => rms (x3At X P U W N (i 0)) (Z (ix1 (i 1))) (i 1)

/-- The stream of one row of a block of `b` rows. -/
def blockRow {b : ℕ} (x : Fin b → Fin 2048 → EReal) (p : Fin b → Fin 256 → EReal) (u : FVec Ideal S256x2048 .bf16) (w : FVec Ideal S2048x2048 .bf16)
    (g : FVec Ideal S1x2048 .f32) (j : Fin b) (n : Fin 2048) : EReal :=
  x j n + (∑ k : Fin 256, p j k * u (ix2 k n)) * sigmoid (∑ k : Fin 2048, rms (x j) (g (ix2 0 k)) k * w (ix2 k n))

/-- The stream of the first half of a block's rows. -/
theorem pay2_at (x : FVec Ideal S256x2048 .f32) (g : FVec Ideal S1x2048 .f32) (w : FVec Ideal S2048x2048 .bf16) (p : FVec Ideal S256x256 .f32)
    (u : FVec Ideal S256x2048 .bf16) (j : Fin 256) (n : Fin 2048) :
    k0_pay2 (F := Ideal) x g w p u (ix2 j n) = blockRow (fun j n => x (ix2 j n)) (fun j n => p (ix2 j n)) u w g j n := by
  unfold blockRow rms
  simp only [← sigmoid_tanh]
  pointwise [k0_pay2]

/-- The gate of the second half. -/
theorem pay7_at (x : FVec Ideal S256x2048 .f32) (g : FVec Ideal S1x2048 .f32) (w : FVec Ideal S2048x2048 .bf16) (j : Fin 256) (n : Fin 2048) :
    k0_pay7 (F := Ideal) x g w (ix2 j n) = sigmoid (∑ k : Fin 2048, rms (fun n => x (ix2 j n)) (g (ix2 0 k)) k * w (ix2 k n)) := by
  unfold rms
  simp only [← sigmoid_tanh]
  pointwise [k0_pay7, k0_pay6]

theorem pay5_at (s : FVec Ideal S256x2048 .f32) (z : FVec Ideal S1x2048 .f32) (j : Fin 256) (n : Fin 2048) :
    k0_pay5 (F := Ideal) s (k0_pay3 z) (mulf s s) (ix2 j n) = rms (fun n => s (ix2 j n)) (z (ix2 0 n)) n := by
  unfold rms
  pointwise [k0_pay5, k0_pay3]

theorem pay1_at (x s : FVec Ideal S256x2048 .f32) (p : FVec Ideal S256x256 .f32) (u : FVec Ideal S256x2048 .bf16) (z : FVec Ideal S1x2048 .f32)
    (j : Fin 256) (n : Fin 2048) :
    k0_pay1 (F := Ideal) (k0_pay6 x) s p u z (ix2 j n)
      = rms (fun n => x (ix2 j n) + (∑ k : Fin 256, p (ix2 j k) * u (ix2 k n)) * s (ix2 j n)) (z (ix2 0 n)) n := by
  unfold rms
  pointwise [k0_pay1, k0_pay6]

/-- What the body stores for the first half of the rows. -/
theorem first_at (x : FVec Ideal S256x2048 .f32) (g : FVec Ideal S1x2048 .f32) (w : FVec Ideal S2048x2048 .bf16) (p : FVec Ideal S256x256 .f32)
    (u : FVec Ideal S256x2048 .bf16) (z : FVec Ideal S1x2048 .f32) (j : Fin 256) (n : Fin 2048) :
    k0_pay5 (F := Ideal) (k0_pay2 x g w p u) (k0_pay3 z) (k0_pay4 x g w p u) (ix2 j n)
      = rms (blockRow (fun j n => x (ix2 j n)) (fun j n => p (ix2 j n)) u w g j) (z (ix2 0 n)) n :=
  (pay5_at (k0_pay2 x g w p u) z j n).trans (congrArg (fun f => rms f _ _) (funext fun n => pay2_at ..))

/-- What it stores for the second half. -/
theorem second_at (x : FVec Ideal S256x2048 .f32) (g : FVec Ideal S1x2048 .f32) (w : FVec Ideal S2048x2048 .bf16) (p : FVec Ideal S256x256 .f32)
    (u : FVec Ideal S256x2048 .bf16) (z : FVec Ideal S1x2048 .f32) (j : Fin 256) (n : Fin 2048) :
    k0_pay1 (F := Ideal) (k0_pay6 x) (k0_pay7 x g w) p u z (ix2 j n)
      = rms (blockRow (fun j n => x (ix2 j n)) (fun j n => p (ix2 j n)) u w g j) (z (ix2 0 n)) n :=
  (pay1_at _ _ _ _ _ _ _).trans (congrArg (fun f => rms f _ _) (funext fun n => congrArg (fun s => _ + _ * s) (pay7_at ..)))

theorem blockRow_congr {b b' : ℕ} {x : Fin b → Fin 2048 → EReal} {x' : Fin b' → Fin 2048 → EReal} {p : Fin b → Fin 256 → EReal} {p' : Fin b' → Fin 256 → EReal}
    {u u' : FVec Ideal S256x2048 .bf16} {w w' : FVec Ideal S2048x2048 .bf16} {g g' : FVec Ideal S1x2048 .f32} {j : Fin b} {j' : Fin b'}
    (hx : x j = x' j') (hp : p j = p' j') (hu : ∀ k n, u (ix2 k n) = u' (ix2 k n)) (hw : ∀ k n, w (ix2 k n) = w' (ix2 k n))
    (hg : ∀ n, g (ix2 0 n) = g' (ix2 0 n)) : blockRow x p u w g j = blockRow x' p' u' w' g' j' := by
  funext n
  unfold blockRow
  simp only [hx, hp, hu, hw, hg]

theorem rms_congr {x x' : Fin 2048 → EReal} {g g' : EReal} {k k' : Fin 2048} (hx : x = x') (hg : g = g') (hk : k = k') : rms x g k = rms x' g' k' := by
  rw [hx, hg, hk]

/-- One block of the kernel's result. -/
theorem block_at (x : FVec Ideal S512x2048 .f32) (p : FVec Ideal S512x256 .f32) (u : FVec Ideal S256x2048 .bf16) (w : FVec Ideal S2048x2048 .bf16)
    (g z : FVec Ideal S1x2048 .f32) (y : S512x2048.Idx) :
    out0_6 (F := Ideal) x p u w g z y
      = rms (blockRow (fun j n => x (ix2 j n)) (fun j n => p (ix2 j n)) u w g (y 0)) (z (ix2 0 (y 1))) (y 1) := by
  unfold out0_6
  canon_tiles q h
  · rw [eq_ix2 q]
    refine (second_at _ _ _ _ _ _ _ _).trans ?_
    refine rms_congr (blockRow_congr ?_ ?_ ?_ ?_ ?_) ?_ (Fin.ext h1).symm
    · funext n; exact View.ld_unit_apply_of _ _ _ _ _ _ fun a => match a with | ⟨0, _⟩ => h0 | ⟨1, _⟩ => (Nat.zero_add _).symm
    · funext n; exact View.ld_unit_apply_of _ _ _ _ _ _ fun a => match a with | ⟨0, _⟩ => h0 | ⟨1, _⟩ => (Nat.zero_add _).symm
    · intro k n; rw [View.ld_unit_lit _ _ (by decide)]
    · intro k n; rw [View.ld_unit_lit _ _ (by decide)]
    · intro n; rw [View.ld_unit_lit _ _ (by decide)]
    · rw [View.ld_unit_lit _ _ (by decide)]; exact congrArg (fun k => z (ix2 0 k)) (Fin.ext h1).symm
  · rw [eq_ix2 q]
    refine (first_at _ _ _ _ _ _ _ _).trans ?_
    refine rms_congr (blockRow_congr ?_ ?_ ?_ ?_ ?_) ?_ (Fin.ext h1).symm
    · funext n; exact View.ld_unit_apply_of _ _ _ _ _ _ fun a => match a with | ⟨0, _⟩ => h0.trans (Nat.zero_add _).symm | ⟨1, _⟩ => (Nat.zero_add _).symm
    · funext n; exact View.ld_unit_apply_of _ _ _ _ _ _ fun a => match a with | ⟨0, _⟩ => h0.trans (Nat.zero_add _).symm | ⟨1, _⟩ => (Nat.zero_add _).symm
    · intro k n; rw [View.ld_unit_lit _ _ (by decide)]
    · intro k n; rw [View.ld_unit_lit _ _ (by decide)]
    · intro n; rw [View.ld_unit_lit _ _ (by decide)]
    · rw [View.ld_unit_lit _ _ (by decide)]; exact congrArg (fun k => z (ix2 0 k)) (Fin.ext h1).symm

variable (m : (ℓ : Loc nD τ sig) → Buf (Elt Ideal) ℓ)

theorem entry_x (c : Dev nD) (r : Fin 8192) (n : Fin 2048) :
    V m c main_v1 (ix2 r n) = m ((c.tc : Thread nD τ).loc main_arg0) (ix3 ⟨r / 2048, by omega⟩ ⟨r % 2048, by omega⟩ n) := by
  entry_read
  pointwise

theorem entry_p (c : Dev nD) (r : Fin 8192) (k : Fin 256) :
    V m c main_v2 (ix2 r k) = m ((c.tc : Thread nD τ).loc main_arg1) (ix4 0 ⟨r / 2048, by omega⟩ ⟨r % 2048, by omega⟩ k) := by
  entry_read
  pointwise

theorem entry_u (c : Dev nD) (k : Fin 256) (n : Fin 2048) :
    V m c main_v4 (ix2 k n) = m ((c.tc : Thread nD τ).loc main_arg2) (ix3 0 k n) := by
  entry_read
  pointwise

theorem entry_w (c : Dev nD) (k : Fin 2048) (n : Fin 2048) :
    V m c main_v6 (ix2 k n) = m ((c.tc : Thread nD τ).loc main_arg3) (ix3 0 k n) := by
  entry_read
  pointwise

theorem entry_g (c : Dev nD) (n : Fin 2048) :
    V m c main_v8 (ix2 0 n) = m ((c.tc : Thread nD τ).loc main_arg4) (ix2 0 n) := by
  entry_read
  pointwise

theorem entry_z (c : Dev nD) (n : Fin 2048) :
    V m c main_v9 (ix2 0 n) = m ((c.tc : Thread nD τ).loc main_arg5) (ix1 n) := by
  entry_read
  pointwise

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem rows_lt (t : Fin cfg0.N) (j : Fin 512) : t.val * 512 + (j : ℕ) < 8192 := by
  have ht : t.val < 16 := lt_of_lt_of_eq t.isLt (by decide +kernel)
  omega

theorem point_x (c : Dev nD) (t : Fin cfg0.N) (y : S512x2048.Idx) :
    iblk m c 0 t y = V m c main_v1 (ix2 ⟨_, rows_lt t (y 0)⟩ (y 1)) := by
  blk_ext [iblk, idx t]

theorem point_p (c : Dev nD) (t : Fin cfg0.N) (y : S512x256.Idx) :
    iblk m c 1 t y = V m c main_v2 (ix2 ⟨_, rows_lt t (y 0)⟩ (y 1)) := by
  blk_ext [iblk, idx t]

theorem point_u (c : Dev nD) (t : Fin cfg0.N) (y : S256x2048.Idx) :
    iblk m c 2 t y = V m c main_v4 (ix2 (y 0) (y 1)) := by
  blk_ext [iblk, idx t]

theorem point_w (c : Dev nD) (t : Fin cfg0.N) (y : S2048x2048.Idx) :
    iblk m c 3 t y = V m c main_v6 (ix2 (y 0) (y 1)) := by
  blk_ext [iblk, idx t]

theorem point_g (c : Dev nD) (t : Fin cfg0.N) (y : S1x2048.Idx) :
    iblk m c 4 t y = V m c main_v8 (ix2 0 (y 1)) := by
  blk_ext [iblk, idx t]

theorem point_z (c : Dev nD) (t : Fin cfg0.N) (y : S1x2048.Idx) :
    iblk m c 5 t y = V m c main_v9 (ix2 0 (y 1)) := by
  blk_ext [iblk, idx t]

/-- The rows of point `t`'s block are the stream's. -/
theorem row_at (c : Dev nD) (t : Fin cfg0.N) (j : Fin 512) (n : Fin 2048) :
    blockRow (fun j n => iblk m c 0 t (ix2 j n : S512x2048.Idx)) (fun j n => iblk m c 1 t (ix2 j n : S512x256.Idx)) (iblk m c 2 t) (iblk m c 3 t) (iblk m c 4 t) j n
      = x3At (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨_, rows_lt t j⟩ n := by
  have hx : ∀ n : Fin 2048, iblk m c 0 t (ix2 j n : S512x2048.Idx) = m ((c.tc : Thread nD τ).loc main_arg0)
      (ix3 ⟨(t.val * 512 + j) / 2048, by have := rows_lt t j; omega⟩ ⟨(t.val * 512 + j) % 2048, by omega⟩ n) :=
    fun n => (point_x m c t (ix2 j n)).trans (entry_x m c _ n)
  refine congrArg₂ (· + ·) (hx n) (congrArg₂ (· * ·) (Finset.sum_congr rfl fun k _ => congrArg₂ (· * ·) ?_ ?_)
    (congrArg sigmoid (Finset.sum_congr rfl fun k _ => congrArg₂ (· * ·) ?_ ?_)))
  · exact (point_p m c t (ix2 j k)).trans (entry_p m c _ k)
  · exact (point_u m c t (ix2 k n)).trans (entry_u m c k n)
  · exact congrArg₂ (fun f g => rms f g k) (funext hx) ((point_g m c t (ix2 0 k)).trans (entry_g m c k))
  · exact (point_w m c t (ix2 k n)).trans (entry_w m c k n)

theorem flushed_at (c : Dev nD) (t : Fin cfg0.N) (y : S512x2048.Idx) :
    out0_6 (F := Ideal) (iblk m c 0 t) (iblk m c 1 t) (iblk m c 2 t) (iblk m c 3 t) (iblk m c 4 t) (iblk m c 5 t) y
      = yOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (ix2 ⟨_, rows_lt t (y 0)⟩ (y 1)) := by
  refine (block_at _ _ _ _ _ _ _).trans ?_
  exact congrArg₂ (fun f g => rms f g (y 1)) (funext fun n => row_at m c t (y 0) n) ((point_z m c t (ix2 0 (y 1))).trans (entry_z m c _))

theorem place (t : Fin cfg0.N) (y : S512x2048.Idx) : (win0_6.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

/-- The array which the kernel returns. -/
theorem final (c : Dev nD) : (dats m 0 c).arrAt 6 (cfgs 0).N =
    yOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  exact (flushed_at m c t y).trans (congrArg (yOut _ _ _ _ _ _) (place t y).symm)

end Cert.KernelPleIdeal.Ple

end
-- ==== Proof.Ple.Reference.lean ====
module

public import proofs.«01_k».proof.Proof.Gen.ReferencePleIdeal.Run
public import proofs.«01_k».proof.Proof.Ple.Value

@[expose] public section

set_option maxRecDepth 16384

noncomputable section

namespace Cert.ReferencePleIdeal.Ple

open Idealize.ShloMosaic Idealize.ShloMosaic.TcCoe Idealize.ShloMosaic.Tactic
open Idealize.SL Idealize.SL.Sem
open Idealize.ShloMosaic.Pipeline (Dat Cfg Window BodyObligation cellOf)
open Cert.ReferencePleIdeal Cert.ReferencePleIdeal.Gen Idealize.ShloMosaic.StableHlo
open Cert.Common (rms sigmoid)
open Cert.KernelPleIdeal.Ple (x3At yOut)
/-- A stream normalised by its rows' root mean squares, times the gain. -/
def normed (X : FVec Ideal S4x2048x2048 .f32) (N : FVec Ideal S2048 .f32) : FVec Ideal S4x2048x2048 .f32 :=
  (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 N)))

/-- The stream after the gated embedding, as the reference computes it. -/
def stream (X : FVec Ideal S4x2048x2048 .f32) (P : FVec Ideal S1x4x2048x256 .f32) (U : FVec Ideal S1x256x2048 .f32) (W : FVec Ideal S1x2048x2048 .f32) (N : FVec Ideal S1x2048 .f32) : FVec Ideal S4x2048x2048 .f32 :=
  addf X (mulf (Host.dotGeneral dot_S4x2048x256_S256x2048_S4x2048x2048_2_0_01_1_n_n none (shapeCast _ P shapeCasts_S1x4x2048x256_S4x2048x256) (shapeCast _ U shapeCasts_S1x256x2048_S256x2048)) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (Host.dotGeneral dot_S4x2048x2048_S2048x2048_S4x2048x2048_2_0_01_1_n_n none (normed X (shapeCast _ N shapeCasts_S1x2048_S2048)) (shapeCast _ W shapeCasts_S1x2048x2048_S2048x2048)))))))

/-- The sequences one below the other. -/
def rows (X : FVec Ideal S4x2048x2048 .f32) : FVec Ideal S8192x2048 .f32 := shapeCast _ X shapeCasts_S4x2048x2048_S8192x2048

theorem normed_at (X : FVec Ideal S4x2048x2048 .f32) (N : FVec Ideal S2048 .f32) (b : Fin 4) (l n : Fin 2048) :
    normed X N (ix3 b l n) = rms (fun j => X (ix3 b l j)) (N (ix1 n)) n := by
  unfold rms
  pointwise [normed]

theorem stream_at (X : FVec Ideal S4x2048x2048 .f32) (P : FVec Ideal S1x4x2048x256 .f32) (U : FVec Ideal S1x256x2048 .f32) (W : FVec Ideal S1x2048x2048 .f32) (N : FVec Ideal S1x2048 .f32) (r : Fin 8192) (n : Fin 2048) :
    stream X P U W N (ix3 ⟨r / 2048, by omega⟩ ⟨r % 2048, by omega⟩ n) = x3At X P U W N r n := by
  pointwise [stream, x3At, sigmoid, normed_at]

theorem rows_at (X : FVec Ideal S4x2048x2048 .f32) (r : Fin 8192) (n : Fin 2048) : rows X (ix2 r n) = X (ix3 ⟨r / 2048, by omega⟩ ⟨r % 2048, by omega⟩ n) := by
  pointwise [rows]

theorem result_eq (X : FVec Ideal S4x2048x2048 .f32) (P : FVec Ideal S1x4x2048x256 .f32) (U : FVec Ideal S1x256x2048 .f32) (W : FVec Ideal S1x2048x2048 .f32) (N : FVec Ideal S1x2048 .f32) (Z : FVec Ideal S2048 .f32) : rows (normed (stream X P U W N) Z) = yOut X P U W N Z := by
  funext i
  rw [eq_ix2 i]
  refine (rows_at _ _ _).trans ((normed_at _ _ _ _ _).trans ?_)
  exact congrArg (fun f => rms f _ _) (funext fun j => stream_at ..)

variable (m : (ℓ : Loc nD τ sig) → Buf (Elt Ideal) ℓ) (ρ : Dev nD → PrngReg)

/-- The reference's run, its result named. -/
theorem run : θ_run defs (onTc (τ := τ) (main (F := Ideal))) ⟨m, fun _ => 0, ρ⟩ fun r => ∀ c : Dev nD,
      r.2.mem ((c.tc : Thread nD τ).loc main_v40) = rows (normed (stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.ReferencePleIdeal.Ple

end
-- ==== Proof.Ple.Claims.lean ====
module

public import proofs.«01_k».proof.Defs
public import proofs.«01_k».proof.Proof.Gen.KernelPle
public import proofs.«01_k».proof.Proof.Ple.Reference
public import Idealize.ShloMosaic.Lib.Claim
public import Idealize.ShloMosaic.Lib.Quiescent

@[expose] public section

set_option maxRecDepth 16384

noncomputable section

namespace Cert.Ple

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelPle.defs₀ (F := Bits) = Cert.KernelPleIdeal.defs₀ := by
  unfold Cert.KernelPle.defs₀ Cert.KernelPleIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelPle.defs (F := Bits) = Cert.KernelPleIdeal.defs := congrArg (Pipeline.defs Cert.KernelPleIdeal.pcfgs) bodies_eq

theorem frame_kernel : Cert.quiescent_KernelPle := fun m ρ _ => by
  have h := Cert.KernelPleIdeal.Gen.frame (F := Bits) m ρ
  rw [← defs_eq] at h
  exact h

theorem frame_ideal : Cert.quiescent_KernelPleIdeal := fun m ρ _ => Cert.KernelPleIdeal.Gen.frame (F := Ideal) m ρ

theorem frame_reference : Cert.quiescent_ReferencePleIdeal := fun m ρ _ =>
  (θ_run Cert.ReferencePleIdeal.defs _ _).mono (fun r h => ⟨fun c => (h c).2, sem_eq_zero_of_no_sems (by decide) r.2⟩)
    (Cert.ReferencePleIdeal.Value.run (F := Ideal) m ρ)

/-- The kernel's result is the reference's. -/
theorem algebraic : Cert.algebraic_KernelPleIdeal_ReferencePleIdeal := by
  pair_intro
  · run_from Cert.KernelPleIdeal.Value.run_blocks m g
  · run_from Cert.ReferencePleIdeal.Ple.run m' g'
    refine Eq.trans ?_ (Cert.KernelPleIdeal.Ple.final m c).symm
    exact Cert.ReferencePleIdeal.Ple.result_eq _ _ _ _ _ _

end Cert.Ple

end
-- ==== Proof.OutProj.Value.lean ====
module

public import proofs.«01_k».proof.Proof.Gen.KernelOutIdeal.Value
public import proofs.«01_k».proof.Proof.Gen.ReferenceOutIdeal.Run
public import proofs.«01_k».proof.Proof.Common.Functions

@[expose] public section

set_option maxRecDepth 16384

noncomputable section

namespace Cert.KernelOutIdeal.OutProj

open Idealize.ShloMosaic Idealize.ShloMosaic.TcCoe Idealize.ShloMosaic.Tactic
open Idealize.SL Idealize.SL.Sem
open Idealize.ShloMosaic.Pipeline (Dat Cfg Window BodyObligation cellOf)
open Cert.KernelOutIdeal Cert.KernelOutIdeal.Gen
open Cert.Common (rms)
/-- Row `r`, feature `n` of the residual stream after the output projection. -/
def x1At (M : FVec Ideal S4x2048x2048 .bf16) (X : FVec Ideal S4x2048x2048 .f32) (W : FVec Ideal S1x2048x2048 .f32)
    (r : Fin 8192) (n : Fin 2048) : EReal :=
  X (ix3 ⟨r / 2048, by omega⟩ ⟨r % 2048, by omega⟩ n) + ∑ k : Fin 2048, M (ix3 ⟨r / 2048, by omega⟩ ⟨r % 2048, by omega⟩ k) * W (ix3 0 k n)

/-- The residual stream, an array. -/
def x1Out (M : FVec Ideal S4x2048x2048 .bf16) (X : FVec Ideal S4x2048x2048 .f32) (W : FVec Ideal S1x2048x2048 .f32) : FVec Ideal S8192x2048 .f32 :=
  fun i => x1At M X W (i 0) (i 1)

/-- The normalised stream, an array. -/
def n2Out (M : FVec Ideal S4x2048x2048 .bf16) (X : FVec Ideal S4x2048x2048 .f32) (W : FVec Ideal S1x2048x2048 .f32) (N : FVec Ideal S1x2048 .f32) : FVec Ideal S8192x2048 .bf16 :=
  fun i => rms (x1At M X W (i 0)) (N (ix2 0 (i 1))) (i 1)

/-- The residual stream of a block's row. -/
def blockRow (a : FVec Ideal S512x2048 .bf16) (x : FVec Ideal S512x2048 .f32) (w : FVec Ideal S2048x2048 .bf16) (j : Fin 512) (n : Fin 2048) : EReal :=
  x (ix2 j n) + ∑ k : Fin 2048, a (ix2 j k) * w (ix2 k n)

/-- One block of the residual stream: both halves of its rows. -/
theorem block4_at (a : FVec Ideal S512x2048 .bf16) (x : FVec Ideal S512x2048 .f32) (w : FVec Ideal S2048x2048 .bf16) (g : FVec Ideal S1x2048 .f32)
    (y : S512x2048.Idx) :
    out0_4 (F := Ideal) a x w g y = x (ix2 (y 0) (y 1)) + ∑ k : Fin 2048, a (ix2 (y 0) k) * w (ix2 k (y 1)) := by
  unfold_out out0_4
  canon_tiles z h
  all_goals (open_payloads; pointwise; blk_point [])

/-- One block of the normalised stream. -/
theorem block5_at (a : FVec Ideal S512x2048 .bf16) (x : FVec Ideal S512x2048 .f32) (w : FVec Ideal S2048x2048 .bf16) (g : FVec Ideal S1x2048 .f32)
    (y : S512x2048.Idx) :
    out0_5 (F := Ideal) a x w g y = rms (fun j => x (ix2 (y 0) j) + ∑ k : Fin 2048, a (ix2 (y 0) k) * w (ix2 k j)) (g (ix2 0 (y 1))) (y 1) := by
  unfold rms
  unfold_out out0_5
  canon_tiles z h
  all_goals (open_payloads; pointwise; blk_point [])

variable (m : (ℓ : Loc nD τ sig) → Buf (Elt Ideal) ℓ)

theorem entry_m (c : Dev nD) (r : Fin 8192) (k : Fin 2048) :
    V m c main_v0 (ix2 r k) = m ((c.tc : Thread nD τ).loc main_arg0) (ix3 ⟨r / 2048, by omega⟩ ⟨r % 2048, by omega⟩ k) := by
  entry_read
  pointwise

theorem entry_x (c : Dev nD) (r : Fin 8192) (n : Fin 2048) :
    V m c main_v1 (ix2 r n) = m ((c.tc : Thread nD τ).loc main_arg1) (ix3 ⟨r / 2048, by omega⟩ ⟨r % 2048, by omega⟩ n) := by
  entry_read
  pointwise

theorem entry_w (c : Dev nD) (k : Fin 2048) (n : Fin 2048) :
    V m c main_v3 (ix2 k n) = m ((c.tc : Thread nD τ).loc main_arg2) (ix3 0 k n) := by
  entry_read
  pointwise

theorem entry_g (c : Dev nD) (n : Fin 2048) :
    V m c main_v5 (ix2 0 n) = m ((c.tc : Thread nD τ).loc main_arg3) (ix2 0 n) := by
  entry_read
  pointwise

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem rows_lt (t : Fin cfg0.N) (j : Fin 512) : t.val * 512 + (j : ℕ) < 8192 := by
  have ht : t.val < 16 := lt_of_lt_of_eq t.isLt (by decide +kernel)
  omega

theorem point_m (c : Dev nD) (t : Fin cfg0.N) (y : S512x2048.Idx) :
    iblk m c 0 t y = V m c main_v0 (ix2 ⟨_, rows_lt t (y 0)⟩ (y 1)) := by
  blk_ext [iblk, idx t]

theorem point_x (c : Dev nD) (t : Fin cfg0.N) (y : S512x2048.Idx) :
    iblk m c 1 t y = V m c main_v1 (ix2 ⟨_, rows_lt t (y 0)⟩ (y 1)) := by
  blk_ext [iblk, idx t]

theorem point_w (c : Dev nD) (t : Fin cfg0.N) (y : S2048x2048.Idx) :
    iblk m c 2 t y = V m c main_v3 (ix2 (y 0) (y 1)) := by
  blk_ext [iblk, idx t]

theorem point_g (c : Dev nD) (t : Fin cfg0.N) (y : S1x2048.Idx) :
    iblk m c 3 t y = V m c main_v5 (ix2 0 (y 1)) := by
  blk_ext [iblk, idx t]

/-- The residual stream of point `t`'s rows from its operands' blocks. -/
theorem row_at (c : Dev nD) (t : Fin cfg0.N) (j : Fin 512) (n : Fin 2048) :
    blockRow (iblk m c 0 t) (iblk m c 1 t) (iblk m c 2 t) j n = x1At (m ((c.tc : Thread nD τ).loc main_arg0)) (m ((c.tc : Thread nD τ).loc main_arg1)) (m ((c.tc : Thread nD τ).loc main_arg2)) ⟨_, rows_lt t j⟩ n := by
  refine congrArg₂ (· + ·) ?_ (Finset.sum_congr rfl fun k _ => congrArg₂ (· * ·) ?_ ?_)
  · exact (point_x m c t (ix2 j n)).trans (entry_x m c _ _)
  · exact (point_m m c t (ix2 j k)).trans (entry_m m c _ _)
  · exact (point_w m c t (ix2 k n)).trans (entry_w m c _ _)

theorem flushed4_at (c : Dev nD) (t : Fin cfg0.N) (y : S512x2048.Idx) :
    out0_4 (F := Ideal) (iblk m c 0 t) (iblk m c 1 t) (iblk m c 2 t) (iblk m c 3 t) y
      = x1Out (m ((c.tc : Thread nD τ).loc main_arg0)) (m ((c.tc : Thread nD τ).loc main_arg1)) (m ((c.tc : Thread nD τ).loc main_arg2))
        (ix2 ⟨_, rows_lt t (y 0)⟩ (y 1)) :=
  (block4_at _ _ _ _ _).trans (row_at m c t (y 0) (y 1))

theorem flushed5_at (c : Dev nD) (t : Fin cfg0.N) (y : S512x2048.Idx) :
    out0_5 (F := Ideal) (iblk m c 0 t) (iblk m c 1 t) (iblk m c 2 t) (iblk m c 3 t) y
      = n2Out (m ((c.tc : Thread nD τ).loc main_arg0)) (m ((c.tc : Thread nD τ).loc main_arg1)) (m ((c.tc : Thread nD τ).loc main_arg2)) (m ((c.tc : Thread nD τ).loc main_arg3))
        (ix2 ⟨_, rows_lt t (y 0)⟩ (y 1)) := by
  refine (block5_at _ _ _ _ _).trans ?_
  refine Eq.trans (congrArg (fun f => rms f _ _) (funext fun n => row_at m c t (y 0) n)) ?_
  exact congrArg (fun g => rms _ g _) ((point_g m c t (ix2 0 (y 1))).trans (entry_g m c _))

theorem place4 (t : Fin cfg0.N) (y : S512x2048.Idx) : (win0_4.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

theorem place5 (t : Fin cfg0.N) (y : S512x2048.Idx) : (win0_5.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

theorem final4 (c : Dev nD) : (dats m 0 c).arrAt 4 (cfgs 0).N =
    x1Out (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact (flushed4_at m c t y).trans (congrArg (x1Out _ _ _) (place4 t y).symm)

theorem final5 (c : Dev nD) : (dats m 0 c).arrAt 5 (cfgs 0).N =
    n2Out (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  exact (flushed5_at m c t y).trans (congrArg (n2Out _ _ _ _) (place5 t y).symm)

end Cert.KernelOutIdeal.OutProj

end
-- ==== Proof.OutProj.Reference.lean ====
module

public import proofs.«01_k».proof.Proof.Gen.ReferenceOutIdeal.Run
public import proofs.«01_k».proof.Proof.OutProj.Value

@[expose] public section

set_option maxRecDepth 16384

noncomputable section

namespace Cert.ReferenceOutIdeal.OutProj

open Idealize.ShloMosaic Idealize.ShloMosaic.TcCoe Idealize.ShloMosaic.Tactic
open Idealize.SL Idealize.SL.Sem
open Idealize.ShloMosaic.Pipeline (Dat Cfg Window BodyObligation cellOf)
open Cert.ReferenceOutIdeal Cert.ReferenceOutIdeal.Gen Idealize.ShloMosaic.StableHlo
open Cert.Common (rms)
open Cert.KernelOutIdeal.OutProj (x1At x1Out n2Out)
/-- The residual stream as the reference computes it. -/
def stream (M : FVec Ideal S4x2048x2048 .bf16) (X : FVec Ideal S4x2048x2048 .f32) (W : FVec Ideal S1x2048x2048 .f32) : FVec Ideal S4x2048x2048 .f32 :=
  (addf X (Host.dotGeneral dot_S4x2048x2048_S2048x2048_S4x2048x2048_2_0_01_1_n_n none (extf .f32 M bitsLt_bf16_f32) (shapeCast _ W shapeCasts_S1x2048x2048_S2048x2048)))

/-- The residual stream, the sequences one below the other. -/
def rows (X : FVec Ideal S4x2048x2048 .f32) : FVec Ideal S8192x2048 .f32 := shapeCast _ X shapeCasts_S4x2048x2048_S8192x2048

/-- The normalised rows of a stream. -/
def normed (X : FVec Ideal S4x2048x2048 .f32) (N : FVec Ideal S1x2048 .f32) : FVec Ideal S8192x2048 .bf16 :=
  truncf .bf16 (shapeCast _ (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ N shapeCasts_S1x2048_S2048)))) shapeCasts_S4x2048x2048_S8192x2048) bitsLt_bf16_f32

theorem stream_at (M : FVec Ideal S4x2048x2048 .bf16) (X : FVec Ideal S4x2048x2048 .f32) (W : FVec Ideal S1x2048x2048 .f32) (r : Fin 8192) (n : Fin 2048) :
    stream M X W (ix3 ⟨r / 2048, by omega⟩ ⟨r % 2048, by omega⟩ n) = x1At M X W r n := by
  pointwise [stream, x1At]

theorem rows_at (X : FVec Ideal S4x2048x2048 .f32) (r : Fin 8192) (n : Fin 2048) :
    rows X (ix2 r n) = X (ix3 ⟨r / 2048, by omega⟩ ⟨r % 2048, by omega⟩ n) := by
  pointwise [rows]

theorem normed_at (X : FVec Ideal S4x2048x2048 .f32) (N : FVec Ideal S1x2048 .f32) (r : Fin 8192) (n : Fin 2048) :
    normed X N (ix2 r n) = rms (fun j => X (ix3 ⟨r / 2048, by omega⟩ ⟨r % 2048, by omega⟩ j)) (N (ix2 0 n)) n := by
  unfold rms
  pointwise [normed]

theorem rows_eq (M : FVec Ideal S4x2048x2048 .bf16) (X : FVec Ideal S4x2048x2048 .f32) (W : FVec Ideal S1x2048x2048 .f32) : rows (stream M X W) = x1Out M X W := by
  funext i
  rw [eq_ix2 i]
  exact (rows_at _ _ _).trans (stream_at ..)

theorem normed_eq (M : FVec Ideal S4x2048x2048 .bf16) (X : FVec Ideal S4x2048x2048 .f32) (W : FVec Ideal S1x2048x2048 .f32) (N : FVec Ideal S1x2048 .f32) : normed (stream M X W) N = n2Out M X W N := by
  funext i
  rw [eq_ix2 i]
  exact (normed_at _ _ _ _).trans (congrArg (fun f => rms f _ _) (funext fun j => stream_at ..))

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v18) = rows (stream (m ((c.tc : Thread nD τ).loc main_arg0)) (m ((c.tc : Thread nD τ).loc main_arg1)) (m ((c.tc : Thread nD τ).loc main_arg2)))
      ∧ r.2.mem ((c.tc : Thread nD τ).loc main_v20) = normed (stream (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceOutIdeal.OutProj

end
-- ==== Proof.OutProj.Claims.lean ====
module

public import proofs.«01_k».proof.Defs
public import proofs.«01_k».proof.Proof.Gen.KernelOut
public import proofs.«01_k».proof.Proof.OutProj.Reference
public import Idealize.ShloMosaic.Lib.Claim
public import Idealize.ShloMosaic.Lib.Quiescent

@[expose] public section

set_option maxRecDepth 16384

noncomputable section

namespace Cert.OutProj

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelOut.defs₀ (F := Bits) = Cert.KernelOutIdeal.defs₀ := by
  unfold Cert.KernelOut.defs₀ Cert.KernelOutIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelOut.defs (F := Bits) = Cert.KernelOutIdeal.defs := congrArg (Pipeline.defs Cert.KernelOutIdeal.pcfgs) bodies_eq

theorem frame_kernel : Cert.quiescent_KernelOut := fun m ρ _ => by
  have h := Cert.KernelOutIdeal.Gen.frame (F := Bits) m ρ
  rw [← defs_eq] at h
  exact h

theorem frame_ideal : Cert.quiescent_KernelOutIdeal := fun m ρ _ => Cert.KernelOutIdeal.Gen.frame (F := Ideal) m ρ

theorem frame_reference : Cert.quiescent_ReferenceOutIdeal := fun m ρ _ =>
  (θ_run Cert.ReferenceOutIdeal.defs _ _).mono (fun r h => ⟨fun c => (h c).2.2, sem_eq_zero_of_no_sems (by decide) r.2⟩)
    (Cert.ReferenceOutIdeal.Value.run (F := Ideal) m ρ)

/-- Both results of the kernel are the reference's. -/
theorem algebraic : Cert.algebraic_KernelOutIdeal_ReferenceOutIdeal := by
  pair_intro
  · run_from Cert.KernelOutIdeal.Value.run_blocks m g
  · run_from Cert.ReferenceOutIdeal.OutProj.run m' g'
    · refine Eq.trans ?_ (Cert.KernelOutIdeal.OutProj.final4 m c).symm
      exact Cert.ReferenceOutIdeal.OutProj.rows_eq _ _ _
    · refine Eq.trans ?_ (Cert.KernelOutIdeal.OutProj.final5 m c).symm
      exact Cert.ReferenceOutIdeal.OutProj.normed_eq _ _ _ _

end Cert.OutProj

end
-- ==== Proof.Up.Body.lean ====
module

public import proofs.«01_k».proof.Proof.Gen.KernelUpIdeal.Frame
public import proofs.«01_k».proof.Proof.Gen.KernelUpIdeal.Skeleton
public import Idealize.ShloMosaic.Lib.Pipeline.ValueKit
public import Idealize.ShloMosaic.Lib.WritesUnit

@[expose] public section

set_option maxRecDepth 16384

noncomputable section

namespace Cert.KernelUpIdeal.Up

open Idealize.ShloMosaic Idealize.ShloMosaic.TcCoe Idealize.ShloMosaic.Tactic
open Idealize.SL Idealize.SL.Sem
open Idealize.ShloMosaic.Pipeline (Dat Cfg Window BodyObligation cellOf)
open Idealize.SL.RA Idealize.SL.BI
open scoped Idealize.SL.BI
open Idealize.SL.BI.BIBase Idealize.SL.BI.Laws Idealize.SL.ProofMode
open Idealize.ShloMosaic.Rounds
open Cert.KernelUpIdeal Cert.KernelUpIdeal.Gen
variable {F : FTy → Type} [FloatOps F]

local notation "𝕄" => MT nD τ sig Unit (Elt F) ℕ (UR sig nD τ) ℕ

/-- Whether the step is the first of its sequence, as the body decides it. -/
def first (i : grid0.Coords) : BitVec 1 :=
  let v3 : BitVec 32 := Scalar.select (Scalar.cmpi .eq 2#32 0#32) 1#32 2#32
  let v4 : BitVec 32 := Scalar.remsi (BitVec.ofNat 32 (i 0).val) v3
  Scalar.cmpi .eq (Scalar.select (Scalar.andi (Scalar.xori (Scalar.cmpi .slt v4 0#32) (Scalar.cmpi .slt v3 0#32)) (Scalar.cmpi .ne v4 0#32)) (Scalar.addi v4 v3) v4) 0#32

/-- The columns of the body's first pass, and those of its second. -/
def left {n : ℕ} {e : EltTy} (x : Vec F ⟨2, ![n, 512]⟩ e) : Vec F ⟨2, ![n, 256]⟩ e :=
  fun y => x (ix2 (y 0) ⟨(y 1).val, by have h : (y 1).val < 256 := (y 1).isLt; omega⟩)
def right {n : ℕ} {e : EltTy} (x : Vec F ⟨2, ![n, 512]⟩ e) : Vec F ⟨2, ![n, 256]⟩ e :=
  fun y => x (ix2 (y 0) ⟨256 + (y 1).val, by have h : (y 1).val < 256 := (y 1).isLt; omega⟩)

/-- The two passes' columns side by side. -/
def beside {n : ℕ} {e : EltTy} (a b : Vec F ⟨2, ![n, 256]⟩ e) : Vec F ⟨2, ![n, 512]⟩ e := fun y =>
  if h : (y 1).val < 256 then a (ix2 (y 0) ⟨(y 1).val, h⟩)
  else b (ix2 (y 0) ⟨(y 1).val - 256, by have h : (y 1).val < 512 := (y 1).isLt; omega⟩)

/-- One slab of the scratch, the scratch with one slab replaced, and a pass's columns of a slab as the body loads them. -/
def slab (j : Fin 11) (h : Vec F S11x8x512 .f32) : Vec F S8x512 .f32 := fun y => h (ix3 j (y 0) (y 1))
def putSlab (j : Fin 11) (t : Vec F S8x512 .f32) (h : Vec F S11x8x512 .f32) : Vec F S11x8x512 .f32 :=
  fun y => if (y 0).val = j.val then t (ix2 (y 1) (y 2)) else h y
def boxed (s : Vec F S8x256 .f32) : Vec F S1x8x256 .f32 := fun y => s (ix2 (y 1) (y 2))

/-- The last eight rows of the gate's product. -/
def tail (x0 : Vec F S1024x2048 .bf16) (x1 : Vec F S2048x512 .f32) : Vec F S8x512 .f32 :=
  beside (n := 8) (k0_pay7 x0 (left (n := 2048) x1)) (k0_pay7 x0 (right (n := 2048) x1))

/-- What a pass stores for its columns of the activations: `s` the scratch's rows of those columns. -/
def pass (z : BitVec 1) (x0 : Vec F S1024x2048 .bf16) (g u : Vec F S2048x256 .f32) (k : Vec F S3x256 .f32) (b : Vec F S1x256 .f32)
    (s : Vec F S8x256 .f32) : Vec F S1024x256 .bf16 :=
  k0_pay8 (k0_pay3 x0 g) (k0_pay4 x0 u) (k0_pay12 z (boxed s)) b k

/-- What a step stores for its rows of the activations. -/
def act (z : BitVec 1) (x0 : Vec F S1024x2048 .bf16) (x1 x2 : Vec F S2048x512 .f32) (x3 : Vec F S3x512 .f32) (x4 : Vec F S1x512 .f32)
    (s : Vec F S8x512 .f32) : Vec F S1024x512 .bf16 :=
  beside (n := 1024) (pass z x0 (left (n := 2048) x1) (left (n := 2048) x2) (left (n := 3) x3) (left (n := 1) x4) (left (n := 8) s))
    (pass z x0 (right (n := 2048) x1) (right (n := 2048) x2) (right (n := 3) x3) (right (n := 1) x4) (right (n := 8) s))

theorem off1 (i : grid0.Coords) : k0_off1 i = ![(i 1).val, 0, 0] := by
  have h : (i 1).val < 11 := (i 1).isLt
  unfold k0_off1
  generalize (i 1).val = n at h ⊢
  interval_cases n <;> rfl

theorem off2 (i : grid0.Coords) : k0_off2 i = ![(i 1).val, 0, 256] := by
  have h : (i 1).val < 11 := (i 1).isLt
  unfold k0_off2
  generalize (i 1).val = n at h ⊢
  interval_cases n <;> rfl

/-- Loading the first 256 columns. -/
theorem load_left {n : ℕ} {e : EltTy} (M : Memref sig .tc .vmem ⟨2, ![n, 512]⟩ e) (hM : M.IsWhole)
    (inb : ∀ a, (![0, 0] : Fin 2 → ℕ) a + (![n, 256] : Fin 2 → ℕ) a ≤ (![n, 512] : Fin 2 → ℕ) a) (X : Vec F ⟨2, ![n, 512]⟩ e) :
    View.readAt (Elt F) M.view (Rect.unit (s := ⟨2, ![n, 512]⟩) ![0, 0] ![n, 256] inb).toLoadRect (hM.unread X) = left X := by
  refine (congrArg (fun Y => View.ld Y _) (hM.read_unread X)).trans (funext fun y => ?_)
  refine View.ld_unit_apply_of _ _ _ inb y _ fun a => ?_
  match a with
  | ⟨0, _⟩ => exact (Nat.zero_add _).symm
  | ⟨1, _⟩ => exact (Nat.zero_add _).symm

/-- Loading the last 256 columns. -/
theorem load_right {n : ℕ} {e : EltTy} (M : Memref sig .tc .vmem ⟨2, ![n, 512]⟩ e) (hM : M.IsWhole)
    (inb : ∀ a, (![0, 256] : Fin 2 → ℕ) a + (![n, 256] : Fin 2 → ℕ) a ≤ (![n, 512] : Fin 2 → ℕ) a) (X : Vec F ⟨2, ![n, 512]⟩ e) :
    View.readAt (Elt F) M.view (Rect.unit (s := ⟨2, ![n, 512]⟩) ![0, 256] ![n, 256] inb).toLoadRect (hM.unread X) = right X := by
  refine (congrArg (fun Y => View.ld Y _) (hM.read_unread X)).trans (funext fun y => ?_)
  refine View.ld_unit_apply_of _ _ _ inb y _ fun a => ?_
  match a with
  | ⟨0, _⟩ => exact (Nat.zero_add _).symm
  | ⟨1, _⟩ => rfl

/-- Loading a slab's first 256 columns. -/
theorem load_slab_left (i : grid0.Coords) (M : Memref sig .tc .vmem S11x8x512 .f32) (hM : M.IsWhole)
    (inb : ∀ a, k0_off1 i a + S1x8x256.size a ≤ S11x8x512.size a) (X : Vec F S11x8x512 .f32) :
    View.readAt (Elt F) M.view (Rect.unit (s := S11x8x512) (k0_off1 i) S1x8x256.size inb).toLoadRect (hM.unread X)
      = boxed (left (n := 8) (slab (i 1) X)) := by
  refine (congrArg (fun Y => View.ld Y _) (hM.read_unread X)).trans (funext fun y => ?_)
  have h0 : (y 0).val = 0 := Nat.lt_one_iff.mp (y 0).isLt
  refine View.ld_unit_apply_of _ _ _ inb y _ fun a => ?_
  refine Eq.trans ?_ (congrArg (· + (y a).val) (congrFun (off1 i) a).symm)
  match a with
  | ⟨0, _⟩ => exact (congrArg ((i 1).val + ·) h0).symm
  | ⟨1, _⟩ => exact (Nat.zero_add _).symm
  | ⟨2, _⟩ => exact (Nat.zero_add _).symm

/-- Loading a slab's last 256 columns. -/
theorem load_slab_right (i : grid0.Coords) (M : Memref sig .tc .vmem S11x8x512 .f32) (hM : M.IsWhole)
    (inb : ∀ a, k0_off2 i a + S1x8x256.size a ≤ S11x8x512.size a) (X : Vec F S11x8x512 .f32) :
    View.readAt (Elt F) M.view (Rect.unit (s := S11x8x512) (k0_off2 i) S1x8x256.size inb).toLoadRect (hM.unread X)
      = boxed (right (n := 8) (slab (i 1) X)) := by
  refine (congrArg (fun Y => View.ld Y _) (hM.read_unread X)).trans (funext fun y => ?_)
  have h0 : (y 0).val = 0 := Nat.lt_one_iff.mp (y 0).isLt
  refine View.ld_unit_apply_of _ _ _ inb y _ fun a => ?_
  refine Eq.trans ?_ (congrArg (· + (y a).val) (congrFun (off2 i) a).symm)
  match a with
  | ⟨0, _⟩ => exact (congrArg ((i 1).val + ·) h0).symm
  | ⟨1, _⟩ => exact (Nat.zero_add _).symm
  | ⟨2, _⟩ => rfl

/-- The two passes' stores leave their columns side by side. -/
theorem beside_writes {n : ℕ} {e : EltTy} (v : View sig .tc .vmem ⟨2, ![n, 512]⟩ e) (f : v.ty.Contents (Elt F))
    (inb : ∀ a, (![0, 0] : Fin 2 → ℕ) a + (![n, 256] : Fin 2 → ℕ) a ≤ (![n, 512] : Fin 2 → ℕ) a)
    (inb' : ∀ a, (![0, 256] : Fin 2 → ℕ) a + (![n, 256] : Fin 2 → ℕ) a ≤ (![n, 512] : Fin 2 → ℕ) a)
    (a b : Vec F ⟨2, ![n, 256]⟩ e) :
    v.read (Elt F) (v.writes (Elt F) f [⟨Rect.unit (s := ⟨2, ![n, 512]⟩) ![0, 256] ![n, 256] inb', b⟩,
      ⟨Rect.unit (s := ⟨2, ![n, 512]⟩) ![0, 0] ![n, 256] inb, a⟩]) = beside a b := by
  funext y
  have hy : (y 1).val < 512 := (y 1).isLt
  unfold beside
  by_cases h : (y 1).val < 256
  · rw [dif_pos h]
    refine (View.read_writes_cons_unit_of_not_mem v f inb' b _ y rfl (1 : Fin 2) (Or.inl h)).trans ?_
    refine View.read_writes_cons_unit_of_mem v f inb a _ y (ix2 (y 0) ⟨(y 1).val, h⟩) rfl fun k => ?_
    match k with
    | ⟨0, _⟩ => exact (Nat.zero_add _).symm
    | ⟨1, _⟩ => exact (Nat.zero_add _).symm
  · rw [dif_neg h]
    refine View.read_writes_cons_unit_of_mem v f inb' b _ y (ix2 (y 0) ⟨(y 1).val - 256, by omega⟩) rfl fun k => ?_
    match k with
    | ⟨0, _⟩ => exact (Nat.zero_add _).symm
    | ⟨1, _⟩ => exact (show (y 1).val = 256 + ((y 1).val - 256) by omega)

theorem boxed_tail (x0 : Vec F S1024x2048 .bf16) (g : Vec F S2048x256 .f32) : k0_pay6 x0 g = boxed (k0_pay7 x0 g) := by
  funext y
  rw [eq_ix3 y]
  have h0 : y 0 = (0 : Fin 1) := Subsingleton.elim (α := Fin 1) _ _
  rw [h0]
  pointwise [k0_pay6, k0_pay7, boxed]

/-- The two passes' stores in the scratch replace its slab. -/
theorem slab_writes (i : grid0.Coords) (v : View sig .tc .vmem S11x8x512 .f32) (f : v.ty.Contents (Elt F)) (h : Vec F S11x8x512 .f32)
    (hf : v.read (Elt F) f = h)
    (inb : ∀ a, k0_off1 i a + S1x8x256.size a ≤ S11x8x512.size a) (inb' : ∀ a, k0_off2 i a + S1x8x256.size a ≤ S11x8x512.size a)
    (a b : Vec F S8x256 .f32) :
    v.read (Elt F) (v.writes (Elt F) f [⟨Rect.unit (s := S11x8x512) (k0_off2 i) S1x8x256.size inb', boxed b⟩,
      ⟨Rect.unit (s := S11x8x512) (k0_off1 i) S1x8x256.size inb, boxed a⟩]) = putSlab (i 1) (beside (n := 8) a b) h := by
  funext y
  have hy : (y 2).val < 512 := (y 2).isLt
  unfold putSlab
  by_cases hj : (y 0).val = (i 1).val
  · rw [if_pos hj]
    unfold beside
    by_cases hc : (y 2).val < 256
    · refine Eq.trans ?_ (dif_pos hc).symm
      refine (View.read_writes_cons_unit_of_not_mem v f inb' _ _ y (off2 i) (2 : Fin 3) (Or.inl hc)).trans ?_
      refine (View.read_writes_cons_unit_of_mem v f inb _ _ y (ix3 0 (y 1) ⟨(y 2).val, hc⟩) (off1 i) fun k => ?_).trans ?_
      · match k with
        | ⟨0, _⟩ => exact hj
        | ⟨1, _⟩ => exact (Nat.zero_add _).symm
        | ⟨2, _⟩ => exact (Nat.zero_add _).symm
      · rfl
    · refine Eq.trans ?_ (dif_neg hc).symm
      refine (View.read_writes_cons_unit_of_mem v f inb' _ _ y (ix3 0 (y 1) ⟨(y 2).val - 256, by omega⟩) (off2 i) fun k => ?_).trans ?_
      · match k with
        | ⟨0, _⟩ => exact hj
        | ⟨1, _⟩ => exact (Nat.zero_add _).symm
        | ⟨2, _⟩ => exact (show (y 2).val = 256 + ((y 2).val - 256) by omega)
      · rfl
  · rw [if_neg hj]
    have ho : (y 0).val < (i 1).val ∨ (i 1).val + 1 ≤ (y 0).val := by omega
    refine (View.read_writes_cons_unit_of_not_mem v f inb' _ _ y (off2 i) (0 : Fin 3) ho).trans ?_
    refine (View.read_writes_cons_unit_of_not_mem v f inb _ _ y (off1 i) (0 : Fin 3) ho).trans ?_
    exact congrFun hf y

/-- Loading a whole buffer that holds `X` reads `X`. -/
theorem load_whole {S : Shape} {e : EltTy} (M : Memref sig .tc .vmem S e) (hM : M.IsWhole) {off : Fin S.rank → Nat}
    (inb : ∀ a, off a + S.size a ≤ S.size a) (X : Vec F S e) (h0 : ∀ a, off a = 0) :
    View.readAt (Elt F) M.view (Rect.unit (s := S) off S.size inb).toLoadRect (hM.unread X) = X :=
  (congrArg (fun Y => View.ld Y _) (hM.read_unread X)).trans (View.ld_unit_lit _ _ h0)

set_option maxHeartbeats 1000000 in
/-- The body at a step that finds `h` in the scratch: it stores the step's activations, the last eight rows of the gate's
    product as the step's tail, and the same rows in the scratch's slab of the column block. -/
theorem body_step (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x512 .f32) (harg8 : arg8.IsWhole) (arg9 : Memref sig .tc .vmem S11x8x512 .f32) (harg9 : arg9.IsWhole)
    (x0 : Vec F S1024x2048 .bf16) (x1 : Vec F S2048x512 .f32) (x2 : Vec F S2048x512 .f32) (x3 : Vec F S3x512 .f32) (x4 : Vec F S1x512 .f32) (h : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (act (first i) x0 x1 x2 x3 x4 (slab (i 1) h)) ∗ owns (c : Thread nD τ) arg8 fullShare (tail x0 x1) ∗ owns (c : Thread nD τ) arg9 fullShare (putSlab (i 1) (tail x0 x1) h)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    frame_open
    rw [load_whole arg2 harg2 _ x0 (by decide), load_left arg3 harg3 _ x1, load_right arg3 harg3 _ x1, load_left arg4 harg4 _ x2,
      load_right arg4 harg4 _ x2, load_left arg5 harg5 _ x3, load_right arg5 harg5 _ x3, load_left arg6 harg6 _ x4,
      load_right arg6 harg6 _ x4, load_slab_left i arg9 harg9 _ h, load_slab_right i arg9 harg9 _ h]
    exact beside_writes arg7.view _ _ _ (pass (first i) x0 (left (n := 2048) x1) (left (n := 2048) x2) (left (n := 3) x3) (left (n := 1) x4) (left (n := 8) (slab (i 1) h)))
      (pass (first i) x0 (right (n := 2048) x1) (right (n := 2048) x2) (right (n := 3) x3) (right (n := 1) x4) (right (n := 8) (slab (i 1) h)))
  isplitl [H6]
  · iexists _; isplitr
    swap; · iexact H6
    ipureintro
    frame_open
    rw [load_whole arg2 harg2 _ x0 (by decide), load_left arg3 harg3 _ x1, load_right arg3 harg3 _ x1]
    exact beside_writes arg8.view _ _ _ (k0_pay7 x0 (left (n := 2048) x1)) (k0_pay7 x0 (right (n := 2048) x1))
  iexists _; isplitr
  swap; · iexact HS0
  ipureintro
  frame_open
  rw [load_whole arg2 harg2 _ x0 (by decide), load_left arg3 harg3 _ x1, load_right arg3 harg3 _ x1]
  change View.read (Elt F) arg9.view (arg9.view.writes (Elt F) (harg9.unread h)
    [⟨Rect.unit (k0_off2 i) S1x8x256.size _, k0_pay6 x0 (right (n := 2048) x1)⟩,
      ⟨Rect.unit (k0_off1 i) S1x8x256.size _, k0_pay6 x0 (left (n := 2048) x1)⟩]) = _
  rw [boxed_tail, boxed_tail]
  exact slab_writes i arg9.view _ h hfs0 _ _ _ _

end Cert.KernelUpIdeal.Up

end
-- ==== Proof.Up.Launch.lean ====
module

public import proofs.«01_k».proof.Proof.Up.Body

@[expose] public section

set_option maxRecDepth 16384

noncomputable section

namespace Cert.KernelUpIdeal.Up

open Idealize.ShloMosaic Idealize.ShloMosaic.TcCoe Idealize.ShloMosaic.Tactic
open Idealize.SL Idealize.SL.Sem
open Idealize.ShloMosaic.Pipeline (Dat Cfg Window BodyObligation cellOf)
open Idealize.SL.RA Idealize.SL.BI
open scoped Idealize.SL.BI
open Idealize.SL.BI.BIBase Idealize.SL.BI.Laws Idealize.SL.ProofMode
open Idealize.ShloMosaic.Rounds
open Cert.KernelUpIdeal Cert.KernelUpIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first step of a sequence does not depend on what the scratch holds. -/
theorem act_first (x0 : Vec F S1024x2048 .bf16) (x1 x2 : Vec F S2048x512 .f32) (x3 : Vec F S3x512 .f32) (x4 : Vec F S1x512 .f32)
    (s s' : Vec F S8x512 .f32) : act 1#1 x0 x1 x2 x3 x4 s = act 1#1 x0 x1 x2 x3 x4 s' := rfl

/-- A step is the first of its sequence when its row block is even, -/
theorem first_even (t : Fin cfg0.N) (h : t.val / 11 % 2 = 0) : first (grid0.coords t) = 1#1 := by
  have ht : t.val < 88 := Nat.lt_of_lt_of_eq t.isLt N_0
  have e0 : (grid0.coords t 0).val = t.val / 11 % 8 := Pipeline.Grid.coords_val t 0 (by decide) rfl
  unfold first
  simp only [e0]
  have : t.val / 11 = 0 ∨ t.val / 11 = 2 ∨ t.val / 11 = 4 ∨ t.val / 11 = 6 := by omega
  rcases this with e | e | e | e <;> rw [e] <;> rfl

/-- and is not when it is odd. -/
theorem first_odd (t : Fin cfg0.N) (h : ¬t.val / 11 % 2 = 0) : first (grid0.coords t) = 0#1 := by
  have ht : t.val < 88 := Nat.lt_of_lt_of_eq t.isLt N_0
  have e0 : (grid0.coords t 0).val = t.val / 11 % 8 := Pipeline.Grid.coords_val t 0 (by decide) rfl
  unfold first
  simp only [e0]
  have : t.val / 11 = 1 ∨ t.val / 11 = 3 ∨ t.val / 11 = 5 ∨ t.val / 11 = 7 := by omega
  rcases this with e | e | e | e <;> rw [e] <;> rfl

/-- The step of the same columns one row block before, and the last rows of its gate product. -/
def earlier (t : Fin cfg0.N) : Fin cfg0.N := ⟨t.val - 11, Nat.lt_of_le_of_lt (Nat.sub_le _ _) t.isLt⟩
def halo (c : Dev nD) (t : Fin cfg0.N) : Vec F S8x512 .f32 := tail (iblk m c 0 (earlier t)) (iblk m c 1 (earlier t))

/-- The column block of a step. -/
def column (t : Fin cfg0.N) : Fin 11 := grid0.coords t 1

theorem column_val (t : Fin cfg0.N) : (column t).val = t.val % 11 := by
  have e1 : (grid0.coords t 1).val = t.val / 1 % 11 := Pipeline.Grid.coords_val t 1 (by decide) rfl
  rw [Nat.div_one] at e1
  exact e1

/-- What the scratch holds before step `n`: in each slab that a step among the last eleven has written, the last rows of that
    step's gate product. -/
def Keeps (c : Dev nD) (n : ℕ) (h : Vec F S11x8x512 .f32) : Prop :=
  ∀ t : Fin cfg0.N, t.val < n → n ≤ t.val + 11 → slab (column t) h = tail (iblk m c 0 t) (iblk m c 1 t)

theorem slab_put (j : Fin 11) (x : Vec F S8x512 .f32) (h : Vec F S11x8x512 .f32) : slab j (putSlab j x h) = x := by
  funext y
  unfold slab putSlab
  refine (if_pos rfl).trans (congrArg x (eq_ix2 y).symm)

theorem slab_put_other (j k : Fin 11) (hjk : k.val ≠ j.val) (x : Vec F S8x512 .f32) (h : Vec F S11x8x512 .f32) :
    slab k (putSlab j x h) = slab k h := by
  funext y
  unfold slab putSlab
  exact if_neg hjk

/-- A step keeps this of the scratch. -/
theorem keeps_step (c : Dev nD) (t : Fin cfg0.N) (h : Vec F S11x8x512 .f32) (hk : Keeps m c t.val h) :
    Keeps m c (t.val + 1) (putSlab (column t) (tail (iblk m c 0 t) (iblk m c 1 t)) h) := by
  intro u hu hn
  by_cases e : u = t
  · subst e; exact slab_put _ _ _
  · have hne : u.val ≠ t.val := fun x => e (Fin.ext x)
    rw [slab_put_other _ _ (by rw [column_val, column_val]; omega)]
    exact hk u (by omega) (by omega)

/-- So the step stores its rows of the activations over the halo. -/
theorem act_halo (c : Dev nD) (t : Fin cfg0.N) (h : Vec F S11x8x512 .f32) (hk : Keeps m c t.val h) :
    act (first (grid0.coords t)) (iblk m c 0 t) (iblk m c 1 t) (iblk m c 2 t) (iblk m c 3 t) (iblk m c 4 t) (slab (column t) h)
      = act (first (grid0.coords t)) (iblk m c 0 t) (iblk m c 1 t) (iblk m c 2 t) (iblk m c 3 t) (iblk m c 4 t) (halo m c t) := by
  by_cases hf : t.val / 11 % 2 = 0
  · rw [first_even t hf]; exact act_first _ _ _ _ _ _ _
  · have h11 : 11 ≤ t.val := by omega
    have hv : (earlier t).val = t.val - 11 := rfl
    have hcol : column (earlier t) = column t := Fin.ext (by rw [column_val, column_val, hv]; omega)
    rw [← hcol, hk (earlier t) (by rw [hv]; omega) (by rw [hv]; omega)]
    rfl

/-- The scratch of the body, a whole buffer. -/
abbrev scratch : Memref sig .tc .vmem S11x8x512 .f32 := Memref.whole cc0_scratch0

theorem start_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- What holds between grid steps. -/
def between (c : Dev nD) (n : ℕ) (hn : n ≤ cfg0.N) : sProp 𝕄 :=
  iprop((∃ h, ⌜Keeps m c n h⌝ ∗ owns (c : Thread nD τ) scratch fullShare h) ∗ (∃ r, prngReg c r))

/-- The pipeline's proof data: each input's buffer keeps its block, the results' buffers hold what the step stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => act (first (grid0.coords t)) (iblk m c 0 t) (iblk m c 1 t) (iblk m c 2 t) (iblk m c 3 t) (iblk m c 4 t) (halo m c t)
    | ⟨6, _⟩ => tail (iblk m c 0 t) (iblk m c 1 t)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = act (first (grid0.coords t)) (iblk m c 0 t) (iblk m c 1 t) (iblk m c 2 t) (iblk m c 3 t) (iblk m c 4 t) (halo m c t) := by dsimp only [dats]
theorem after_6 (c : Dev nD) (t : Fin cfg0.N) : (dats m 0 c).after 6 t = tail (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The windows' current buffers at step `t`. -/
abbrev ms_0 (t : Fin cfg0.N) : Memref sig .tc .vmem S1024x2048 .bf16 := win0_0.stage (cfg0.slots t 0)
abbrev ms_1 (t : Fin cfg0.N) : Memref sig .tc .vmem S2048x512 .f32 := win0_1.stage (cfg0.slots t 1)
abbrev ms_2 (t : Fin cfg0.N) : Memref sig .tc .vmem S2048x512 .f32 := win0_2.stage (cfg0.slots t 2)
abbrev ms_3 (t : Fin cfg0.N) : Memref sig .tc .vmem S3x512 .f32 := win0_3.stage (cfg0.slots t 3)
abbrev ms_4 (t : Fin cfg0.N) : Memref sig .tc .vmem S1x512 .f32 := win0_4.stage (cfg0.slots t 4)
abbrev ms_5 (t : Fin cfg0.N) : Memref sig .tc .vmem S1024x512 .bf16 := win0_5.stage (cfg0.slots t 5)
abbrev ms_6 (t : Fin cfg0.N) : Memref sig .tc .vmem S8x512 .f32 := win0_6.stage (cfg0.slots t 6)

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t))

set_option maxHeartbeats 3200000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, between_castSucc m c t,
    after_0, after_1, after_2, after_3, after_4, after_5, after_6]
  rw [show (dats m 0 c).Φ t.succ = between m c (t.val + 1) t.isLt from rfl]
  unfold between
  iintro ⟨⟨⟨%h, %hk, HS⟩, Hg⟩, Ho, ⟨%d0, H0⟩, ⟨%d1, H1⟩, ⟨%d2, H2⟩, ⟨%d3, H3⟩, ⟨%d4, H4⟩, ⟨%d5, H5⟩, ⟨%d6, H6⟩⟩
  rw [← act_halo m c t h hk]
  iapply (body_step c (grid0.coords t) _ _ _ _ _ _ _ _ _ _ _ _ _ _ _ _ (iblk m c 0 t) (iblk m c 1 t) (iblk m c 2 t) (iblk m c 3 t) (iblk m c 4 t) h Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS Hg]
  · isplitl [HS]
    · iexists _; isplitr
      swap; · iexact HS
      ipureintro
      exact keeps_step m c t h hk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, start_eq]
  unfold between
  iintro ⟨⟨%h, H⟩, Hg⟩
  isplitl [H]
  · iexists h; isplitr
    · ipureintro
      intro u hu _
      exact absurd hu (Nat.not_lt_zero _)
    iexact H
  iexact Hg

theorem hout (c : Dev nD) : (dats m 0 c).Φ (Fin.last cfg0.N) ⊢ Pipeline.ΦA spec0 c := by
  rw [show (dats m 0 c).Φ (Fin.last cfg0.N) = between m c cfg0.N (le_refl _) from rfl, start_eq]
  unfold between
  iintro ⟨⟨%h, -, H⟩, Hg⟩
  isplitl [H]; · iexists _; iexact H
  iexact Hg

set_option backward.isDefEq.respectTransparency.types false in
/-- The whole run: it terminates, each array of the pipeline ends at the blocks written back, the other arrays at what the
    operations after the call leave, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose)
    (hshare := fun c w => by
      unfold Pipeline.Dat.share
      split
      · rfl
      · dsimp only [dats]) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.KernelUpIdeal.Up

end
-- ==== Proof.Up.Value.lean ====
module

public import proofs.«01_k».proof.Proof.Up.Launch
public import proofs.«01_k».proof.Proof.Common.Functions
public import Idealize.ShloMosaic.Lib.Pipeline.ValueKit

@[expose] public section

set_option maxRecDepth 16384

noncomputable section

namespace Cert.KernelUpIdeal.Up

open Idealize.ShloMosaic Idealize.ShloMosaic.TcCoe Idealize.ShloMosaic.Tactic
open Idealize.SL Idealize.SL.Sem
open Idealize.ShloMosaic.Pipeline (Dat Cfg Window BodyObligation cellOf)
open Cert.KernelUpIdeal Cert.KernelUpIdeal.Gen
open Cert.Common (sigmoid silu_tanh)
/-- Row `r`, channel `n` of the gate's product, and of any product of the rows with a weight. -/
def gate (N : FVec Ideal S4x2048x2048 .bf16) (W : FVec Ideal S1x2048x5632 .f32) (r : Fin 8192) (n : Fin 5632) : EReal :=
  ∑ k : Fin 2048, N (ix3 ⟨r / 2048, by omega⟩ ⟨r % 2048, by omega⟩ k) * W (ix3 0 k n)

/-- The gate's product `d` rows earlier in the row's own sequence, zero before its start. -/
def back (d : ℕ) (N : FVec Ideal S4x2048x2048 .bf16) (W : FVec Ideal S1x2048x5632 .f32) (r : Fin 8192) (n : Fin 5632) : EReal :=
  if r.val % 2048 < d then 0 else gate N W ⟨r - d, by omega⟩ n

/-- The causal convolution of the gate's product with the three taps, and its bias. -/
def conv (N : FVec Ideal S4x2048x2048 .bf16) (W : FVec Ideal S1x2048x5632 .f32) (K : FVec Ideal S1x3x5632 .f32) (B : FVec Ideal S1x5632 .f32) (r : Fin 8192) (n : Fin 5632) : EReal :=
  back 2 N W r n * K (ix3 0 0 n) + back 1 N W r n * K (ix3 0 1 n) + gate N W r n * K (ix3 0 2 n) + B (ix2 0 n)

/-- Row `r`, channel `n` of the activations. -/
def upAt (N : FVec Ideal S4x2048x2048 .bf16) (W : FVec Ideal S1x2048x5632 .f32) (U : FVec Ideal S1x2048x5632 .f32) (K : FVec Ideal S1x3x5632 .f32) (B : FVec Ideal S1x5632 .f32) (r : Fin 8192) (n : Fin 5632) : EReal :=
  conv N W K B r n * sigmoid (conv N W K B r n) * gate N U r n

/-- The activations, an array. -/
def upOut (N : FVec Ideal S4x2048x2048 .bf16) (W : FVec Ideal S1x2048x5632 .f32) (U : FVec Ideal S1x2048x5632 .f32) (K : FVec Ideal S1x3x5632 .f32) (B : FVec Ideal S1x5632 .f32) : FVec Ideal S8192x5632 .bf16 := fun i => upAt N W U K B (i 0) (i 1)

/-- The last two rows of each sequence's gate product, an array. -/
def stateOut (N : FVec Ideal S4x2048x2048 .bf16) (W : FVec Ideal S1x2048x5632 .f32) : FVec Ideal S4x2x5632 .f32 :=
  fun i => gate N W ⟨(i 0).val * 2048 + 2046 + (i 1).val, by
    have h0 : (i 0).val < 4 := (i 0).isLt
    have h1 : (i 1).val < 2 := (i 1).isLt
    omega⟩ (i 2)

theorem gate_congr {N : FVec Ideal S4x2048x2048 .bf16} {W : FVec Ideal S1x2048x5632 .f32} {r r' : Fin 8192} {n n' : Fin 5632} (hr : (r : ℕ) = r') (hn : n = n') :
    gate N W r n = gate N W r' n' := by
  rw [Fin.ext hr, hn]

/-- A block's rows one row earlier, the rows before it giving the first. -/
def shift1 (u : FVec Ideal S1024x256 .f32) (h : FVec Ideal S8x256 .f32) : FVec Ideal S1024x256 .f32 :=
  concatenate S1024x256 0 [⟨S8x256, select (cmpi .slt (iota .tc S8x256 32 [0] iota_S8x256_d0_w32) (broadcast S8x256 1#32))
      (dynamicRotate 0 1#32 none h rotates_S8x256_d0) (extractStridedSlice S8x256 ![0, 0] (dynamicRotate 0 1#32 none u rotates_S1024x256_d0) slices_S1024x256_o0_0_S8x256)⟩,
    ⟨S1016x256, extractStridedSlice S1016x256 ![8, 0] (dynamicRotate 0 1#32 none u rotates_S1024x256_d0) slices_S1024x256_o8_0_S1016x256⟩] concatenates_S8x256_S1016x256_S1024x256_d0

/-- And two rows earlier. -/
def shift2 (u : FVec Ideal S1024x256 .f32) (h : FVec Ideal S8x256 .f32) : FVec Ideal S1024x256 .f32 :=
  concatenate S1024x256 0 [⟨S8x256, select (cmpi .slt (iota .tc S8x256 32 [0] iota_S8x256_d0_w32) (broadcast S8x256 2#32))
      (dynamicRotate 0 2#32 none h rotates_S8x256_d0) (extractStridedSlice S8x256 ![0, 0] (dynamicRotate 0 2#32 none u rotates_S1024x256_d0) slices_S1024x256_o0_0_S8x256)⟩,
    ⟨S1016x256, extractStridedSlice S1016x256 ![8, 0] (dynamicRotate 0 2#32 none u rotates_S1024x256_d0) slices_S1024x256_o8_0_S1016x256⟩] concatenates_S8x256_S1016x256_S1024x256_d0

theorem first_row (a : ℕ) (ha : a < 8) (x y : EReal) :
    Scalar.select (IntOp.cmpi CmpIPredicate.slt (BitVec.ofNat 32 a) 1#32) x y = if a < 1 then x else y := by
  interval_cases a <;> rfl

theorem first_rows (a : ℕ) (ha : a < 8) (x y : EReal) :
    Scalar.select (IntOp.cmpi CmpIPredicate.slt (BitVec.ofNat 32 a) 2#32) x y = if a < 2 then x else y := by
  interval_cases a <;> rfl

theorem shift1_at (u : FVec Ideal S1024x256 .f32) (h : FVec Ideal S8x256 .f32) (j : Fin 1024) (n : Fin 256) :
    shift1 u h (ix2 j n) = if j.val < 1 then h (ix2 ⟨(7 + j) % 8, by omega⟩ n) else u (ix2 ⟨j - 1, by omega⟩ n) := by
  pointwise [shift1]
  by_cases h8 : j.val < 8
  · have e1 : (j.val + 8 - 1) % 8 = (7 + j.val) % 8 := by omega
    refine (dif_pos h8).trans ((first_row _ h8 _ _).trans ?_)
    by_cases hd : j.val < 1
    · refine (if_pos hd).trans (Eq.trans ?_ (if_pos hd).symm)
      exact congrArg (fun k => h (ix2 k n)) (Fin.ext e1)
    · have e2 : (j.val + 1024 - 1) % 1024 = j.val - 1 := by omega
      refine (if_neg hd).trans (Eq.trans ?_ (if_neg hd).symm)
      exact congrArg (fun k => u (ix2 k n)) (Fin.ext e2)
  · have hd : ¬j.val < 1 := by omega
    have e3 : (8 + (j.val - 8) + 1024 - 1) % 1024 = j.val - 1 := by omega
    refine (dif_neg h8).trans (Eq.trans ?_ (if_neg hd).symm)
    exact congrArg (fun k => u (ix2 k n)) (Fin.ext e3)

theorem shift2_at (u : FVec Ideal S1024x256 .f32) (h : FVec Ideal S8x256 .f32) (j : Fin 1024) (n : Fin 256) :
    shift2 u h (ix2 j n) = if j.val < 2 then h (ix2 ⟨(6 + j) % 8, by omega⟩ n) else u (ix2 ⟨j - 2, by omega⟩ n) := by
  pointwise [shift2]
  by_cases h8 : j.val < 8
  · have e1 : (j.val + 8 - 2) % 8 = (6 + j.val) % 8 := by omega
    refine (dif_pos h8).trans ((first_rows _ h8 _ _).trans ?_)
    by_cases hd : j.val < 2
    · refine (if_pos hd).trans (Eq.trans ?_ (if_pos hd).symm)
      exact congrArg (fun k => h (ix2 k n)) (Fin.ext e1)
    · have e2 : (j.val + 1024 - 2) % 1024 = j.val - 2 := by omega
      refine (if_neg hd).trans (Eq.trans ?_ (if_neg hd).symm)
      exact congrArg (fun k => u (ix2 k n)) (Fin.ext e2)
  · have hd : ¬j.val < 2 := by omega
    have e3 : (8 + (j.val - 8) + 1024 - 2) % 1024 = j.val - 2 := by omega
    refine (dif_neg h8).trans (Eq.trans ?_ (if_neg hd).symm)
    exact congrArg (fun k => u (ix2 k n)) (Fin.ext e3)

/-- The convolution of a block's product `u` after the rows `h`, with taps `k` and bias `b`, in the kernel's order. -/
def before (u : FVec Ideal S1024x256 .f32) (h : FVec Ideal S8x256 .f32) (b : FVec Ideal S1x256 .f32) (k : FVec Ideal S3x256 .f32) : FVec Ideal S1024x256 .f32 :=
  addf (broadcastTo S1024x256 (shapeCast S1x256 b shapeCasts_S1x256_S1x256) broadcasts_S1x256_S1024x256)
    (addf (addf (mulf (broadcastTo S1024x256 (extractStridedSlice S1x256 ![2, 0] (shapeCast S3x256 k shapeCasts_S3x256_S3x256) slices_S3x256_o2_0_S1x256) broadcasts_S1x256_S1024x256) u)
      (mulf (broadcastTo S1024x256 (extractStridedSlice S1x256 ![1, 0] (shapeCast S3x256 k shapeCasts_S3x256_S3x256) slices_S3x256_o1_0_S1x256) broadcasts_S1x256_S1024x256) (shift1 u h)))
      (mulf (broadcastTo S1024x256 (extractStridedSlice S1x256 ![0, 0] (shapeCast S3x256 k shapeCasts_S3x256_S3x256) slices_S3x256_o0_0_S1x256) broadcasts_S1x256_S1024x256) (shift2 u h)))

theorem before_at (u : FVec Ideal S1024x256 .f32) (h : FVec Ideal S8x256 .f32) (b : FVec Ideal S1x256 .f32) (k : FVec Ideal S3x256 .f32) (j : Fin 1024) (n : Fin 256) :
    before u h b k (ix2 j n) = b (ix2 0 n) + (k (ix2 2 n) * u (ix2 j n) + k (ix2 1 n) * shift1 u h (ix2 j n) + k (ix2 0 n) * shift2 u h (ix2 j n)) := by
  pointwise [before]

/-- What is stored of it: its product with half the sigmoid's hyperbolic form, and with the other stream. -/
def swish (x u : FVec Ideal S1024x256 .f32) : FVec Ideal S1024x256 .bf16 :=
  truncf .bf16 (mulf (addf (mulf (mulf (broadcast S1024x256 (Scalar.ofBits .f32 0x3F000000#32)) x) (tanh (mulf (broadcast S1024x256 (Scalar.ofBits .f32 0x3F000000#32)) x)))
    (mulf (broadcast S1024x256 (Scalar.ofBits .f32 0x3F000000#32)) x)) u) bitsLt_bf16_f32

theorem swish_at (x u : FVec Ideal S1024x256 .f32) (j : Fin 1024) (n : Fin 256) (hx : x (ix2 j n) ≠ ⊥) :
    swish x u (ix2 j n) = x (ix2 j n) * sigmoid (x (ix2 j n)) * u (ix2 j n) := by
  rw [← silu_tanh _ hx]
  pointwise [swish]

theorem pay8_eq (u v : FVec Ideal S1024x256 .f32) (h : FVec Ideal S8x256 .f32) (b : FVec Ideal S1x256 .f32) (k : FVec Ideal S3x256 .f32) :
    k0_pay8 (F := Ideal) u v h b k = swish (before u h b k) v := rfl

theorem pay3_at (x : FVec Ideal S1024x2048 .bf16) (w : FVec Ideal S2048x256 .f32) (j : Fin 1024) (n : Fin 256) :
    k0_pay3 (F := Ideal) x w (ix2 j n) = ∑ k : Fin 2048, x (ix2 j k) * w (ix2 k n) := by
  pointwise [k0_pay3, k0_pay2]

theorem pay4_at (x : FVec Ideal S1024x2048 .bf16) (w : FVec Ideal S2048x256 .f32) (j : Fin 1024) (n : Fin 256) :
    k0_pay4 (F := Ideal) x w (ix2 j n) = ∑ k : Fin 2048, x (ix2 j k) * w (ix2 k n) := by
  pointwise [k0_pay4, k0_pay2]

theorem pay7_at (x : FVec Ideal S1024x2048 .bf16) (w : FVec Ideal S2048x256 .f32) (j : Fin 8) (n : Fin 256) :
    k0_pay7 (F := Ideal) x w (ix2 j n) = ∑ k : Fin 2048, x (ix2 ⟨1016 + j, by omega⟩ k) * w (ix2 k n) := by
  pointwise [k0_pay7, k0_pay3, k0_pay2]

/-- The rows before a block: zero at the first of a sequence, the given ones otherwise. -/
theorem halo_first (s : FVec Ideal S8x256 .f32) (j : Fin 8) (n : Fin 256) : k0_pay12 (F := Ideal) 1#1 (boxed s) (ix2 j n) = 0 := by
  have e : k0_pay12 (F := Ideal) 1#1 (boxed s) = broadcast S8x256 (Scalar.ofBits .f32 0x00000000#32) := rfl
  rw [e]
  pointwise

theorem halo_later (s : FVec Ideal S8x256 .f32) (j : Fin 8) (n : Fin 256) : k0_pay12 (F := Ideal) 0#1 (boxed s) (ix2 j n) = s (ix2 j n) := by
  have e : k0_pay12 (F := Ideal) 0#1 (boxed s) = (shapeCast S8x256 (boxed (F := Ideal) s) shapeCasts_S1x8x256_S8x256 : FVec Ideal S8x256 .f32) := rfl
  rw [e]
  pointwise [boxed]

/-- The taps applied in the kernel's order are the reference's sum. -/
theorem taps_order (a b d e x y z : EReal) : e + (a * x + b * y + d * z) = z * d + y * b + x * a + e := by
  rw [mul_comm a x, mul_comm b y, mul_comm d z, add_comm e, add_comm (x * a) (y * b), add_assoc (y * b), add_comm (x * a) (z * d), ← add_assoc (y * b), add_comm (y * b) (z * d)]

theorem row_lt (R : Fin 8) (j : Fin 1024) : R.val * 1024 + j.val < 8192 := by omega

/-- The arrays' readings that a pass at row block `R` of columns `col` is given. -/
structure Reads (N : FVec Ideal S4x2048x2048 .bf16) (W : FVec Ideal S1x2048x5632 .f32) (U : FVec Ideal S1x2048x5632 .f32) (K : FVec Ideal S1x3x5632 .f32) (B : FVec Ideal S1x5632 .f32) (R : Fin 8) (col : Fin 256 → Fin 5632)
    (x : FVec Ideal S1024x2048 .bf16) (g u : FVec Ideal S2048x256 .f32) (k : FVec Ideal S3x256 .f32) (b : FVec Ideal S1x256 .f32) : Prop where
  hx : ∀ (j : Fin 1024) (i : Fin 2048), x (ix2 j i) = N (ix3 ⟨(R.val * 1024 + j.val) / 2048, by omega⟩ ⟨(R.val * 1024 + j.val) % 2048, by omega⟩ i)
  hg : ∀ (i : Fin 2048) (n : Fin 256), g (ix2 i n) = W (ix3 0 i (col n))
  hu : ∀ (i : Fin 2048) (n : Fin 256), u (ix2 i n) = U (ix3 0 i (col n))
  hk : ∀ (i : Fin 3) (n : Fin 256), k (ix2 i n) = K (ix3 0 i (col n))
  hb : ∀ n : Fin 256, b (ix2 0 n) = B (ix2 0 (col n))

/-- What a pass knows of the rows before its block: it is the first of its sequence, or it is given the product's rows. -/
def Given (N : FVec Ideal S4x2048x2048 .bf16) (W : FVec Ideal S1x2048x5632 .f32) (R : Fin 8) (col : Fin 256 → Fin 5632) (z : BitVec 1) (s : FVec Ideal S8x256 .f32) : Prop :=
  (R.val % 2 = 0 ∧ z = 1#1) ∨ (¬R.val % 2 = 0 ∧ z = 0#1
    ∧ ∀ (j : Fin 8) (n : Fin 256), s (ix2 j n) = gate N W ⟨R.val * 1024 - 8 + j.val, by omega⟩ (col n))

section
variable {N : FVec Ideal S4x2048x2048 .bf16} {W U : FVec Ideal S1x2048x5632 .f32} {K : FVec Ideal S1x3x5632 .f32} {B : FVec Ideal S1x5632 .f32}
  {R : Fin 8} {col : Fin 256 → Fin 5632} {x : FVec Ideal S1024x2048 .bf16} {g u : FVec Ideal S2048x256 .f32} {k : FVec Ideal S3x256 .f32}
  {b : FVec Ideal S1x256 .f32}

theorem Reads.gate_at (h : Reads N W U K B R col x g u k b) (j : Fin 1024) (n : Fin 256) :
    k0_pay3 (F := Ideal) x g (ix2 j n) = gate N W ⟨R.val * 1024 + j.val, row_lt R j⟩ (col n) :=
  (pay3_at _ _ _ _).trans (Finset.sum_congr rfl fun i _ => congrArg₂ (· * ·) (h.hx j i) (h.hg i n))

theorem Reads.up_at (h : Reads N W U K B R col x g u k b) (j : Fin 1024) (n : Fin 256) :
    k0_pay4 (F := Ideal) x u (ix2 j n) = gate N U ⟨R.val * 1024 + j.val, row_lt R j⟩ (col n) :=
  (pay4_at _ _ _ _).trans (Finset.sum_congr rfl fun i _ => congrArg₂ (· * ·) (h.hx j i) (h.hu i n))

theorem Reads.back1 (h : Reads N W U K B R col x g u k b) {z : BitVec 1} {s : FVec Ideal S8x256 .f32} (hs : Given N W R col z s) (j : Fin 1024) (n : Fin 256) :
    shift1 (k0_pay3 (F := Ideal) x g) (k0_pay12 (F := Ideal) z (boxed s)) (ix2 j n) = back 1 N W ⟨R.val * 1024 + j.val, row_lt R j⟩ (col n) := by
  refine (shift1_at _ _ _ _).trans ?_
  have hR := R.isLt
  unfold back
  by_cases hj : j.val < 1
  · refine (if_pos hj).trans ?_
    rcases hs with ⟨he, hz⟩ | ⟨he, hz, hh⟩
    · have hr : (R.val * 1024 + j.val) % 2048 < 1 := by omega
      rw [hz]
      exact (halo_first _ _ n).trans (if_pos hr).symm
    · have hr : ¬(R.val * 1024 + j.val) % 2048 < 1 := by omega
      rw [hz]
      refine ((halo_later _ _ n).trans (hh _ n)).trans (Eq.trans ?_ (if_neg hr).symm)
      refine gate_congr ?_ rfl
      show R.val * 1024 - 8 + (7 + j.val) % 8 = R.val * 1024 + j.val - 1
      omega
  · have hr : ¬(R.val * 1024 + j.val) % 2048 < 1 := by omega
    refine (if_neg hj).trans (Eq.trans ?_ (if_neg hr).symm)
    refine (h.gate_at _ n).trans (gate_congr ?_ rfl)
    show R.val * 1024 + (j.val - 1) = R.val * 1024 + j.val - 1
    omega

theorem Reads.back2 (h : Reads N W U K B R col x g u k b) {z : BitVec 1} {s : FVec Ideal S8x256 .f32} (hs : Given N W R col z s) (j : Fin 1024) (n : Fin 256) :
    shift2 (k0_pay3 (F := Ideal) x g) (k0_pay12 (F := Ideal) z (boxed s)) (ix2 j n) = back 2 N W ⟨R.val * 1024 + j.val, row_lt R j⟩ (col n) := by
  refine (shift2_at _ _ _ _).trans ?_
  have hR := R.isLt
  unfold back
  by_cases hj : j.val < 2
  · refine (if_pos hj).trans ?_
    rcases hs with ⟨he, hz⟩ | ⟨he, hz, hh⟩
    · have hr : (R.val * 1024 + j.val) % 2048 < 2 := by omega
      rw [hz]
      exact (halo_first _ _ n).trans (if_pos hr).symm
    · have hr : ¬(R.val * 1024 + j.val) % 2048 < 2 := by omega
      rw [hz]
      refine ((halo_later _ _ n).trans (hh _ n)).trans (Eq.trans ?_ (if_neg hr).symm)
      refine gate_congr ?_ rfl
      show R.val * 1024 - 8 + (6 + j.val) % 8 = R.val * 1024 + j.val - 2
      omega
  · have hr : ¬(R.val * 1024 + j.val) % 2048 < 2 := by omega
    refine (if_neg hj).trans (Eq.trans ?_ (if_neg hr).symm)
    refine (h.gate_at _ n).trans (gate_congr ?_ rfl)
    show R.val * 1024 + (j.val - 2) = R.val * 1024 + j.val - 2
    omega

theorem Reads.conv_at (h : Reads N W U K B R col x g u k b) {z : BitVec 1} {s : FVec Ideal S8x256 .f32} (hs : Given N W R col z s) (j : Fin 1024) (n : Fin 256) :
    before (k0_pay3 (F := Ideal) x g) (k0_pay12 (F := Ideal) z (boxed s)) b k (ix2 j n) = conv N W K B ⟨R.val * 1024 + j.val, row_lt R j⟩ (col n) := by
  refine (before_at _ _ _ _ _ _).trans (Eq.trans ?_ (taps_order _ _ _ _ _ _ _))
  exact congrArg₂ (· + ·) (h.hb n) (congrArg₂ (· + ·) (congrArg₂ (· + ·) (congrArg₂ (· * ·) (h.hk 2 n) (h.gate_at j n))
    (congrArg₂ (· * ·) (h.hk 1 n) (h.back1 hs j n))) (congrArg₂ (· * ·) (h.hk 0 n) (h.back2 hs j n)))

/-- What a pass stores is the activations of its rows and columns, where the convolution is above the infinity below. -/
theorem Reads.pass_at (h : Reads N W U K B R col x g u k b) {z : BitVec 1} {s : FVec Ideal S8x256 .f32} (hs : Given N W R col z s) (j : Fin 1024) (n : Fin 256)
    (hf : conv N W K B ⟨R.val * 1024 + j.val, row_lt R j⟩ (col n) ≠ ⊥) :
    pass (F := Ideal) z x g u k b s (ix2 j n) = upAt N W U K B ⟨R.val * 1024 + j.val, row_lt R j⟩ (col n) := by
  unfold pass upAt
  rw [pay8_eq]
  have e := h.conv_at hs j n
  refine (swish_at _ _ _ _ (by rw [e]; exact hf)).trans ?_
  rw [e, h.up_at j n]

theorem Reads.tail_at (h : Reads N W U K B R col x g u k b) (j : Fin 8) (n : Fin 256) :
    k0_pay7 (F := Ideal) x g (ix2 j n) = gate N W ⟨R.val * 1024 + (1016 + j.val), row_lt R ⟨1016 + j, by omega⟩⟩ (col n) :=
  (pay7_at _ _ _ _).trans (Finset.sum_congr rfl fun i _ => congrArg₂ (· * ·) (h.hx ⟨1016 + j, by omega⟩ i) (h.hg i n))
end

variable (m : (ℓ : Loc nD τ sig) → Buf (Elt Ideal) ℓ)

/-- What the region finds in a buffer is what the operations before it leave there. -/
theorem V_after (c : Dev nD) (b : Ref sig .tc) : V m c b = StableHlo.after hostOps0 (fun b => m (c, b)) b := by
  show StableHlo.after (hostOps0 ++ []) _ _ = _
  rw [List.append_nil]

theorem entry_x (c : Dev nD) (r : Fin 8192) (k : Fin 2048) :
    V m c main_v0 (ix2 r k) = m ((c.tc : Thread nD τ).loc main_arg0) (ix3 ⟨r / 2048, by omega⟩ ⟨r % 2048, by omega⟩ k) := by
  refine (congrFun (V_after m c _) _).trans ?_
  entry_read
  pointwise

theorem entry_g (c : Dev nD) (k : Fin 2048) (n : Fin 5632) :
    V m c main_v1 (ix2 k n) = m ((c.tc : Thread nD τ).loc main_arg1) (ix3 0 k n) := by
  refine (congrFun (V_after m c _) _).trans ?_
  entry_read
  pointwise

theorem entry_u (c : Dev nD) (k : Fin 2048) (n : Fin 5632) :
    V m c main_v2 (ix2 k n) = m ((c.tc : Thread nD τ).loc main_arg2) (ix3 0 k n) := by
  refine (congrFun (V_after m c _) _).trans ?_
  entry_read
  pointwise

theorem entry_k (c : Dev nD) (j : Fin 3) (n : Fin 5632) :
    V m c main_v3 (ix2 j n) = m ((c.tc : Thread nD τ).loc main_arg3) (ix3 0 j n) := by
  refine (congrFun (V_after m c _) _).trans ?_
  entry_read
  pointwise

theorem entry_b (c : Dev nD) (n : Fin 5632) :
    V m c main_v5 (ix2 0 n) = m ((c.tc : Thread nD τ).loc main_arg4) (ix2 0 n) := by
  refine (congrFun (V_after m c _) _).trans ?_
  entry_read
  pointwise

theorem idx : ∀ t : Fin cfg0.N, win0_0.index t = ![t.val / 11, 0] ∧ win0_1.index t = ![0, t.val % 11] ∧ win0_2.index t = ![0, t.val % 11]
    ∧ win0_3.index t = ![0, t.val % 11] ∧ win0_4.index t = ![0, t.val % 11] ∧ win0_5.index t = ![t.val / 11, t.val % 11]
    ∧ win0_6.index t = ![t.val / 11, t.val % 11] :=
  (by decide +kernel : ∀ t : Fin grid0.N, _)

/-- The row block of a step. -/
def rowBlock (t : Fin cfg0.N) : Fin 8 := ⟨t.val / 11, by
  have ht : t.val < 88 := Nat.lt_of_lt_of_eq t.isLt N_0
  omega⟩

theorem rows_lt (t : Fin cfg0.N) (j : Fin 1024) : t.val / 11 * 1024 + (j : ℕ) < 8192 := row_lt (rowBlock t) j
theorem cols_lt (t : Fin cfg0.N) (n : Fin 512) : t.val % 11 * 512 + (n : ℕ) < 5632 := by omega

theorem point_x (c : Dev nD) (t : Fin cfg0.N) (y : S1024x2048.Idx) : iblk m c 0 t y = V m c main_v0 (ix2 ⟨_, rows_lt t (y 0)⟩ (y 1)) := by
  blk_ext [iblk, idx t]

theorem point_g (c : Dev nD) (t : Fin cfg0.N) (y : S2048x512.Idx) : iblk m c 1 t y = V m c main_v1 (ix2 (y 0) ⟨_, cols_lt t (y 1)⟩) := by
  blk_ext [iblk, idx t]

theorem point_u (c : Dev nD) (t : Fin cfg0.N) (y : S2048x512.Idx) : iblk m c 2 t y = V m c main_v2 (ix2 (y 0) ⟨_, cols_lt t (y 1)⟩) := by
  blk_ext [iblk, idx t]

theorem point_k (c : Dev nD) (t : Fin cfg0.N) (y : S3x512.Idx) : iblk m c 3 t y = V m c main_v3 (ix2 (y 0) ⟨_, cols_lt t (y 1)⟩) := by
  blk_ext [iblk, idx t]

theorem point_b (c : Dev nD) (t : Fin cfg0.N) (y : S1x512.Idx) : iblk m c 4 t y = V m c main_v5 (ix2 (y 0) ⟨_, cols_lt t (y 1)⟩) := by
  blk_ext [iblk, idx t]

/-- The columns of a step's first pass, and what it reads of them. -/
def col_left (t : Fin cfg0.N) (n : Fin 256) : Fin 5632 := ⟨t.val % 11 * 512 + n.val, by omega⟩

theorem reads_left (c : Dev nD) (t : Fin cfg0.N) : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowBlock t) (col_left t)
    (iblk m c 0 t) (left (F := Ideal) (n := 2048) (e := .f32) (iblk m c 1 t)) (left (F := Ideal) (n := 2048) (e := .f32) (iblk m c 2 t)) (left (F := Ideal) (n := 3) (e := .f32) (iblk m c 3 t)) (left (F := Ideal) (n := 1) (e := .f32) (iblk m c 4 t)) where
  hx j i := (point_x m c t (ix2 j i)).trans (entry_x m c _ i)
  hg i n := (point_g m c t (ix2 i ⟨n.val, by omega⟩)).trans (entry_g m c i (col_left t n))
  hu i n := (point_u m c t (ix2 i ⟨n.val, by omega⟩)).trans (entry_u m c i (col_left t n))
  hk i n := (point_k m c t (ix2 i ⟨n.val, by omega⟩)).trans (entry_k m c i (col_left t n))
  hb n := (point_b m c t (ix2 0 ⟨n.val, by omega⟩)).trans (entry_b m c (col_left t n))

/-- The columns of a step's second pass, and what it reads of them. -/
def col_right (t : Fin cfg0.N) (n : Fin 256) : Fin 5632 := ⟨t.val % 11 * 512 + (256 + n.val), by omega⟩

theorem reads_right (c : Dev nD) (t : Fin cfg0.N) : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowBlock t) (col_right t)
    (iblk m c 0 t) (right (F := Ideal) (n := 2048) (e := .f32) (iblk m c 1 t)) (right (F := Ideal) (n := 2048) (e := .f32) (iblk m c 2 t)) (right (F := Ideal) (n := 3) (e := .f32) (iblk m c 3 t)) (right (F := Ideal) (n := 1) (e := .f32) (iblk m c 4 t)) where
  hx j i := (point_x m c t (ix2 j i)).trans (entry_x m c _ i)
  hg i n := (point_g m c t (ix2 i ⟨(256 + n.val), by omega⟩)).trans (entry_g m c i (col_right t n))
  hu i n := (point_u m c t (ix2 i ⟨(256 + n.val), by omega⟩)).trans (entry_u m c i (col_right t n))
  hk i n := (point_k m c t (ix2 i ⟨(256 + n.val), by omega⟩)).trans (entry_k m c i (col_right t n))
  hb n := (point_b m c t (ix2 0 ⟨(256 + n.val), by omega⟩)).trans (entry_b m c (col_right t n))

theorem tail_at (c : Dev nD) (t : Fin cfg0.N) (j : Fin 8) (n : Fin 512) :
    tail (F := Ideal) (iblk m c 0 t) (iblk m c 1 t) (ix2 j n)
      = gate (m ((c.tc : Thread nD τ).loc main_arg0)) (m ((c.tc : Thread nD τ).loc main_arg1)) ⟨t.val / 11 * 1024 + (1016 + j), rows_lt t ⟨1016 + j, by omega⟩⟩ ⟨_, cols_lt t n⟩ := by
  unfold tail beside
  by_cases h : n.val < 256
  · refine (dif_pos h).trans (((reads_left m c t).tail_at j ⟨n.val, h⟩).trans (gate_congr rfl ?_))
    rfl
  · refine (dif_neg h).trans (((reads_right m c t).tail_at j ⟨n.val - 256, by omega⟩).trans (gate_congr rfl (Fin.ext ?_)))
    show t.val % 11 * 512 + (256 + (n.val - 256)) = t.val % 11 * 512 + n.val
    omega

theorem halo_at (c : Dev nD) (t : Fin cfg0.N) (h : ¬t.val / 11 % 2 = 0) (j : Fin 8) (n : Fin 512) :
    halo (F := Ideal) m c t (ix2 j n) = gate (m ((c.tc : Thread nD τ).loc main_arg0)) (m ((c.tc : Thread nD τ).loc main_arg1)) ⟨t.val / 11 * 1024 - 8 + j, by have := rows_lt t 0; omega⟩ ⟨_, cols_lt t n⟩ := by
  unfold halo
  have hv : (earlier t).val = t.val - 11 := rfl
  refine (tail_at m c (earlier t) j n).trans (gate_congr ?_ (Fin.ext ?_))
  · show (t.val - 11) / 11 * 1024 + (1016 + j.val) = t.val / 11 * 1024 - 8 + j.val
    omega
  · show (t.val - 11) % 11 * 512 + n.val = t.val % 11 * 512 + n.val
    omega

theorem given_left (c : Dev nD) (t : Fin cfg0.N) :
    Given (m ((c.tc : Thread nD τ).loc main_arg0)) (m ((c.tc : Thread nD τ).loc main_arg1)) (rowBlock t) (col_left t) (first (grid0.coords t)) (left (F := Ideal) (n := 8) (e := .f32) (halo m c t)) := by
  by_cases h : t.val / 11 % 2 = 0
  · exact Or.inl ⟨h, first_even t h⟩
  · exact Or.inr ⟨h, first_odd t h, fun j n => halo_at m c t h j ⟨n.val, by omega⟩⟩

theorem given_right (c : Dev nD) (t : Fin cfg0.N) :
    Given (m ((c.tc : Thread nD τ).loc main_arg0)) (m ((c.tc : Thread nD τ).loc main_arg1)) (rowBlock t) (col_right t) (first (grid0.coords t)) (right (F := Ideal) (n := 8) (e := .f32) (halo m c t)) := by
  by_cases h : t.val / 11 % 2 = 0
  · exact Or.inl ⟨h, first_even t h⟩
  · exact Or.inr ⟨h, first_odd t h, fun j n => halo_at m c t h j ⟨256 + n.val, by omega⟩⟩

theorem flushed_5 (c : Dev nD) (hf : ∀ r n, conv (m ((c.tc : Thread nD τ).loc main_arg0)) (m ((c.tc : Thread nD τ).loc main_arg1)) (m ((c.tc : Thread nD τ).loc main_arg3)) (m ((c.tc : Thread nD τ).loc main_arg4)) r n ≠ ⊥) (t : Fin cfg0.N) (j : Fin 1024) (n : Fin 512) :
    act (F := Ideal) (first (grid0.coords t)) (iblk m c 0 t) (iblk m c 1 t) (iblk m c 2 t) (iblk m c 3 t) (iblk m c 4 t) (halo m c t) (ix2 j n)
      = upAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨_, rows_lt t j⟩ ⟨_, cols_lt t n⟩ := by
  unfold act beside
  by_cases h : n.val < 256
  · exact (dif_pos h).trans ((reads_left m c t).pass_at (given_left m c t) j ⟨n.val, h⟩ (hf _ _))
  · refine (dif_neg h).trans (((reads_right m c t).pass_at (given_right m c t) j ⟨n.val - 256, by omega⟩ (hf _ _)).trans (congrArg (upAt _ _ _ _ _ _) (Fin.ext ?_)))
    show t.val % 11 * 512 + (256 + (n.val - 256)) = t.val % 11 * 512 + n.val
    omega

theorem place_5 (t : Fin cfg0.N) (y : S1024x512.Idx) : (win0_5.blk t).view.emb y = ix2 ⟨_, rows_lt t (y 0)⟩ ⟨_, cols_lt t (y 1)⟩ := by
  funext a
  match a with
  | ⟨0, _⟩ => refine Fin.ext ?_; blk_simp [idx t]; rfl
  | ⟨1, _⟩ => refine Fin.ext ?_; blk_simp [idx t]; rfl

theorem place_6 (t : Fin cfg0.N) (y : S8x512.Idx) : (win0_6.blk t).view.emb y = ix2 ⟨t.val / 11 * 8 + y 0, by
    have h : (y 0).val < 8 := (y 0).isLt
    have := rows_lt t 0
    omega⟩ ⟨_, cols_lt t (y 1)⟩ := by
  funext a
  match a with
  | ⟨0, _⟩ => refine Fin.ext ?_; blk_simp [idx t]; rfl
  | ⟨1, _⟩ => refine Fin.ext ?_; blk_simp [idx t]; rfl

/-- The activations which the kernel returns. -/
theorem final_5 (c : Dev nD) (hf : ∀ r n, conv (m ((c.tc : Thread nD τ).loc main_arg0)) (m ((c.tc : Thread nD τ).loc main_arg1)) (m ((c.tc : Thread nD τ).loc main_arg3)) (m ((c.tc : Thread nD τ).loc main_arg4)) r n ≠ ⊥) :
    (dats m 0 c).arrAt 5 (cfgs 0).N = upOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after_5]
  refine Eq.trans ?_ (congrArg (upOut _ _ _ _ _) (place_5 t y).symm)
  exact (congrArg _ (eq_ix2 y)).trans (flushed_5 m c hf t (y 0) (y 1))

/-- The last eight rows of each block of the gate's product, an array. -/
def tails (N : FVec Ideal S4x2048x2048 .bf16) (W : FVec Ideal S1x2048x5632 .f32) : FVec Ideal S64x5632 .f32 :=
  fun i => gate N W ⟨(i 0).val / 8 * 1024 + (1016 + (i 0).val % 8), by
    have h : (i 0).val < 64 := (i 0).isLt
    omega⟩ (i 1)

theorem final_6 (c : Dev nD) : (dats m 0 c).arrAt 6 (cfgs 0).N = tails (m ((c.tc : Thread nD τ).loc main_arg0)) (m ((c.tc : Thread nD τ).loc main_arg1)) := by
  refine (dats m 0 c).arrAt_eq_of_covers 6 _ (by decide +kernel) fun t _ y => ?_
  blk_simp
  rw [after_6]
  refine Eq.trans ?_ (congrArg (tails _ _) (place_6 t y).symm)
  refine ((congrArg _ (eq_ix2 y)).trans (tail_at m c t (y 0) (y 1))).trans (gate_congr ?_ rfl)
  have h : (y 0).val < 8 := (y 0).isLt
  show t.val / 11 * 1024 + (1016 + (y 0).val) = (t.val / 11 * 8 + (y 0).val) / 8 * 1024 + (1016 + (t.val / 11 * 8 + (y 0).val) % 8)
  omega

/-- The last two of the eight rows kept of each sequence's last block. -/
def lastRows (T : FVec Ideal S64x5632 .f32) : FVec Ideal S4x2x5632 .f32 :=
  extractStridedSlice S4x2x5632 ![0, 6, 0] (shapeCast S4x8x5632 (extractStridedSlice S4x1x8x5632 ![0, 1, 0, 0]
    (shapeCast S4x2x8x5632 T shapeCasts_S64x5632_S4x2x8x5632) slices_S4x2x8x5632_S4x1x8x5632_0_1_0_0) shapeCasts_S4x1x8x5632_S4x8x5632) slices_S4x8x5632_S4x2x5632_0_6_0

theorem lastRows_at (T : FVec Ideal S64x5632 .f32) (b : Fin 4) (i : Fin 2) (n : Fin 5632) :
    lastRows T (ix3 b i n) = T (ix2 ⟨b * 16 + 8 + (6 + i), by omega⟩ n) := by
  pointwise [lastRows]

theorem arr_injective : Function.Injective (Pipeline.arrRef spec0) := by decide

/-- What the operations after the region leave in the second result. -/
theorem tail_eq (c : Dev nD) : Pipeline.afterTail₀ cfgs (dats m) 0 (V0 m) [hostOps1] c main_v10 = stateOut (m ((c.tc : Thread nD τ).loc main_arg0)) (m ((c.tc : Thread nD τ).loc main_arg1)) := by
  have e := (Pipeline.withArrays_arr (cfgs 0).spec arr_injective c (V0 m c) (fun w => (dats m 0 c).arrAt w (cfgs 0).N) 6).trans (final_6 m c)
  unfold Pipeline.afterTail₀
  change StableHlo.after (hostOps1 ++ []) _ _ = _
  rw [List.append_nil]
  generalize (Pipeline.withArrays (cfgs 0).spec c (V0 m c) fun w => (dats m 0 c).arrAt w (cfgs 0).N) = W at e ⊢
  after_results
  change lastRows (W (Proc.tc.devRef main_v6_1)) = _
  rw [show W (Proc.tc.devRef main_v6_1) = tails (m ((c.tc : Thread nD τ).loc main_arg0)) (m ((c.tc : Thread nD τ).loc main_arg1)) from e]
  funext i
  rw [eq_ix3 i]
  refine (lastRows_at _ _ _ _).trans (gate_congr ?_ rfl)
  have h0 : (i 0).val < 4 := (i 0).isLt
  have h1 : (i 1).val < 2 := (i 1).isLt
  show ((i 0).val * 16 + 8 + (6 + (i 1).val)) / 8 * 1024 + (1016 + ((i 0).val * 16 + 8 + (6 + (i 1).val)) % 8) = (i 0).val * 2048 + 2046 + (i 1).val
  omega

/-- The whole run, its results named. -/
theorem run_named (ρ : Dev nD → PrngReg) (hf : ∀ (c : Dev nD) (r : Fin 8192) (n : Fin 5632), conv (m ((c.tc : Thread nD τ).loc main_arg0)) (m ((c.tc : Thread nD τ).loc main_arg1)) (m ((c.tc : Thread nD τ).loc main_arg3)) (m ((c.tc : Thread nD τ).loc main_arg4)) r n ≠ ⊥) :
    θ_run defs (onTc (τ := τ) (main (F := Ideal))) ⟨m, fun _ => 0, ρ⟩ fun r => ∀ c : Dev nD,
      r.2.mem ((c.tc : Thread nD τ).loc main_v6_0) = upOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10) = stateOut (m ((c.tc : Thread nD τ).loc main_arg0)) (m ((c.tc : Thread nD τ).loc main_arg1))
      ∧ r.2.mem ((c.tc : Thread nD τ).loc main_arg0) = (m ((c.tc : Thread nD τ).loc main_arg0)) ∧ r.2.mem ((c.tc : Thread nD τ).loc main_arg1) = (m ((c.tc : Thread nD τ).loc main_arg1)) ∧ r.2.mem ((c.tc : Thread nD τ).loc main_arg2) = (m ((c.tc : Thread nD τ).loc main_arg2)) ∧ r.2.mem ((c.tc : Thread nD τ).loc main_arg3) = (m ((c.tc : Thread nD τ).loc main_arg3)) ∧ r.2.mem ((c.tc : Thread nD τ).loc main_arg4) = (m ((c.tc : Thread nD τ).loc main_arg4)) :=
  (θ_run defs _ _).mono (fun r h c => ⟨((h.1 c).1 5).trans (final_5 m c (hf c)),
    ((h.1 c).2 main_v10 (Pipeline.mem_restRefs_of _ (by decide) (by decide))).trans (tail_eq m c), h.2.1 c⟩)
    (θ_run_and (run_main m ρ) (frame_ideal m ρ))

end Cert.KernelUpIdeal.Up

end
-- ==== Proof.Up.Reference.lean ====
module

public import proofs.«01_k».proof.Proof.Gen.ReferenceUpIdeal.Run
public import proofs.«01_k».proof.Proof.Up.Value

@[expose] public section

set_option maxRecDepth 16384

noncomputable section

namespace Cert.ReferenceUpIdeal.Up

open Idealize.ShloMosaic Idealize.ShloMosaic.TcCoe Idealize.ShloMosaic.Tactic
open Idealize.SL Idealize.SL.Sem
open Idealize.ShloMosaic.Pipeline (Dat Cfg Window BodyObligation cellOf)
open Cert.ReferenceUpIdeal Cert.ReferenceUpIdeal.Gen Idealize.ShloMosaic.StableHlo
open Cert.Common (sigmoid)
open Cert.KernelUpIdeal.Up (gate gate_congr back conv upAt upOut stateOut)
/-- The rows' product with a weight, as the reference computes it. -/
def product (N : FVec Ideal S4x2048x2048 .bf16) (W : FVec Ideal S1x2048x5632 .f32) : FVec Ideal S4x2048x5632 .f32 :=
  Host.dotGeneral dot_S4x2048x2048_S2048x5632_S4x2048x5632_2_0_01_1_n_n none (extf .f32 N bitsLt_bf16_f32) (shapeCast _ W shapeCasts_S1x2048x5632_S2048x5632)

theorem product_at (N : FVec Ideal S4x2048x2048 .bf16) (W : FVec Ideal S1x2048x5632 .f32) (b : Fin 4) (l : Fin 2048) (n : Fin 5632) :
    product N W (ix3 b l n) = ∑ k : Fin 2048, N (ix3 b l k) * W (ix3 0 k n) := by
  pointwise [product]

/-- The product behind two rows of zeros. -/
def padded (N : FVec Ideal S4x2048x2048 .bf16) (W : FVec Ideal S1x2048x5632 .f32) : FVec Ideal S4x2050x5632 .f32 :=
  concatenate S4x2050x5632 1 [⟨S4x2x5632, (broadcastInDim S4x2x5632 ![] bcast_S_S4x2x5632 (constant S_ .f32 0x00000000#32))⟩, ⟨S4x2048x5632, product N W⟩] concatenates_S4x2x5632_S4x2048x5632_S4x2050x5632_d1

theorem padded_at (N : FVec Ideal S4x2048x2048 .bf16) (W : FVec Ideal S1x2048x5632 .f32) (b : Fin 4) (l : Fin 2050) (n : Fin 5632) :
    padded N W (ix3 b l n) = if h : l.val < 2 then 0 else gate N W ⟨b.val * 2048 + (l.val - 2), by omega⟩ n := by
  pointwise [padded]
  by_cases h : l.val < 2
  · refine (dif_pos h).trans (Eq.trans ?_ (dif_pos h).symm)
    rfl
  · have e0 : (b.val * 2048 + (l.val - 2)) / 2048 = b.val := by omega
    have e1 : (b.val * 2048 + (l.val - 2)) % 2048 = l.val - 2 := by omega
    refine (dif_neg h).trans (Eq.trans ?_ (dif_neg h).symm)
    unfold gate
    refine (product_at _ _ _ _ _).trans (Finset.sum_congr rfl fun k _ => congrArg (· * _) ?_)
    exact congrArg₂ (fun (x : Fin 4) (y : Fin 2048) => N (ix3 x y k)) (Fin.ext e0.symm) (Fin.ext e1.symm)

/-- The padded product `d` rows before row `r`'s own. -/
theorem padded_back (N : FVec Ideal S4x2048x2048 .bf16) (W : FVec Ideal S1x2048x5632 .f32) (d : ℕ) (r : Fin 8192) (n : Fin 5632) (l : Fin 2050) (h : l.val + d = r.val % 2048 + 2) :
    padded N W (ix3 ⟨r / 2048, by omega⟩ l n) = back d N W r n := by
  refine (padded_at _ _ _ _ _).trans ?_
  unfold back
  by_cases hl : l.val < 2
  · have hr : r.val % 2048 < d := by omega
    exact (dif_pos hl).trans (if_pos hr).symm
  · have hr : ¬r.val % 2048 < d := by omega
    refine (dif_neg hl).trans (Eq.trans ?_ (if_neg hr).symm)
    refine gate_congr ?_ rfl
    show r.val / 2048 * 2048 + (l.val - 2) = r.val - d
    omega

/-- The convolution and its bias, as the reference computes them. -/
def convolved (N : FVec Ideal S4x2048x2048 .bf16) (W : FVec Ideal S1x2048x5632 .f32) (K : FVec Ideal S1x3x5632 .f32) (B : FVec Ideal S1x5632 .f32) : FVec Ideal S4x2048x5632 .f32 :=
  addf (addf (addf (mulf (extractStridedSlice S4x2048x5632 ![0, 0, 0] (padded N W) slices_S4x2050x5632_S4x2048x5632_0_0_0) (broadcastInDim S4x2048x5632 ![0, 1, 2] bcast_S1x1x5632_S4x2048x5632_0_1_2 (broadcastInDim S1x1x5632 ![2] bcast_S5632_S1x1x5632_2 (shapeCast _ (extractStridedSlice S1x5632 ![0, 0] (shapeCast _ K shapeCasts_S1x3x5632_S3x5632) slices_S3x5632_S1x5632_0_0) shapeCasts_S1x5632_S5632)))) (mulf (extractStridedSlice S4x2048x5632 ![0, 1, 0] (padded N W) slices_S4x2050x5632_S4x2048x5632_0_1_0) (broadcastInDim S4x2048x5632 ![0, 1, 2] bcast_S1x1x5632_S4x2048x5632_0_1_2 (broadcastInDim S1x1x5632 ![2] bcast_S5632_S1x1x5632_2 (shapeCast _ (extractStridedSlice S1x5632 ![1, 0] (shapeCast _ K shapeCasts_S1x3x5632_S3x5632) slices_S3x5632_S1x5632_1_0) shapeCasts_S1x5632_S5632))))) (mulf (extractStridedSlice S4x2048x5632 ![0, 2, 0] (padded N W) slices_S4x2050x5632_S4x2048x5632_0_2_0) (broadcastInDim S4x2048x5632 ![0, 1, 2] bcast_S1x1x5632_S4x2048x5632_0_1_2 (broadcastInDim S1x1x5632 ![2] bcast_S5632_S1x1x5632_2 (shapeCast _ (extractStridedSlice S1x5632 ![2, 0] (shapeCast _ K shapeCasts_S1x3x5632_S3x5632) slices_S3x5632_S1x5632_2_0) shapeCasts_S1x5632_S5632))))) (broadcastInDim S4x2048x5632 ![0, 1, 2] bcast_S1x1x5632_S4x2048x5632_0_1_2 (broadcastInDim S1x1x5632 ![2] bcast_S5632_S1x1x5632_2 (shapeCast _ B shapeCasts_S1x5632_S5632)))

theorem convolved_at (N : FVec Ideal S4x2048x2048 .bf16) (W : FVec Ideal S1x2048x5632 .f32) (K : FVec Ideal S1x3x5632 .f32) (B : FVec Ideal S1x5632 .f32) (r : Fin 8192) (n : Fin 5632) :
    convolved N W K B (ix3 ⟨r / 2048, by omega⟩ ⟨r % 2048, by omega⟩ n) = conv N W K B r n := by
  have e0 := padded_back N W 2 r n ⟨r.val % 2048, by omega⟩ rfl
  have e1 := padded_back N W 1 r n ⟨1 + r.val % 2048, by omega⟩ (by show 1 + r.val % 2048 + 1 = _; omega)
  have e2 := padded_back N W 0 r n ⟨2 + r.val % 2048, by omega⟩ (by show 2 + r.val % 2048 + 0 = _; omega)
  have e3 : back 0 N W r n = gate N W r n := if_neg (Nat.not_lt_zero _)
  pointwise [convolved]
  unfold conv
  rw [e0, e1, e2, e3]

/-- The activations of each sequence, as the reference computes them. -/
def activations (N : FVec Ideal S4x2048x2048 .bf16) (W : FVec Ideal S1x2048x5632 .f32) (U : FVec Ideal S1x2048x5632 .f32) (K : FVec Ideal S1x3x5632 .f32) (B : FVec Ideal S1x5632 .f32) : FVec Ideal S4x2048x5632 .f32 :=
  mulf (mulf (convolved N W K B) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (convolved N W K B)))))) (product N U)

theorem product_row (N : FVec Ideal S4x2048x2048 .bf16) (W : FVec Ideal S1x2048x5632 .f32) (r : Fin 8192) (n : Fin 5632) : product N W (ix3 ⟨r / 2048, by omega⟩ ⟨r % 2048, by omega⟩ n) = gate N W r n := product_at _ _ _ _ _

theorem activations_at (N : FVec Ideal S4x2048x2048 .bf16) (W : FVec Ideal S1x2048x5632 .f32) (U : FVec Ideal S1x2048x5632 .f32) (K : FVec Ideal S1x3x5632 .f32) (B : FVec Ideal S1x5632 .f32) (r : Fin 8192) (n : Fin 5632) :
    activations N W U K B (ix3 ⟨r / 2048, by omega⟩ ⟨r % 2048, by omega⟩ n) = upAt N W U K B r n := by
  pointwise [activations, upAt, sigmoid, convolved_at, product_row]

/-- The sequences one below the other, rounded. -/
def rows (X : FVec Ideal S4x2048x5632 .f32) : FVec Ideal S8192x5632 .bf16 := truncf .bf16 (shapeCast _ X shapeCasts_S4x2048x5632_S8192x5632) bitsLt_bf16_f32

theorem rows_at (X : FVec Ideal S4x2048x5632 .f32) (r : Fin 8192) (n : Fin 5632) : rows X (ix2 r n) = X (ix3 ⟨r / 2048, by omega⟩ ⟨r % 2048, by omega⟩ n) := by
  pointwise [rows]

theorem activations_eq (N : FVec Ideal S4x2048x2048 .bf16) (W : FVec Ideal S1x2048x5632 .f32) (U : FVec Ideal S1x2048x5632 .f32) (K : FVec Ideal S1x3x5632 .f32) (B : FVec Ideal S1x5632 .f32) : rows (activations N W U K B) = upOut N W U K B := by
  funext i
  rw [eq_ix2 i]
  exact (rows_at _ _ _).trans (activations_at ..)

/-- The padded product's last two rows of each sequence. -/
def kept (N : FVec Ideal S4x2048x2048 .bf16) (W : FVec Ideal S1x2048x5632 .f32) : FVec Ideal S4x2x5632 .f32 := extractStridedSlice S4x2x5632 ![0, 2048, 0] (padded N W) slices_S4x2050x5632_S4x2x5632_0_2048_0

theorem kept_at (N : FVec Ideal S4x2048x2048 .bf16) (W : FVec Ideal S1x2048x5632 .f32) (b : Fin 4) (i : Fin 2) (n : Fin 5632) : kept N W (ix3 b i n) = padded N W (ix3 b ⟨2048 + i, by omega⟩ n) := by
  pointwise [kept]

theorem kept_eq (N : FVec Ideal S4x2048x2048 .bf16) (W : FVec Ideal S1x2048x5632 .f32) : kept N W = stateOut N W := by
  funext i
  rw [eq_ix3 i]
  refine (kept_at _ _ _ _ _).trans ((padded_at _ _ _ _ _).trans ((dif_neg (show ¬2048 + (i 1).val < 2 by omega)).trans (gate_congr ?_ rfl)))
  show (i 0).val * 2048 + (2048 + (i 1).val - 2) = (i 0).val * 2048 + 2046 + (i 1).val
  omega

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v36) = rows (activations (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v30) = kept (m ((c.tc : Thread nD τ).loc main_arg0)) (m ((c.tc : Thread nD τ).loc main_arg1))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  Value.run m ρ

end Cert.ReferenceUpIdeal.Up

end
-- ==== Proof.Up.Finite.lean ====
module

public import proofs.«01_k».proof.Proof.Up.Value
public import proofs.«01_k».proof.Proof.Gen.Pre_finite
public import Idealize.ShloMosaic.Lib.ReduceAll

@[expose] public section

set_option maxRecDepth 16384

noncomputable section

namespace Cert.Up

open Idealize.ShloMosaic Idealize.ShloMosaic.TcCoe Idealize.ShloMosaic.Tactic
open Idealize.SL Idealize.SL.Sem
open Idealize.ShloMosaic.Pipeline (Dat Cfg Window BodyObligation cellOf)
open Cert.KernelUpIdeal Cert.KernelUpIdeal.Up
open Cert.Pre_finite.Gen
/-- An extended real that is a real number. -/
def Real (x : EReal) : Prop := ∃ r : ℝ, x = r

theorem Real.zero : Real 0 := ⟨0, rfl⟩
theorem Real.add {x y : EReal} (hx : Real x) (hy : Real y) : Real (x + y) := by
  obtain ⟨a, rfl⟩ := hx
  obtain ⟨b, rfl⟩ := hy
  exact ⟨a + b, (EReal.coe_add a b).symm⟩
theorem Real.mul {x y : EReal} (hx : Real x) (hy : Real y) : Real (x * y) := by
  obtain ⟨a, rfl⟩ := hx
  obtain ⟨b, rfl⟩ := hy
  exact ⟨a * b, (EReal.coe_mul a b).symm⟩
theorem Real.sum {ι : Type} (s : Finset ι) (f : ι → EReal) (h : ∀ i, Real (f i)) : Real (∑ i ∈ s, f i) := by
  classical
  induction s using Finset.induction_on with
  | empty => exact Real.zero
  | insert a s ha ih =>
    rw [Finset.sum_insert ha]
    exact (h a).add ih
theorem Real.ne_bot {x : EReal} (hx : Real x) : x ≠ ⊥ := by
  obtain ⟨a, rfl⟩ := hx
  exact EReal.coe_ne_bot a

theorem infinity : Ideal.ofBits .f32 0x7F800000#32 = ⊤ := by
  simp [Ideal.ofBits, Ideal.ieee]

/-- A value whose magnitude is below the infinity is a real number. -/
theorem Real.of_magnitude {x : EReal} (h : Ideal.cmp .olt (max x (-x)) (Ideal.ofBits .f32 0x7F800000#32) = 1#1) : Real x := by
  rw [infinity] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  induction x using EReal.rec with
  | bot => exact absurd hlt (by simp)
  | top => exact absurd hlt (by simp)
  | coe r => exact ⟨r, rfl⟩

theorem andi_left {a b : BitVec 1} (h : IntOp.andi a b = 1#1) : a = 1#1 := by
  revert a b; decide
theorem andi_right {a b : BitVec 1} (h : IntOp.andi a b = 1#1) : b = 1#1 := by
  revert a b; decide

instance : Subsingleton Cert.Pre_finite.S_.Idx := ⟨fun a b => funext fun i => i.elim0⟩

section
variable (N : FVec Ideal S4x2048x2048 .bf16) (W : FVec Ideal S1x2048x5632 .f32) (U : FVec Ideal S1x2048x5632 .f32) (K : FVec Ideal S1x3x5632 .f32) (B : FVec Ideal S1x5632 .f32)

/-- The precondition says of every element the convolution reads that it is a real number. -/
theorem reals (h : Cert.Pre_finite.fn (F := Ideal) N W U K B = fun _ => 1#1) :
    (∀ i, Real (N i)) ∧ (∀ i, Real (W i)) ∧ (∀ i, Real (K i)) ∧ (∀ i, Real (B i)) := by
  have h0 := congrFun h (fun i => i.elim0)
  dsimp only [Cert.Pre_finite.fn, Cert.Pre_finite.fn_part1] at h0
  have hb := andi_right h0
  have h1 := andi_left h0
  have hk := andi_right h1
  have h2 := andi_left h1
  have hw := andi_right h2
  have hn := andi_left h2
  exact ⟨fun i => Real.of_magnitude (Host.reduce_andi_all _ _ _ _ _ hn i), fun i => Real.of_magnitude (Host.reduce_andi_all _ _ _ _ _ hw i),
    fun i => Real.of_magnitude (Host.reduce_andi_all _ _ _ _ _ hk i), fun i => Real.of_magnitude (Host.reduce_andi_all _ _ _ _ _ hb i)⟩

/-- So the convolution is a real number everywhere, and not the infinity below. -/
theorem conv_ne_bot (h : Cert.Pre_finite.fn (F := Ideal) N W U K B = fun _ => 1#1) (r : Fin 8192) (n : Fin 5632) :
    conv N W K B r n ≠ ⊥ := by
  obtain ⟨hn, hw, hk, hb⟩ := reals N W U K B h
  have hg : ∀ r n, Real (gate N W r n) := fun r n => Real.sum _ _ fun k => (hn _).mul (hw _)
  have hd : ∀ d r n, Real (back d N W r n) := fun d r n => by
    unfold back
    split
    · exact Real.zero
    · exact hg _ _
  exact (((((hd 2 r n).mul (hk _)).add ((hd 1 r n).mul (hk _))).add ((hg r n).mul (hk _))).add (hb _)).ne_bot
end

end Cert.Up

end
-- ==== Proof.Up.Claims.lean ====
module

public import proofs.«01_k».proof.Defs
public import proofs.«01_k».proof.Proof.Gen.KernelUp
public import proofs.«01_k».proof.Proof.Up.Reference
public import proofs.«01_k».proof.Proof.Up.Finite
public import Idealize.ShloMosaic.Lib.Claim
public import Idealize.ShloMosaic.Lib.Quiescent

@[expose] public section

set_option maxRecDepth 16384

noncomputable section

namespace Cert.Up

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelUp.defs₀ (F := Bits) = Cert.KernelUpIdeal.defs₀ := by
  unfold Cert.KernelUp.defs₀ Cert.KernelUpIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelUp.defs (F := Bits) = Cert.KernelUpIdeal.defs := congrArg (Pipeline.defs Cert.KernelUpIdeal.pcfgs) bodies_eq

theorem frame_kernel : Cert.quiescent_KernelUp := fun m ρ _ => by
  have h := Cert.KernelUpIdeal.Up.frame_ideal (F := Bits) m ρ
  rw [← defs_eq] at h
  exact h

theorem frame_ideal : Cert.quiescent_KernelUpIdeal := fun m ρ _ => Cert.KernelUpIdeal.Up.frame_ideal (F := Ideal) m ρ

theorem frame_reference : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run (F := Ideal) m ρ)

/-- The frames again, of the runs whose arguments the precondition holds of. -/
theorem frame_ideal_finite : Cert.quiescent_KernelUpIdeal_pre_finite := fun m ρ _ => frame_ideal m ρ trivial

theorem frame_reference_finite : Cert.quiescent_ReferenceUpIdeal_pre_finite := fun m ρ _ => frame_reference m ρ trivial

/-- Of arguments below the infinity in magnitude, the kernel's results are the reference's. -/
theorem algebraic : Cert.algebraic_KernelUpIdeal_ReferenceUpIdeal_pre_finite := by
  pair_intro
  · run_from Cert.KernelUpIdeal.Up.run_named m g (fun c r n => conv_ne_bot _ _ _ _ _ (hpre c) r n)
  · run_from Cert.ReferenceUpIdeal.Up.run m' g'
    · exact Cert.ReferenceUpIdeal.Up.activations_eq _ _ _ _ _
    · exact Cert.ReferenceUpIdeal.Up.kept_eq _ _

end Cert.Up

end
-- ==== Proof.Mix.Body.lean ====
module

public import proofs.«01_k».proof.Proof.Gen.KernelMixIdeal.Frame
public import proofs.«01_k».proof.Proof.Gen.KernelMixIdeal.Skeleton
public import Idealize.ShloMosaic.Lib.Pipeline.ValueKit

@[expose] public section

set_option maxRecDepth 16384

noncomputable section

namespace Cert.KernelMixIdeal.Mix

open Idealize.ShloMosaic Idealize.ShloMosaic.TcCoe Idealize.ShloMosaic.Tactic
open Idealize.SL Idealize.SL.Sem
open Idealize.ShloMosaic.Pipeline (Dat Cfg Window BodyObligation cellOf)
open Idealize.SL.RA Idealize.SL.BI
open scoped Idealize.SL.BI
open Idealize.SL.BI.BIBase Idealize.SL.BI.Laws Idealize.SL.ProofMode
open Idealize.ShloMosaic.Rounds
open Cert.KernelMixIdeal Cert.KernelMixIdeal.Gen
variable {F : FTy → Type} [FloatOps F]

local notation "𝕄" => MT nD τ sig Unit (Elt F) ℕ (UR sig nD τ) ℕ

/-- What a step stores for its rows of the merged branches: `x0` the rows of the first branch, `x1` … `x5` the rows of the
    five streams, `x6` the taps, `x7` and `x8` the branches' weights, `halo` the eight rows before the step's. -/
def mixed (x0 : Vec F S256x4096 .bf16) (x1 x2 x3 x4 x5 : Vec F S256x2048 .bf16) (x6 : Vec F S3x2048 .f32) (x7 : Vec F S4096x2048 .bf16)
    (x8 : Vec F S2048x2048 .bf16) (halo : FVec F S8x2048 .f32) : FVec F S256x2048 .bf16 :=
  k0_pay1 (k0_pay9 x0 x7) (k0_pay10 (k0_pay2 x2 x3) halo (k0_pay6 x1) (k0_pay7 x6) (k0_pay8 x2 x3 x6) x8) (k0_pay11 x4)
    (Scalar.ofBits .f32 0x3F000000#32) x5

/-- Loading a whole buffer that holds `X` reads `X`. -/
theorem load_whole {S : Shape} {e : EltTy} (M : Memref sig .tc .vmem S e) (hM : M.IsWhole) {off : Fin S.rank → Nat}
    (inb : ∀ a, off a + S.size a ≤ S.size a) (X : Vec F S e) (h0 : ∀ a, off a = 0) :
    View.readAt (Elt F) M.view (Rect.unit (s := S) off S.size inb).toLoadRect (hM.unread X) = X :=
  (congrArg (fun Y => View.ld Y _) (hM.read_unread X)).trans (View.ld_unit_lit _ _ h0)

set_option maxHeartbeats 1000000 in
/-- The body at a step that finds `h` in the scratch: it stores the step's rows of the merged branches, the last eight rows
    of the gated stream as the step's tail, and the same rows in the scratch. -/
theorem body_step (c : Dev nD) (i : grid0.Coords) (arg1 : Memref sig .tc .vmem S256x4096 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S8x2048 .f32) (harg11 : arg11.IsWhole) (arg12 : Memref sig .tc .vmem S8x2048 .f32) (harg12 : arg12.IsWhole)
    (x0 : Vec F S256x4096 .bf16) (x1 : Vec F S256x2048 .bf16) (x2 : Vec F S256x2048 .bf16) (x3 : Vec F S256x2048 .bf16) (x4 : Vec F S256x2048 .bf16) (x5 : Vec F S256x2048 .bf16) (x6 : Vec F S3x2048 .f32) (x7 : Vec F S4096x2048 .bf16) (x8 : Vec F S2048x2048 .bf16) (h : Vec F S8x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare h
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (mixed x0 x1 x2 x3 x4 x5 x6 x7 x8 (k0_pay3 i h)) ∗ owns (c : Thread nD τ) arg11 fullShare (k0_pay5 x2 x3) ∗ owns (c : Thread nD τ) arg12 fullShare (k0_pay4 x2 x3)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12) K := by
  simp only [cc0_mix_eq_skeleton]; unfold cc0_mix_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    frame_open
    refine (View.read_writes_eq_canon (Val := Elt F) _ _ _ ?cov).trans ?_
    case cov => exact fun y => View.cover_of_tiledL _ S256x2048.size (by sl_kernel_rfl) y
    rw [load_whole arg1 harg1 _ x0 (by decide), load_whole arg2 harg2 _ x1 (by decide), load_whole arg3 harg3 _ x2 (by decide), load_whole arg4 harg4 _ x3 (by decide), load_whole arg5 harg5 _ x4 (by decide), load_whole arg6 harg6 _ x5 (by decide), load_whole arg7 harg7 _ x6 (by decide), load_whole arg8 harg8 _ x7 (by decide), load_whole arg9 harg9 _ x8 (by decide), load_whole arg12 harg12 _ h (by decide)]
    exact View.canon_cons_unit_lit (Val := Elt F) _ _ _ (by decide)
  isplitl [H10]
  · iexists _; isplitr
    swap; · iexact H10
    ipureintro
    frame_open
    refine (View.read_writes_eq_canon (Val := Elt F) _ _ _ ?cov).trans ?_
    case cov => exact fun y => View.cover_of_tiledL _ S8x2048.size (by sl_kernel_rfl) y
    rw [load_whole arg3 harg3 _ x2 (by decide), load_whole arg4 harg4 _ x3 (by decide)]
    exact View.canon_cons_unit_lit (Val := Elt F) _ _ _ (by decide)
  iexists _; isplitr
  swap; · iexact HS0
  ipureintro
  frame_open
  refine (View.read_writes_eq_canon (Val := Elt F) _ _ _ ?cov).trans ?_
  case cov => exact fun y => View.cover_of_tiledL _ S8x2048.size (by sl_kernel_rfl) y
  rw [load_whole arg3 harg3 _ x2 (by decide), load_whole arg4 harg4 _ x3 (by decide)]
  exact View.canon_cons_unit_lit (Val := Elt F) _ _ _ (by decide)

end Cert.KernelMixIdeal.Mix

end
-- ==== Proof.Mix.Launch.lean ====
module

public import proofs.«01_k».proof.Proof.Mix.Body

@[expose] public section

set_option maxRecDepth 16384

noncomputable section

namespace Cert.KernelMixIdeal.Mix

open Idealize.ShloMosaic Idealize.ShloMosaic.TcCoe Idealize.ShloMosaic.Tactic
open Idealize.SL Idealize.SL.Sem
open Idealize.ShloMosaic.Pipeline (Dat Cfg Window BodyObligation cellOf)
open Idealize.SL.RA Idealize.SL.BI
open scoped Idealize.SL.BI
open Idealize.SL.BI.BIBase Idealize.SL.BI.Laws Idealize.SL.ProofMode
open Idealize.ShloMosaic.Rounds
open Cert.KernelMixIdeal Cert.KernelMixIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The halo is taken as zero at the first of the eight steps of a sequence. -/
theorem halo_first (t : Fin cfg0.N) (h : t.val % 8 = 0) (x : Vec F S8x2048 .f32) :
    k0_pay3 (grid0.coords t) x = broadcast S8x2048 (Scalar.ofBits .f32 0x00000000#32) := by
  have ht : t.val < 32 := Nat.lt_of_lt_of_eq t.isLt N_0
  have e0 : (grid0.coords t 0).val = t.val / 1 % 32 := Pipeline.Grid.coords_val t 0 (by decide) rfl
  unfold k0_pay3
  simp only [e0]
  have : t.val = 0 ∨ t.val = 8 ∨ t.val = 16 ∨ t.val = 24 := by omega
  rcases this with e | e | e | e <;> rw [e] <;> rfl

/-- At the later steps it is what the scratch holds. -/
theorem halo_later (t : Fin cfg0.N) (h : ¬t.val % 8 = 0) (x : Vec F S8x2048 .f32) : k0_pay3 (grid0.coords t) x = x := by
  have ht : t.val < 32 := Nat.lt_of_lt_of_eq t.isLt N_0
  have e0 : (grid0.coords t 0).val = t.val / 1 % 32 := Pipeline.Grid.coords_val t 0 (by decide) rfl
  unfold k0_pay3
  simp only [e0]
  generalize t.val = n at *
  interval_cases n <;> first | omega | rfl

/-- The rows of the gated stream before step `t`'s: zero at the start of a sequence, the last eight rows of the step before
    it otherwise. -/
def halo (c : Dev nD) (t : Fin cfg0.N) : FVec F S8x2048 .f32 :=
  if t.val % 8 = 0 then broadcast S8x2048 (Scalar.ofBits .f32 0x00000000#32)
  else k0_pay4 (iblk m c 2 ⟨t.val - 1, Nat.lt_of_le_of_lt (Nat.sub_le _ _) t.isLt⟩) (iblk m c 3 ⟨t.val - 1, Nat.lt_of_le_of_lt (Nat.sub_le _ _) t.isLt⟩)

/-- The scratch of the body, a whole buffer. -/
abbrev scratch : Memref sig .tc .vmem S8x2048 .f32 := Memref.whole cc0_scratch0

theorem start_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- What holds between grid steps: before the first the scratch has any contents, and after step `n` the last eight rows of
    that step's gated stream. -/
def between (c : Dev nD) : (n : ℕ) → n ≤ cfg0.N → sProp 𝕄
  | 0, _ => Pipeline.ΦA spec0 c
  | n + 1, hn => iprop(iprop(owns (c : Thread nD τ) scratch fullShare (k0_pay4 (iblk m c 2 ⟨n, hn⟩) (iblk m c 3 ⟨n, hn⟩))) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h
      = iprop(iprop(owns (c : Thread nD τ) scratch fullShare (k0_pay4 (iblk m c 2 ⟨n - 1, by omega⟩) (iblk m c 3 ⟨n - 1, by omega⟩))) ∗ (∃ r, prngReg c r)) := by
  cases n with
  | zero => exact absurd rfl hz
  | succ n => rfl

/-- The pipeline's proof data: each input's buffer keeps its block, the results' buffers hold what the step stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => mixed (iblk m c 0 t) (iblk m c 1 t) (iblk m c 2 t) (iblk m c 3 t) (iblk m c 4 t) (iblk m c 5 t) (iblk m c 6 t) (iblk m c 7 t) (iblk m c 8 t) (halo m c t)
    | ⟨10, _⟩ => k0_pay5 (iblk m c 2 t) (iblk m c 3 t)
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = mixed (iblk m c 0 t) (iblk m c 1 t) (iblk m c 2 t) (iblk m c 3 t) (iblk m c 4 t) (iblk m c 5 t) (iblk m c 6 t) (iblk m c 7 t) (iblk m c 8 t) (halo m c t) := by
  dsimp only [dats]
theorem after_10 (c : Dev nD) (t : Fin cfg0.N) : (dats m 0 c).after 10 t = k0_pay5 (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The windows' current buffers at step `t`. -/
abbrev ms_0 (t : Fin cfg0.N) : Memref sig .tc .vmem S256x4096 .bf16 := win0_0.stage (cfg0.slots t 0)
abbrev ms_1 (t : Fin cfg0.N) : Memref sig .tc .vmem S256x2048 .bf16 := win0_1.stage (cfg0.slots t 1)
abbrev ms_2 (t : Fin cfg0.N) : Memref sig .tc .vmem S256x2048 .bf16 := win0_2.stage (cfg0.slots t 2)
abbrev ms_3 (t : Fin cfg0.N) : Memref sig .tc .vmem S256x2048 .bf16 := win0_3.stage (cfg0.slots t 3)
abbrev ms_4 (t : Fin cfg0.N) : Memref sig .tc .vmem S256x2048 .bf16 := win0_4.stage (cfg0.slots t 4)
abbrev ms_5 (t : Fin cfg0.N) : Memref sig .tc .vmem S256x2048 .bf16 := win0_5.stage (cfg0.slots t 5)
abbrev ms_6 (t : Fin cfg0.N) : Memref sig .tc .vmem S3x2048 .f32 := win0_6.stage (cfg0.slots t 6)
abbrev ms_7 (t : Fin cfg0.N) : Memref sig .tc .vmem S4096x2048 .bf16 := win0_7.stage (cfg0.slots t 7)
abbrev ms_8 (t : Fin cfg0.N) : Memref sig .tc .vmem S2048x2048 .bf16 := win0_8.stage (cfg0.slots t 8)
abbrev ms_9 (t : Fin cfg0.N) : Memref sig .tc .vmem S256x2048 .bf16 := win0_9.stage (cfg0.slots t 9)
abbrev ms_10 (t : Fin cfg0.N) : Memref sig .tc .vmem S8x2048 .f32 := win0_10.stage (cfg0.slots t 10)

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

set_option maxHeartbeats 3200000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8  ]
  rw [show (dats m 0 c).owesAt () t.succ = (dats m 0 c).owesAt () t.castSucc from rfl,
    after_0, after_1, after_2, after_3, after_4, after_5, after_6, after_7, after_8, after_9, after_10]
  rw [show (dats m 0 c).Φ t.succ
    = iprop(iprop(owns (c : Thread nD τ) scratch fullShare (k0_pay4 (iblk m c 2 t) (iblk m c 3 t))) ∗ (∃ r, prngReg c r)) from rfl]
  have hΦ : (dats m 0 c).Φ t.castSucc
      ⊢ (iprop((∃ h, ⌜k0_pay3 (grid0.coords t) h = halo m c t⌝ ∗ owns (c : Thread nD τ) scratch fullShare h) ∗ (∃ r, prngReg c r)) : sProp 𝕄) := by
    rw [between_castSucc m c t]
    by_cases hz : t.val = 0
    · rw [between_zero m c _ _ hz, start_eq]
      iintro ⟨⟨%h, H⟩, Hg⟩
      isplitl [H]
      · iexists h; isplitr
        · ipureintro
          have h8 : t.val % 8 = 0 := by rw [hz]
          rw [halo_first t h8]; unfold halo; rw [if_pos h8]
        iexact H
      iexact Hg
    · rw [between_pos m c _ _ hz]
      iintro ⟨H, Hg⟩
      isplitl [H]
      · iexists _; isplitr
        swap; · iexact H
        ipureintro
        by_cases h8 : t.val % 8 = 0
        · rw [halo_first t h8]; unfold halo; rw [if_pos h8]
        · rw [halo_later t h8]; unfold halo; rw [if_neg h8]
      iexact Hg
  refine Entails.trans (sep_mono_l hΦ) (?_ : iprop(_ ∗ _) ⊢ _)
  iintro ⟨⟨⟨%h, %hh, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← hh]
  iapply (body_step c (grid0.coords t) _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c cfg0.N (le_refl _) from rfl,
    between_pos m c _ _ (by have : cfg0.N = 32 := N_0; omega), start_eq]
  iintro ⟨H, Hg⟩
  isplitl [H]; · iexists _; iexact H
  iexact Hg

set_option backward.isDefEq.respectTransparency.types false in
/-- The whole run: it terminates, each array of the pipeline ends at the blocks written back, the other arrays at what the
    operations after the call leave, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.KernelMixIdeal.Mix

end
-- ==== Proof.Mix.Value.lean ====
module

public import proofs.«01_k».proof.Proof.Mix.Launch
public import proofs.«01_k».proof.Proof.Common.Functions
public import Idealize.ShloMosaic.Lib.Pipeline.ValueKit

@[expose] public section

set_option maxRecDepth 16384

noncomputable section

namespace Cert.KernelMixIdeal.Mix

open Idealize.ShloMosaic Idealize.ShloMosaic.TcCoe Idealize.ShloMosaic.Tactic
open Idealize.SL Idealize.SL.Sem
open Idealize.ShloMosaic.Pipeline (Dat Cfg Window BodyObligation cellOf)
open Cert.KernelMixIdeal Cert.KernelMixIdeal.Gen
open Cert.Common (sigmoid sigmoid_tanh half)
/-- Row `r`, channel `n` of the gated stream. -/
def gated (P : FVec Ideal S4x2048x20480 .bf16) (r : Fin 8192) (n : Fin 2048) : EReal :=
  P (ix3 ⟨r / 2048, by omega⟩ ⟨r % 2048, by omega⟩ ⟨12288 + n, by omega⟩) * P (ix3 ⟨r / 2048, by omega⟩ ⟨r % 2048, by omega⟩ ⟨14336 + n, by omega⟩)

/-- The gated stream `d` rows earlier in the row's own sequence, zero before its start. -/
def back (d : ℕ) (P : FVec Ideal S4x2048x20480 .bf16) (r : Fin 8192) (n : Fin 2048) : EReal :=
  if r.val % 2048 < d then 0 else gated P ⟨r - d, by omega⟩ n

/-- The causal convolution of the gated stream with the three taps. -/
def conv (P : FVec Ideal S4x2048x20480 .bf16) (K : FVec Ideal S1x3x2048 .f32) (r : Fin 8192) (n : Fin 2048) : EReal :=
  back 2 P r n * K (ix3 0 0 n) + back 1 P r n * K (ix3 0 1 n) + gated P r n * K (ix3 0 2 n)

/-- The second branch's stream, gated and convolved. -/
def branch (P : FVec Ideal S4x2048x20480 .bf16) (K : FVec Ideal S1x3x2048 .f32) (r : Fin 8192) (n : Fin 2048) : EReal :=
  P (ix3 ⟨r / 2048, by omega⟩ ⟨r % 2048, by omega⟩ ⟨10240 + n, by omega⟩) * conv P K r n

/-- Row `r`, feature `n` of the merged branches. -/
def mixAt (Y : FVec Ideal S4x2048x4096 .bf16) (P : FVec Ideal S4x2048x20480 .bf16) (K : FVec Ideal S1x3x2048 .f32) (A : FVec Ideal S1x4096x2048 .f32) (B : FVec Ideal S1x2048x2048 .f32) (r : Fin 8192) (n : Fin 2048) : EReal :=
  sigmoid (P (ix3 ⟨r / 2048, by omega⟩ ⟨r % 2048, by omega⟩ ⟨16384 + n, by omega⟩)) * (∑ k : Fin 4096, Y (ix3 ⟨r / 2048, by omega⟩ ⟨r % 2048, by omega⟩ k) * A (ix3 0 k n))
    + sigmoid (P (ix3 ⟨r / 2048, by omega⟩ ⟨r % 2048, by omega⟩ ⟨18432 + n, by omega⟩))
      * ∑ k : Fin 2048, branch P K r k * B (ix3 0 k n)

/-- The merged branches, an array. -/
def mixOut (Y : FVec Ideal S4x2048x4096 .bf16) (P : FVec Ideal S4x2048x20480 .bf16) (K : FVec Ideal S1x3x2048 .f32) (A : FVec Ideal S1x4096x2048 .f32) (B : FVec Ideal S1x2048x2048 .f32) : FVec Ideal S8192x2048 .bf16 := fun i => mixAt Y P K A B (i 0) (i 1)

/-- The gated stream's last two rows of each sequence, an array. -/
def stateOut (P : FVec Ideal S4x2048x20480 .bf16) : FVec Ideal S4x2x2048 .f32 :=
  fun i => gated P ⟨(i 0).val * 2048 + 2046 + (i 1).val, by
    have h0 : (i 0).val < 4 := (i 0).isLt
    have h1 : (i 1).val < 2 := (i 1).isLt
    omega⟩ (i 2)

/-- A block's gated rows one row earlier, the block before it giving the first. -/
def shift1 (u : FVec Ideal S256x2048 .f32) (h : FVec Ideal S8x2048 .f32) : FVec Ideal S256x2048 .f32 :=
  concatenate S256x2048 0 [⟨S8x2048, select (cmpi .slt (iota .tc S8x2048 32 [0] iota_S8x2048_d0_w32) (broadcast S8x2048 1#32))
      (dynamicRotate 0 1#32 none h rotates_S8x2048_d0) (extractStridedSlice S8x2048 ![0, 0] (dynamicRotate 0 1#32 none u rotates_S256x2048_d0) slices_S256x2048_o0_0_S8x2048)⟩,
    ⟨S248x2048, extractStridedSlice S248x2048 ![8, 0] (dynamicRotate 0 1#32 none u rotates_S256x2048_d0) slices_S256x2048_o8_0_S248x2048⟩] concatenates_S8x2048_S248x2048_S256x2048_d0

/-- And two rows earlier. -/
def shift2 (u : FVec Ideal S256x2048 .f32) (h : FVec Ideal S8x2048 .f32) : FVec Ideal S256x2048 .f32 :=
  concatenate S256x2048 0 [⟨S8x2048, select (cmpi .slt (iota .tc S8x2048 32 [0] iota_S8x2048_d0_w32) (broadcast S8x2048 2#32))
      (dynamicRotate 0 2#32 none h rotates_S8x2048_d0) (extractStridedSlice S8x2048 ![0, 0] (dynamicRotate 0 2#32 none u rotates_S256x2048_d0) slices_S256x2048_o0_0_S8x2048)⟩,
    ⟨S248x2048, extractStridedSlice S248x2048 ![8, 0] (dynamicRotate 0 2#32 none u rotates_S256x2048_d0) slices_S256x2048_o8_0_S248x2048⟩] concatenates_S8x2048_S248x2048_S256x2048_d0

theorem first_row (a : ℕ) (ha : a < 8) (x y : EReal) :
    Scalar.select (IntOp.cmpi CmpIPredicate.slt (BitVec.ofNat 32 a) 1#32) x y = if a < 1 then x else y := by
  interval_cases a <;> rfl

theorem first_rows (a : ℕ) (ha : a < 8) (x y : EReal) :
    Scalar.select (IntOp.cmpi CmpIPredicate.slt (BitVec.ofNat 32 a) 2#32) x y = if a < 2 then x else y := by
  interval_cases a <;> rfl

theorem shift1_at (u : FVec Ideal S256x2048 .f32) (h : FVec Ideal S8x2048 .f32) (j : Fin 256) (n : Fin 2048) :
    shift1 u h (ix2 j n) = if j.val < 1 then h (ix2 ⟨(7 + j) % 8, by omega⟩ n) else u (ix2 ⟨j - 1, by omega⟩ n) := by
  pointwise [shift1]
  by_cases h8 : j.val < 8
  · have e1 : (j.val + 8 - 1) % 8 = (7 + j.val) % 8 := by omega
    refine (dif_pos h8).trans ((first_row _ h8 _ _).trans ?_)
    by_cases hd : j.val < 1
    · refine (if_pos hd).trans (Eq.trans ?_ (if_pos hd).symm)
      exact congrArg (fun k => h (ix2 k n)) (Fin.ext e1)
    · have e2 : (j.val + 256 - 1) % 256 = j.val - 1 := by omega
      refine (if_neg hd).trans (Eq.trans ?_ (if_neg hd).symm)
      exact congrArg (fun k => u (ix2 k n)) (Fin.ext e2)
  · have hd : ¬j.val < 1 := by omega
    have e3 : (8 + (j.val - 8) + 256 - 1) % 256 = j.val - 1 := by omega
    refine (dif_neg h8).trans (Eq.trans ?_ (if_neg hd).symm)
    exact congrArg (fun k => u (ix2 k n)) (Fin.ext e3)

theorem shift2_at (u : FVec Ideal S256x2048 .f32) (h : FVec Ideal S8x2048 .f32) (j : Fin 256) (n : Fin 2048) :
    shift2 u h (ix2 j n) = if j.val < 2 then h (ix2 ⟨(6 + j) % 8, by omega⟩ n) else u (ix2 ⟨j - 2, by omega⟩ n) := by
  pointwise [shift2]
  by_cases h8 : j.val < 8
  · have e1 : (j.val + 8 - 2) % 8 = (6 + j.val) % 8 := by omega
    refine (dif_pos h8).trans ((first_rows _ h8 _ _).trans ?_)
    by_cases hd : j.val < 2
    · refine (if_pos hd).trans (Eq.trans ?_ (if_pos hd).symm)
      exact congrArg (fun k => h (ix2 k n)) (Fin.ext e1)
    · have e2 : (j.val + 256 - 2) % 256 = j.val - 2 := by omega
      refine (if_neg hd).trans (Eq.trans ?_ (if_neg hd).symm)
      exact congrArg (fun k => u (ix2 k n)) (Fin.ext e2)
  · have hd : ¬j.val < 2 := by omega
    have e3 : (8 + (j.val - 8) + 256 - 2) % 256 = j.val - 2 := by omega
    refine (dif_neg h8).trans (Eq.trans ?_ (if_neg hd).symm)
    exact congrArg (fun k => u (ix2 k n)) (Fin.ext e3)

/-- The second branch's stream, gated and convolved, of a block. -/
def second (u : FVec Ideal S256x2048 .f32) (h : FVec Ideal S8x2048 .f32) (b : FVec Ideal S256x2048 .f32) (K : FVec Ideal S3x2048 .f32)
    (q : FVec Ideal S256x2048 .f32) : FVec Ideal S256x2048 .f32 :=
  mulf b (addf (addf q (mulf (broadcastTo S256x2048 (extractStridedSlice S1x2048 ![1, 0] K slices_S3x2048_o1_0_S1x2048) broadcasts_S1x2048_S256x2048) (shift1 u h)))
    (mulf (broadcastTo S256x2048 (extractStridedSlice S1x2048 ![0, 0] K slices_S3x2048_o0_0_S1x2048) broadcasts_S1x2048_S256x2048) (shift2 u h)))

theorem pay10_eq (u : FVec Ideal S256x2048 .f32) (h : FVec Ideal S8x2048 .f32) (b : FVec Ideal S256x2048 .f32) (K : FVec Ideal S3x2048 .f32)
    (q : FVec Ideal S256x2048 .f32) (w : FVec Ideal S2048x2048 .bf16) :
    k0_pay10 (F := Ideal) u h b K q w = matmul dot_S256x2048_S2048x2048_S256x2048_1_0_0_1_n_n none (truncf .bf16 (second u h b K q) bitsLt_bf16_f32)
      (shapeCast S2048x2048 w shapeCasts_S2048x2048_S2048x2048) (constant S256x2048 .f32 0x00000000#32) := rfl

theorem second_at (u : FVec Ideal S256x2048 .f32) (h : FVec Ideal S8x2048 .f32) (b : FVec Ideal S256x2048 .f32) (K : FVec Ideal S3x2048 .f32)
    (q : FVec Ideal S256x2048 .f32) (j : Fin 256) (n : Fin 2048) :
    second u h b K q (ix2 j n) = b (ix2 j n) * (q (ix2 j n) + K (ix2 1 n) * shift1 u h (ix2 j n) + K (ix2 0 n) * shift2 u h (ix2 j n)) := by
  pointwise [second]

theorem pay10_at (u : FVec Ideal S256x2048 .f32) (h : FVec Ideal S8x2048 .f32) (b : FVec Ideal S256x2048 .f32) (K : FVec Ideal S3x2048 .f32)
    (q : FVec Ideal S256x2048 .f32) (w : FVec Ideal S2048x2048 .bf16) (j : Fin 256) (n : Fin 2048) :
    k0_pay10 (F := Ideal) u h b K q w (ix2 j n) = ∑ k : Fin 2048, second u h b K q (ix2 j k) * w (ix2 k n) := by
  rw [pay10_eq]
  pointwise

theorem pay9_at (y : FVec Ideal S256x4096 .bf16) (w : FVec Ideal S4096x2048 .bf16) (j : Fin 256) (n : Fin 2048) :
    k0_pay9 (F := Ideal) y w (ix2 j n) = ∑ k : Fin 4096, y (ix2 j k) * w (ix2 k n) := by
  pointwise [k0_pay9]

theorem pay1_at (p q : FVec Ideal S256x2048 .f32) (a b : FVec Ideal S256x2048 .bf16) (j : Fin 256) (n : Fin 2048) :
    k0_pay1 (F := Ideal) p q (k0_pay11 a) (Scalar.ofBits .f32 0x3F000000#32) b (ix2 j n)
      = sigmoid (a (ix2 j n)) * p (ix2 j n) + sigmoid (b (ix2 j n)) * q (ix2 j n) := by
  simp only [← sigmoid_tanh]
  pointwise [k0_pay1, k0_pay11]

theorem pay2_at (a b : FVec Ideal S256x2048 .bf16) (j : Fin 256) (n : Fin 2048) :
    k0_pay2 (F := Ideal) a b (ix2 j n) = a (ix2 j n) * b (ix2 j n) := by
  pointwise [k0_pay2]

theorem pay4_at (a b : FVec Ideal S256x2048 .bf16) (j : Fin 8) (n : Fin 2048) :
    k0_pay4 (F := Ideal) a b (ix2 j n) = a (ix2 ⟨248 + j, by omega⟩ n) * b (ix2 ⟨248 + j, by omega⟩ n) := by
  pointwise [k0_pay4, k0_pay2]

theorem pay5_at (a b : FVec Ideal S256x2048 .bf16) (j : Fin 8) (n : Fin 2048) :
    k0_pay5 (F := Ideal) a b (ix2 j n) = a (ix2 ⟨248 + j, by omega⟩ n) * b (ix2 ⟨248 + j, by omega⟩ n) := by
  pointwise [k0_pay5, k0_pay2]

theorem pay6_at (a : FVec Ideal S256x2048 .bf16) (j : Fin 256) (n : Fin 2048) : k0_pay6 (F := Ideal) a (ix2 j n) = a (ix2 j n) := by
  pointwise [k0_pay6]

theorem pay7_at (K : FVec Ideal S3x2048 .f32) (j : Fin 3) (n : Fin 2048) : k0_pay7 (F := Ideal) K (ix2 j n) = K (ix2 j n) := by
  pointwise [k0_pay7]

theorem pay8_at (a b : FVec Ideal S256x2048 .bf16) (K : FVec Ideal S3x2048 .f32) (j : Fin 256) (n : Fin 2048) :
    k0_pay8 (F := Ideal) a b K (ix2 j n) = K (ix2 2 n) * (a (ix2 j n) * b (ix2 j n)) := by
  pointwise [k0_pay8, k0_pay7, k0_pay2]

variable (m : (ℓ : Loc nD τ sig) → Buf (Elt Ideal) ℓ)

/-- What the region finds in a buffer is what the operations before it leave there. -/
theorem V_after (c : Dev nD) (b : Ref sig .tc) : V m c b = StableHlo.after hostOps0 (fun b => m (c, b)) b := by
  show StableHlo.after (hostOps0 ++ []) _ _ = _
  rw [List.append_nil]

theorem entry_y (c : Dev nD) (r : Fin 8192) (k : Fin 4096) :
    V m c main_v0 (ix2 r k) = m ((c.tc : Thread nD τ).loc main_arg0) (ix3 ⟨r / 2048, by omega⟩ ⟨r % 2048, by omega⟩ k) := by
  refine (congrFun (V_after m c _) _).trans ?_
  entry_read
  pointwise

theorem entry_p (c : Dev nD) (r : Fin 8192) (k : Fin 20480) :
    V m c main_v1 (ix2 r k) = m ((c.tc : Thread nD τ).loc main_arg1) (ix3 ⟨r / 2048, by omega⟩ ⟨r % 2048, by omega⟩ k) := by
  refine (congrFun (V_after m c _) _).trans ?_
  entry_read
  pointwise

theorem entry_k (c : Dev nD) (j : Fin 3) (n : Fin 2048) :
    V m c main_v2 (ix2 j n) = m ((c.tc : Thread nD τ).loc main_arg2) (ix3 0 j n) := by
  refine (congrFun (V_after m c _) _).trans ?_
  entry_read
  pointwise

theorem entry_a (c : Dev nD) (k : Fin 4096) (n : Fin 2048) :
    V m c main_v4 (ix2 k n) = m ((c.tc : Thread nD τ).loc main_arg3) (ix3 0 k n) := by
  refine (congrFun (V_after m c _) _).trans ?_
  entry_read
  pointwise

theorem entry_b (c : Dev nD) (k : Fin 2048) (n : Fin 2048) :
    V m c main_v6 (ix2 k n) = m ((c.tc : Thread nD τ).loc main_arg4) (ix3 0 k n) := by
  refine (congrFun (V_after m c _) _).trans ?_
  entry_read
  pointwise

theorem idx : ∀ t : Fin cfg0.N, win0_0.index t = ![t.val, 0] ∧ win0_1.index t = ![t.val, 5] ∧ win0_2.index t = ![t.val, 6]
    ∧ win0_3.index t = ![t.val, 7] ∧ win0_4.index t = ![t.val, 8] ∧ win0_5.index t = ![t.val, 9] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

theorem t_lt (t : Fin cfg0.N) : t.val < 32 := lt_of_lt_of_eq t.isLt (by decide +kernel)

theorem rows_lt (t : Fin cfg0.N) (j : Fin 256) : t.val * 256 + (j : ℕ) < 8192 := by
  have ht := t_lt t
  omega

theorem point_y (c : Dev nD) (t : Fin cfg0.N) (y : S256x4096.Idx) :
    iblk m c 0 t y = V m c main_v0 (ix2 ⟨_, rows_lt t (y 0)⟩ (y 1)) := by
  blk_ext [iblk, idx t]

theorem point_1 (c : Dev nD) (t : Fin cfg0.N) (y : S256x2048.Idx) :
    iblk m c 1 t y = V m c main_v1 (ix2 ⟨_, rows_lt t (y 0)⟩ ⟨10240 + y 1, by have h : (y 1).val < 2048 := (y 1).isLt; omega⟩) := by
  blk_ext [iblk, idx t]

theorem point_2 (c : Dev nD) (t : Fin cfg0.N) (y : S256x2048.Idx) :
    iblk m c 2 t y = V m c main_v1 (ix2 ⟨_, rows_lt t (y 0)⟩ ⟨12288 + y 1, by have h : (y 1).val < 2048 := (y 1).isLt; omega⟩) := by
  blk_ext [iblk, idx t]

theorem point_3 (c : Dev nD) (t : Fin cfg0.N) (y : S256x2048.Idx) :
    iblk m c 3 t y = V m c main_v1 (ix2 ⟨_, rows_lt t (y 0)⟩ ⟨14336 + y 1, by have h : (y 1).val < 2048 := (y 1).isLt; omega⟩) := by
  blk_ext [iblk, idx t]

theorem point_4 (c : Dev nD) (t : Fin cfg0.N) (y : S256x2048.Idx) :
    iblk m c 4 t y = V m c main_v1 (ix2 ⟨_, rows_lt t (y 0)⟩ ⟨16384 + y 1, by have h : (y 1).val < 2048 := (y 1).isLt; omega⟩) := by
  blk_ext [iblk, idx t]

theorem point_5 (c : Dev nD) (t : Fin cfg0.N) (y : S256x2048.Idx) :
    iblk m c 5 t y = V m c main_v1 (ix2 ⟨_, rows_lt t (y 0)⟩ ⟨18432 + y 1, by have h : (y 1).val < 2048 := (y 1).isLt; omega⟩) := by
  blk_ext [iblk, idx t]

theorem point_k (c : Dev nD) (t : Fin cfg0.N) (y : S3x2048.Idx) : iblk m c 6 t y = V m c main_v2 (ix2 (y 0) (y 1)) := by
  blk_ext [iblk, idx t]

theorem point_a (c : Dev nD) (t : Fin cfg0.N) (y : S4096x2048.Idx) : iblk m c 7 t y = V m c main_v4 (ix2 (y 0) (y 1)) := by
  blk_ext [iblk, idx t]

theorem point_b (c : Dev nD) (t : Fin cfg0.N) (y : S2048x2048.Idx) : iblk m c 8 t y = V m c main_v6 (ix2 (y 0) (y 1)) := by
  blk_ext [iblk, idx t]

theorem gated_congr {P : FVec Ideal S4x2048x20480 .bf16} {r r' : Fin 8192} {n n' : Fin 2048} (hr : (r : ℕ) = r') (hn : n = n') :
    gated P r n = gated P r' n' := by
  rw [Fin.ext hr, hn]

theorem stream_at (c : Dev nD) (t : Fin cfg0.N) (j : Fin 256) (n : Fin 2048) :
    (k0_pay2 (F := Ideal) (iblk m c 2 t) (iblk m c 3 t)) (ix2 j n) = gated (m ((c.tc : Thread nD τ).loc main_arg1)) ⟨t.val * 256 + j, rows_lt t j⟩ n := by
  refine (pay2_at _ _ _ _).trans (congrArg₂ (· * ·) ?_ ?_)
  · exact (point_2 m c t (ix2 j n)).trans (entry_p m c _ _)
  · exact (point_3 m c t (ix2 j n)).trans (entry_p m c _ _)

theorem tail_at (c : Dev nD) (t : Fin cfg0.N) (j : Fin 8) (n : Fin 2048) :
    k0_pay4 (F := Ideal) (iblk m c 2 t) (iblk m c 3 t) (ix2 j n) = gated (m ((c.tc : Thread nD τ).loc main_arg1)) ⟨t.val * 256 + (248 + j), rows_lt t ⟨248 + j, by omega⟩⟩ n := by
  refine (pay4_at _ _ _ _).trans (congrArg₂ (· * ·) ?_ ?_)
  · exact (point_2 m c t (ix2 ⟨248 + j, by omega⟩ n)).trans (entry_p m c _ _)
  · exact (point_3 m c t (ix2 ⟨248 + j, by omega⟩ n)).trans (entry_p m c _ _)

theorem halo_zero (c : Dev nD) (t : Fin cfg0.N) (h : t.val % 8 = 0) (j : Fin 8) (n : Fin 2048) : halo m c t (ix2 j n) = 0 := by
  unfold halo
  rw [if_pos h]
  pointwise

theorem halo_tail (c : Dev nD) (t : Fin cfg0.N) (h : ¬t.val % 8 = 0) (j : Fin 8) (n : Fin 2048) :
    halo m c t (ix2 j n) = gated (m ((c.tc : Thread nD τ).loc main_arg1)) ⟨t.val * 256 - 8 + j, by have := t_lt t; omega⟩ n := by
  unfold halo
  rw [if_neg h]
  refine (tail_at m c _ j n).trans (gated_congr ?_ rfl)
  show (t.val - 1) * 256 + (248 + j.val) = t.val * 256 - 8 + j.val
  omega

theorem shift1_back (c : Dev nD) (t : Fin cfg0.N) (j : Fin 256) (n : Fin 2048) :
    shift1 (k0_pay2 (F := Ideal) (iblk m c 2 t) (iblk m c 3 t)) (halo m c t) (ix2 j n) = back 1 (m ((c.tc : Thread nD τ).loc main_arg1)) ⟨t.val * 256 + j, rows_lt t j⟩ n := by
  refine (shift1_at _ _ _ _).trans ?_
  have ht := t_lt t
  unfold back
  by_cases hj : j.val < 1
  · refine (if_pos hj).trans ?_
    by_cases h8 : t.val % 8 = 0
    · have hr : (t.val * 256 + j.val) % 2048 < 1 := by omega
      exact (halo_zero m c t h8 _ n).trans (if_pos hr).symm
    · have hr : ¬(t.val * 256 + j.val) % 2048 < 1 := by omega
      refine (halo_tail m c t h8 _ n).trans (Eq.trans ?_ (if_neg hr).symm)
      refine gated_congr ?_ rfl
      show t.val * 256 - 8 + (7 + j.val) % 8 = t.val * 256 + j.val - 1
      omega
  · have hr : ¬(t.val * 256 + j.val) % 2048 < 1 := by omega
    refine (if_neg hj).trans (Eq.trans ?_ (if_neg hr).symm)
    refine (stream_at m c t _ n).trans (gated_congr ?_ rfl)
    show t.val * 256 + (j.val - 1) = t.val * 256 + j.val - 1
    omega

theorem shift2_back (c : Dev nD) (t : Fin cfg0.N) (j : Fin 256) (n : Fin 2048) :
    shift2 (k0_pay2 (F := Ideal) (iblk m c 2 t) (iblk m c 3 t)) (halo m c t) (ix2 j n) = back 2 (m ((c.tc : Thread nD τ).loc main_arg1)) ⟨t.val * 256 + j, rows_lt t j⟩ n := by
  refine (shift2_at _ _ _ _).trans ?_
  have ht := t_lt t
  unfold back
  by_cases hj : j.val < 2
  · refine (if_pos hj).trans ?_
    by_cases h8 : t.val % 8 = 0
    · have hr : (t.val * 256 + j.val) % 2048 < 2 := by omega
      exact (halo_zero m c t h8 _ n).trans (if_pos hr).symm
    · have hr : ¬(t.val * 256 + j.val) % 2048 < 2 := by omega
      refine (halo_tail m c t h8 _ n).trans (Eq.trans ?_ (if_neg hr).symm)
      refine gated_congr ?_ rfl
      show t.val * 256 - 8 + (6 + j.val) % 8 = t.val * 256 + j.val - 2
      omega
  · have hr : ¬(t.val * 256 + j.val) % 2048 < 2 := by omega
    refine (if_neg hj).trans (Eq.trans ?_ (if_neg hr).symm)
    refine (stream_at m c t _ n).trans (gated_congr ?_ rfl)
    show t.val * 256 + (j.val - 2) = t.val * 256 + j.val - 2
    omega

/-- The taps applied in the kernel's order are the reference's sum. -/
theorem taps_order (a b d x y z : EReal) : a * x + b * y + d * z = z * d + y * b + x * a := by
  rw [mul_comm a x, mul_comm b y, mul_comm d z, add_comm (x * a) (y * b), add_assoc, add_comm (x * a) (z * d), ← add_assoc, add_comm (y * b) (z * d)]

theorem second_conv (c : Dev nD) (t : Fin cfg0.N) (j : Fin 256) (n : Fin 2048) :
    second (k0_pay2 (F := Ideal) (iblk m c 2 t) (iblk m c 3 t)) (halo m c t) (k0_pay6 (F := Ideal) (iblk m c 1 t)) (k0_pay7 (F := Ideal) (iblk m c 6 t)) (k0_pay8 (F := Ideal) (iblk m c 2 t) (iblk m c 3 t) (iblk m c 6 t)) (ix2 j n)
      = branch (m ((c.tc : Thread nD τ).loc main_arg1)) (m ((c.tc : Thread nD τ).loc main_arg2)) ⟨t.val * 256 + j, rows_lt t j⟩ n := by
  have k : ∀ i : Fin 3, k0_pay7 (F := Ideal) (iblk m c 6 t) (ix2 i n) = (m ((c.tc : Thread nD τ).loc main_arg2)) (ix3 0 i n) := fun i =>
    (pay7_at _ _ _).trans ((point_k m c t (ix2 i n)).trans (entry_k m c i n))
  refine (second_at _ _ _ _ _ _ _).trans (congrArg₂ (· * ·) ?_ (Eq.trans ?_ (taps_order _ _ _ _ _ _)))
  · exact (pay6_at _ _ _).trans ((point_1 m c t (ix2 j n)).trans (entry_p m c _ _))
  · refine congrArg₂ (· + ·) (congrArg₂ (· + ·) ?_ ?_) ?_
    · refine (pay8_at _ _ _ _ _).trans (congrArg₂ (· * ·) ((point_k m c t (ix2 2 n)).trans (entry_k m c 2 n)) ?_)
      exact (pay2_at _ _ _ _).symm.trans (stream_at m c t j n)
    · exact congrArg₂ (· * ·) (k 1) (shift1_back m c t j n)
    · exact congrArg₂ (· * ·) (k 0) (shift2_back m c t j n)

theorem flushed_9 (c : Dev nD) (t : Fin cfg0.N) (j : Fin 256) (n : Fin 2048) :
    mixed (F := Ideal) (iblk m c 0 t) (iblk m c 1 t) (iblk m c 2 t) (iblk m c 3 t) (iblk m c 4 t) (iblk m c 5 t) (iblk m c 6 t) (iblk m c 7 t) (iblk m c 8 t) (halo m c t) (ix2 j n) = mixAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val * 256 + j, rows_lt t j⟩ n := by
  unfold mixed
  refine (pay1_at _ _ _ _ _ _).trans (congrArg₂ (· + ·) (congrArg₂ (· * ·) (congrArg sigmoid ?_) ?_) (congrArg₂ (· * ·) (congrArg sigmoid ?_) ?_))
  · exact (point_4 m c t (ix2 j n)).trans (entry_p m c _ _)
  · refine (pay9_at _ _ _ _).trans (Finset.sum_congr rfl fun k _ => congrArg₂ (· * ·) ?_ ?_)
    · exact (point_y m c t (ix2 j k)).trans (entry_y m c _ _)
    · exact (point_a m c t (ix2 k n)).trans (entry_a m c _ _)
  · exact (point_5 m c t (ix2 j n)).trans (entry_p m c _ _)
  · refine (pay10_at _ _ _ _ _ _ _ _).trans (Finset.sum_congr rfl fun k _ => congrArg₂ (· * ·) ?_ ?_)
    · exact second_conv m c t j k
    · exact (point_b m c t (ix2 k n)).trans (entry_b m c _ _)

theorem flushed_10 (c : Dev nD) (t : Fin cfg0.N) (j : Fin 8) (n : Fin 2048) :
    k0_pay5 (F := Ideal) (iblk m c 2 t) (iblk m c 3 t) (ix2 j n) = gated (m ((c.tc : Thread nD τ).loc main_arg1)) ⟨t.val * 256 + (248 + j), rows_lt t ⟨248 + j, by omega⟩⟩ n := by
  refine (pay5_at _ _ _ _).trans (congrArg₂ (· * ·) ?_ ?_)
  · exact (point_2 m c t (ix2 ⟨248 + j, by omega⟩ n)).trans (entry_p m c _ _)
  · exact (point_3 m c t (ix2 ⟨248 + j, by omega⟩ n)).trans (entry_p m c _ _)

theorem place_9 (t : Fin cfg0.N) (y : S256x2048.Idx) : (win0_9.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

theorem place_10 (t : Fin cfg0.N) (y : S8x2048.Idx) : (win0_10.blk t).view.emb y = ix2 ⟨t.val * 8 + y 0, by
    have h : (y 0).val < 8 := (y 0).isLt
    have := t_lt t
    omega⟩ (y 1) := by
  funext a
  match a with
  | ⟨0, _⟩ => refine Fin.ext ?_; blk_simp [idx t]; rfl
  | ⟨1, _⟩ => refine Fin.ext ?_; blk_simp [idx t]; rfl

/-- The merged branches which the kernel returns. -/
theorem final_9 (c : Dev nD) : (dats m 0 c).arrAt 9 (cfgs 0).N = mixOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t _ y => ?_
  blk_simp
  rw [after_9]
  refine Eq.trans ?_ (congrArg (mixOut _ _ _ _ _) (place_9 t y).symm)
  exact (congrArg _ (eq_ix2 y)).trans (flushed_9 m c t (y 0) (y 1))

/-- The last eight rows of each block's gated stream, an array. -/
def tails (P : FVec Ideal S4x2048x20480 .bf16) : FVec Ideal S256x2048 .f32 :=
  fun i => gated P ⟨(i 0).val / 8 * 256 + (248 + (i 0).val % 8), by
    have h : (i 0).val < 256 := (i 0).isLt
    omega⟩ (i 1)

theorem final_10 (c : Dev nD) : (dats m 0 c).arrAt 10 (cfgs 0).N = tails (m ((c.tc : Thread nD τ).loc main_arg1)) := by
  refine (dats m 0 c).arrAt_eq_of_covers 10 _ (by decide +kernel) fun t _ y => ?_
  blk_simp
  rw [after_10]
  refine Eq.trans ?_ (congrArg (tails _) (place_10 t y).symm)
  refine ((congrArg _ (eq_ix2 y)).trans (flushed_10 m c t (y 0) (y 1))).trans (gated_congr ?_ rfl)
  have h : (y 0).val < 8 := (y 0).isLt
  show t.val * 256 + (248 + (y 0).val) = (t.val * 8 + (y 0).val) / 8 * 256 + (248 + (t.val * 8 + (y 0).val) % 8)
  omega

/-- The last two of the eight rows kept of each sequence's last block. -/
def lastRows (T : FVec Ideal S256x2048 .f32) : FVec Ideal S4x2x2048 .f32 :=
  extractStridedSlice S4x2x2048 ![0, 6, 0] (shapeCast S4x8x2048 (extractStridedSlice S4x1x8x2048 ![0, 7, 0, 0]
    (shapeCast S4x8x8x2048 T shapeCasts_S256x2048_S4x8x8x2048) slices_S4x8x8x2048_S4x1x8x2048_0_7_0_0) shapeCasts_S4x1x8x2048_S4x8x2048) slices_S4x8x2048_S4x2x2048_0_6_0

theorem lastRows_at (T : FVec Ideal S256x2048 .f32) (b : Fin 4) (i : Fin 2) (n : Fin 2048) :
    lastRows T (ix3 b i n) = T (ix2 ⟨b * 64 + 56 + (6 + i), by omega⟩ n) := by
  pointwise [lastRows]

/-- What the operations after the region leave in the second result. -/
theorem tail_eq (c : Dev nD) : Pipeline.afterTail₀ cfgs (dats m) 0 (V0 m) [hostOps1] c main_v11 = stateOut (m ((c.tc : Thread nD τ).loc main_arg1)) := by
  have e := ((dats m 0 c).withArrays_arrAt sharedIn0 (V0 m c) (A_eq m c) 10).trans (final_10 m c)
  unfold Pipeline.afterTail₀
  change StableHlo.after (hostOps1 ++ []) _ _ = _
  rw [List.append_nil]
  generalize (Pipeline.withArrays (cfgs 0).spec c (V0 m c) fun w => (dats m 0 c).arrAt w (cfgs 0).N) = W at e ⊢
  after_results
  change lastRows (W (Proc.tc.devRef main_v7_1)) = _
  rw [show W (Proc.tc.devRef main_v7_1) = tails (m ((c.tc : Thread nD τ).loc main_arg1)) from e]
  funext i
  rw [eq_ix3 i]
  refine (lastRows_at _ _ _ _).trans (gated_congr ?_ rfl)
  have h0 : (i 0).val < 4 := (i 0).isLt
  have h1 : (i 1).val < 2 := (i 1).isLt
  show ((i 0).val * 64 + 56 + (6 + (i 1).val)) / 8 * 256 + (248 + ((i 0).val * 64 + 56 + (6 + (i 1).val)) % 8) = (i 0).val * 2048 + 2046 + (i 1).val
  omega

/-- The whole run, its results named. -/
theorem run_named (ρ : Dev nD → PrngReg) : θ_run defs (onTc (τ := τ) (main (F := Ideal))) ⟨m, fun _ => 0, ρ⟩ fun r => ∀ c : Dev nD,
      r.2.mem ((c.tc : Thread nD τ).loc main_v7_0) = mixOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11) = stateOut (m ((c.tc : Thread nD τ).loc main_arg1))
      ∧ r.2.mem ((c.tc : Thread nD τ).loc main_arg0) = (m ((c.tc : Thread nD τ).loc main_arg0)) ∧ r.2.mem ((c.tc : Thread nD τ).loc main_arg1) = (m ((c.tc : Thread nD τ).loc main_arg1)) ∧ r.2.mem ((c.tc : Thread nD τ).loc main_arg2) = (m ((c.tc : Thread nD τ).loc main_arg2)) ∧ r.2.mem ((c.tc : Thread nD τ).loc main_arg3) = (m ((c.tc : Thread nD τ).loc main_arg3)) ∧ r.2.mem ((c.tc : Thread nD τ).loc main_arg4) = (m ((c.tc : Thread nD τ).loc main_arg4)) :=
  (θ_run defs _ _).mono (fun r h c => ⟨((h.1 c).1 9).trans (final_9 m c),
    ((h.1 c).2 main_v11 (Pipeline.mem_restRefs_of _ (by decide) (by decide))).trans (tail_eq m c), h.2.1 c⟩)
    (θ_run_and (run_main m ρ) (frame_ideal m ρ))

end Cert.KernelMixIdeal.Mix

end
-- ==== Proof.Mix.Reference.lean ====
module

public import proofs.«01_k».proof.Proof.Gen.ReferenceMixIdeal.Run
public import proofs.«01_k».proof.Proof.Mix.Value

@[expose] public section

set_option maxRecDepth 16384

noncomputable section

namespace Cert.ReferenceMixIdeal.Mix

open Idealize.ShloMosaic Idealize.ShloMosaic.TcCoe Idealize.ShloMosaic.Tactic
open Idealize.SL Idealize.SL.Sem
open Idealize.ShloMosaic.Pipeline (Dat Cfg Window BodyObligation cellOf)
open Cert.ReferenceMixIdeal Cert.ReferenceMixIdeal.Gen Idealize.ShloMosaic.StableHlo
open Cert.Common (sigmoid)
open Cert.KernelMixIdeal.Mix (gated gated_congr back conv branch mixAt mixOut stateOut)
/-- The stream at column 10240. -/
def sB (P : FVec Ideal S4x2048x20480 .bf16) : FVec Ideal S4x2048x2048 .f32 :=
  extractStridedSlice S4x2048x2048 ![0, 0, 10240] (extf .f32 P bitsLt_bf16_f32) slices_S4x2048x20480_S4x2048x2048_0_0_10240

theorem sB_at (P : FVec Ideal S4x2048x20480 .bf16) (b : Fin 4) (l n : Fin 2048) : sB P (ix3 b l n) = P (ix3 b l ⟨10240 + n, by omega⟩) := by
  pointwise [sB]

/-- The stream at column 12288. -/
def sC (P : FVec Ideal S4x2048x20480 .bf16) : FVec Ideal S4x2048x2048 .f32 :=
  extractStridedSlice S4x2048x2048 ![0, 0, 12288] (extf .f32 P bitsLt_bf16_f32) slices_S4x2048x20480_S4x2048x2048_0_0_12288

theorem sC_at (P : FVec Ideal S4x2048x20480 .bf16) (b : Fin 4) (l n : Fin 2048) : sC P (ix3 b l n) = P (ix3 b l ⟨12288 + n, by omega⟩) := by
  pointwise [sC]

/-- The stream at column 14336. -/
def sH (P : FVec Ideal S4x2048x20480 .bf16) : FVec Ideal S4x2048x2048 .f32 :=
  extractStridedSlice S4x2048x2048 ![0, 0, 14336] (extf .f32 P bitsLt_bf16_f32) slices_S4x2048x20480_S4x2048x2048_0_0_14336

theorem sH_at (P : FVec Ideal S4x2048x20480 .bf16) (b : Fin 4) (l n : Fin 2048) : sH P (ix3 b l n) = P (ix3 b l ⟨14336 + n, by omega⟩) := by
  pointwise [sH]

/-- The stream at column 16384. -/
def gateA (P : FVec Ideal S4x2048x20480 .bf16) : FVec Ideal S4x2048x2048 .f32 :=
  extractStridedSlice S4x2048x2048 ![0, 0, 16384] (extf .f32 P bitsLt_bf16_f32) slices_S4x2048x20480_S4x2048x2048_0_0_16384

theorem gateA_at (P : FVec Ideal S4x2048x20480 .bf16) (b : Fin 4) (l n : Fin 2048) : gateA P (ix3 b l n) = P (ix3 b l ⟨16384 + n, by omega⟩) := by
  pointwise [gateA]

/-- The stream at column 18432. -/
def gateB (P : FVec Ideal S4x2048x20480 .bf16) : FVec Ideal S4x2048x2048 .f32 :=
  extractStridedSlice S4x2048x2048 ![0, 0, 18432] (extf .f32 P bitsLt_bf16_f32) slices_S4x2048x20480_S4x2048x2048_0_0_18432

theorem gateB_at (P : FVec Ideal S4x2048x20480 .bf16) (b : Fin 4) (l n : Fin 2048) : gateB P (ix3 b l n) = P (ix3 b l ⟨18432 + n, by omega⟩) := by
  pointwise [gateB]

/-- The gated stream behind two rows of zeros. -/
def padded (P : FVec Ideal S4x2048x20480 .bf16) : FVec Ideal S4x2050x2048 .f32 :=
  concatenate S4x2050x2048 1 [⟨S4x2x2048, (broadcastInDim S4x2x2048 ![] bcast_S_S4x2x2048 (constant S_ .f32 0x00000000#32))⟩, ⟨S4x2048x2048, (mulf (sC P) (sH P))⟩] concatenates_S4x2x2048_S4x2048x2048_S4x2050x2048_d1

theorem padded_at (P : FVec Ideal S4x2048x20480 .bf16) (b : Fin 4) (l : Fin 2050) (n : Fin 2048) :
    padded P (ix3 b l n) = if h : l.val < 2 then 0 else gated P ⟨b.val * 2048 + (l.val - 2), by omega⟩ n := by
  pointwise [padded]
  by_cases h : l.val < 2
  · refine (dif_pos h).trans (Eq.trans ?_ (dif_pos h).symm)
    rfl
  · have e0 : (b.val * 2048 + (l.val - 2)) / 2048 = b.val := by omega
    have e1 : (b.val * 2048 + (l.val - 2)) % 2048 = l.val - 2 := by omega
    refine (dif_neg h).trans (Eq.trans ?_ (dif_neg h).symm)
    unfold gated
    refine congrArg₂ (· * ·) ((sC_at _ _ _ _).trans ?_) ((sH_at _ _ _ _).trans ?_)
    · exact congrArg₂ (fun (x : Fin 4) (y : Fin 2048) => P (ix3 x y _)) (Fin.ext e0.symm) (Fin.ext e1.symm)
    · exact congrArg₂ (fun (x : Fin 4) (y : Fin 2048) => P (ix3 x y _)) (Fin.ext e0.symm) (Fin.ext e1.symm)

/-- The padded stream `d` rows before row `r`'s own. -/
theorem padded_back (P : FVec Ideal S4x2048x20480 .bf16) (d : ℕ) (r : Fin 8192) (n : Fin 2048) (l : Fin 2050) (h : l.val + d = r.val % 2048 + 2) :
    padded P (ix3 ⟨r / 2048, by omega⟩ l n) = back d P r n := by
  refine (padded_at _ _ _ _).trans ?_
  unfold back
  by_cases hl : l.val < 2
  · have hr : r.val % 2048 < d := by omega
    exact (dif_pos hl).trans (if_pos hr).symm
  · have hr : ¬r.val % 2048 < d := by omega
    refine (dif_neg hl).trans (Eq.trans ?_ (if_neg hr).symm)
    refine gated_congr ?_ rfl
    show r.val / 2048 * 2048 + (l.val - 2) = r.val - d
    omega

/-- The convolution, as the reference computes it. -/
def convolved (P : FVec Ideal S4x2048x20480 .bf16) (K : FVec Ideal S1x3x2048 .f32) : FVec Ideal S4x2048x2048 .f32 :=
  addf (addf (mulf (extractStridedSlice S4x2048x2048 ![0, 0, 0] (padded P) slices_S4x2050x2048_S4x2048x2048_0_0_0) (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast _ K shapeCasts_S1x3x2048_S3x2048) slices_S3x2048_S1x2048_0_0) shapeCasts_S1x2048_S2048)))) (mulf (extractStridedSlice S4x2048x2048 ![0, 1, 0] (padded P) slices_S4x2050x2048_S4x2048x2048_0_1_0) (broadcastInDim S4x2048x2048 ![0, 1, 2] bcast_S1x1x2048_S4x2048x2048_0_1_2 (broadcastInDim S1x1x2048 ![2] bcast_S2048_S1x1x2048_2 (shapeCast _ (extractStridedSlice S1x2048 ![1, 0] (shapeCast _ K shapeCasts_S1x3x2048_S3x2048) slices_S3x2048_S1x2048_1_0) shapeCasts_S1x2048_S2048))))) (mulf (extractStridedSlice S4x2048x2048 ![0, 2, 0] (padded P) slices_S4x2050x2048_S4x2048x2048_0_2_0) (broadcastInDim S4x2048x2048 ![0, 1, 2] bcast_S1x1x2048_S4x2048x2048_0_1_2 (broadcastInDim S1x1x2048 ![2] bcast_S2048_S1x1x2048_2 (shapeCast _ (extractStridedSlice S1x2048 ![2, 0] (shapeCast _ K shapeCasts_S1x3x2048_S3x2048) slices_S3x2048_S1x2048_2_0) shapeCasts_S1x2048_S2048))))

theorem convolved_at (P : FVec Ideal S4x2048x20480 .bf16) (K : FVec Ideal S1x3x2048 .f32) (r : Fin 8192) (n : Fin 2048) :
    convolved P K (ix3 ⟨r / 2048, by omega⟩ ⟨r % 2048, by omega⟩ n) = conv P K r n := by
  have e0 := padded_back P 2 r n ⟨r.val % 2048, by omega⟩ rfl
  have e1 := padded_back P 1 r n ⟨1 + r.val % 2048, by omega⟩ (by show 1 + r.val % 2048 + 1 = _; omega)
  have e2 := padded_back P 0 r n ⟨2 + r.val % 2048, by omega⟩ (by show 2 + r.val % 2048 + 0 = _; omega)
  have e3 : back 0 P r n = gated P r n := if_neg (Nat.not_lt_zero _)
  pointwise [convolved]
  unfold conv
  rw [e0, e1, e2, e3]

/-- The merged branches of each sequence, as the reference computes them. -/
def merged (Y : FVec Ideal S4x2048x4096 .bf16) (P : FVec Ideal S4x2048x20480 .bf16) (K : FVec Ideal S1x3x2048 .f32) (A : FVec Ideal S1x4096x2048 .f32) (B : FVec Ideal S1x2048x2048 .f32) : FVec Ideal S4x2048x2048 .f32 :=
  addf (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (gateA P))))) (Host.dotGeneral dot_S4x2048x4096_S4096x2048_S4x2048x2048_2_0_01_1_n_n none (extf .f32 Y bitsLt_bf16_f32) (shapeCast _ A shapeCasts_S1x4096x2048_S4096x2048)))
    (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (gateB P))))) (Host.dotGeneral dot_S4x2048x2048_S2048x2048_S4x2048x2048_2_0_01_1_n_n none (mulf (sB P) (convolved P K)) (shapeCast _ B shapeCasts_S1x2048x2048_S2048x2048)))

theorem merged_at (Y : FVec Ideal S4x2048x4096 .bf16) (P : FVec Ideal S4x2048x20480 .bf16) (K : FVec Ideal S1x3x2048 .f32) (A : FVec Ideal S1x4096x2048 .f32) (B : FVec Ideal S1x2048x2048 .f32) (r : Fin 8192) (n : Fin 2048) : merged Y P K A B (ix3 ⟨r / 2048, by omega⟩ ⟨r % 2048, by omega⟩ n) = mixAt Y P K A B r n := by
  pointwise [merged, mixAt, branch, sigmoid, gateA_at, gateB_at, sB_at, convolved_at]

/-- The sequences one below the other, rounded. -/
def rows (X : FVec Ideal S4x2048x2048 .f32) : FVec Ideal S8192x2048 .bf16 := truncf .bf16 (shapeCast _ X shapeCasts_S4x2048x2048_S8192x2048) bitsLt_bf16_f32

theorem rows_at (X : FVec Ideal S4x2048x2048 .f32) (r : Fin 8192) (n : Fin 2048) : rows X (ix2 r n) = X (ix3 ⟨r / 2048, by omega⟩ ⟨r % 2048, by omega⟩ n) := by
  pointwise [rows]

theorem merged_eq (Y : FVec Ideal S4x2048x4096 .bf16) (P : FVec Ideal S4x2048x20480 .bf16) (K : FVec Ideal S1x3x2048 .f32) (A : FVec Ideal S1x4096x2048 .f32) (B : FVec Ideal S1x2048x2048 .f32) : rows (merged Y P K A B) = mixOut Y P K A B := by
  funext i
  rw [eq_ix2 i]
  exact (rows_at _ _ _).trans (merged_at ..)

/-- The padded stream's last two rows of each sequence. -/
def kept (P : FVec Ideal S4x2048x20480 .bf16) : FVec Ideal S4x2x2048 .f32 := extractStridedSlice S4x2x2048 ![0, 2048, 0] (padded P) slices_S4x2050x2048_S4x2x2048_0_2048_0

theorem kept_at (P : FVec Ideal S4x2048x20480 .bf16) (b : Fin 4) (i : Fin 2) (n : Fin 2048) : kept P (ix3 b i n) = padded P (ix3 b ⟨2048 + i, by omega⟩ n) := by
  pointwise [kept]

theorem kept_eq (P : FVec Ideal S4x2048x20480 .bf16) : kept P = stateOut P := by
  funext i
  rw [eq_ix3 i]
  refine (kept_at _ _ _ _).trans ((padded_at _ _ _ _).trans ((dif_neg (show ¬2048 + (i 1).val < 2 by omega)).trans (gated_congr ?_ rfl)))
  show (i 0).val * 2048 + (2048 + (i 1).val - 2) = (i 0).val * 2048 + 2046 + (i 1).val
  omega

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v55) = rows (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v35) = kept (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceMixIdeal.Mix

end
-- ==== Proof.Mix.Claims.lean ====
module

public import proofs.«01_k».proof.Defs
public import proofs.«01_k».proof.Proof.Gen.KernelMix
public import proofs.«01_k».proof.Proof.Mix.Reference
public import Idealize.ShloMosaic.Lib.Claim
public import Idealize.ShloMosaic.Lib.Quiescent

@[expose] public section

set_option maxRecDepth 16384

noncomputable section

namespace Cert.Mix

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelMix.defs₀ (F := Bits) = Cert.KernelMixIdeal.defs₀ := by
  unfold Cert.KernelMix.defs₀ Cert.KernelMixIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelMix.defs (F := Bits) = Cert.KernelMixIdeal.defs := congrArg (Pipeline.defs Cert.KernelMixIdeal.pcfgs) bodies_eq

theorem frame_kernel : Cert.quiescent_KernelMix := fun m ρ _ => by
  have h := Cert.KernelMixIdeal.Mix.frame_ideal (F := Bits) m ρ
  rw [← defs_eq] at h
  exact h

theorem frame_ideal : Cert.quiescent_KernelMixIdeal := fun m ρ _ => Cert.KernelMixIdeal.Mix.frame_ideal (F := Ideal) m ρ

theorem frame_reference : Cert.quiescent_ReferenceMixIdeal := fun m ρ _ =>
  (θ_run Cert.ReferenceMixIdeal.defs _ _).mono (fun r h => ⟨fun c => (h c).2.2, sem_eq_zero_of_no_sems (by decide) r.2⟩)
    (Cert.ReferenceMixIdeal.Value.run (F := Ideal) m ρ)

/-- The kernel's results are the reference's. -/
theorem algebraic : Cert.algebraic_KernelMixIdeal_ReferenceMixIdeal := by
  pair_intro
  · run_from Cert.KernelMixIdeal.Mix.run_named m g
  · run_from Cert.ReferenceMixIdeal.Mix.run m' g'
    · exact Cert.ReferenceMixIdeal.Mix.merged_eq _ _ _ _ _
    · exact Cert.ReferenceMixIdeal.Mix.kept_eq _

end Cert.Mix

end
-- ==== Proof.PleSample.Value.lean ====
module

public import proofs.«01_k».proof.Proof.Gen.KernelPleSampleIdeal.Value
public import proofs.«01_k».proof.Proof.Gen.ReferencePleSampleIdeal.Run
public import proofs.«01_k».proof.Proof.Ple.Value

@[expose] public section

set_option maxRecDepth 16384

noncomputable section

namespace Cert.KernelPleSampleIdeal.Ple

open Idealize.ShloMosaic Idealize.ShloMosaic.TcCoe Idealize.ShloMosaic.Tactic
open Idealize.SL Idealize.SL.Sem
open Idealize.ShloMosaic.Pipeline (Dat Cfg Window BodyObligation cellOf)
open Cert.KernelPleSampleIdeal Cert.KernelPleSampleIdeal.Gen
open Cert.Common (rms sigmoid)
open Cert.KernelPleIdeal.Ple (blockRow)
/-- Row `r`, feature `n` of the short sequences' stream after the gated embedding. -/
def x3At (X : FVec Ideal S128x8x2048 .f32) (P : FVec Ideal S1x128x8x256 .f32) (U : FVec Ideal S1x256x2048 .f32) (W : FVec Ideal S1x2048x2048 .f32) (N : FVec Ideal S1x2048 .f32) (r : Fin 1024) (n : Fin 2048) : EReal :=
  X (ix3 ⟨r / 8, by omega⟩ ⟨r % 8, by omega⟩ n) + (∑ k : Fin 256, P (ix4 0 ⟨r / 8, by omega⟩ ⟨r % 8, by omega⟩ k) * U (ix3 0 k n))
    * sigmoid (∑ k : Fin 2048, rms (fun j => X (ix3 ⟨r / 8, by omega⟩ ⟨r % 8, by omega⟩ j)) (N (ix2 0 k)) k * W (ix3 0 k n))

/-- The layer's output, an array: the stream normalised by the final gain. -/
def yOut (X : FVec Ideal S128x8x2048 .f32) (P : FVec Ideal S1x128x8x256 .f32) (U : FVec Ideal S1x256x2048 .f32) (W : FVec Ideal S1x2048x2048 .f32) (N : FVec Ideal S1x2048 .f32) (Z : FVec Ideal S2048 .f32) : FVec Ideal S1024x2048 .f32 :=
  fun i => rms (x3At X P U W N (i 0)) (Z (ix1 (i 1))) (i 1)

/-- One block of the kernel's result: the body is the long batch's. -/
theorem block_at (x : FVec Ideal S512x2048 .f32) (p : FVec Ideal S512x256 .f32) (u : FVec Ideal S256x2048 .bf16) (w : FVec Ideal S2048x2048 .bf16)
    (g z : FVec Ideal S1x2048 .f32) (y : S512x2048.Idx) :
    out0_6 (F := Ideal) x p u w g z y
      = rms (blockRow (fun j n => x (ix2 j n)) (fun j n => p (ix2 j n)) u w g (y 0)) (z (ix2 0 (y 1))) (y 1) :=
  Cert.KernelPleIdeal.Ple.block_at x p u w g z y

variable (m : (ℓ : Loc nD τ sig) → Buf (Elt Ideal) ℓ)

theorem entry_x (c : Dev nD) (r : Fin 1024) (n : Fin 2048) :
    V m c main_v1 (ix2 r n) = m ((c.tc : Thread nD τ).loc main_arg0) (ix3 ⟨r / 8, by omega⟩ ⟨r % 8, by omega⟩ n) := by
  entry_read
  pointwise

theorem entry_p (c : Dev nD) (r : Fin 1024) (k : Fin 256) :
    V m c main_v2 (ix2 r k) = m ((c.tc : Thread nD τ).loc main_arg1) (ix4 0 ⟨r / 8, by omega⟩ ⟨r % 8, by omega⟩ k) := by
  entry_read
  pointwise

theorem entry_u (c : Dev nD) (k : Fin 256) (n : Fin 2048) :
    V m c main_v4 (ix2 k n) = m ((c.tc : Thread nD τ).loc main_arg2) (ix3 0 k n) := by
  entry_read
  pointwise

theorem entry_w (c : Dev nD) (k : Fin 2048) (n : Fin 2048) :
    V m c main_v6 (ix2 k n) = m ((c.tc : Thread nD τ).loc main_arg3) (ix3 0 k n) := by
  entry_read
  pointwise

theorem entry_g (c : Dev nD) (n : Fin 2048) :
    V m c main_v8 (ix2 0 n) = m ((c.tc : Thread nD τ).loc main_arg4) (ix2 0 n) := by
  entry_read
  pointwise

theorem entry_z (c : Dev nD) (n : Fin 2048) :
    V m c main_v9 (ix2 0 n) = m ((c.tc : Thread nD τ).loc main_arg5) (ix1 n) := by
  entry_read
  pointwise

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem rows_lt (t : Fin cfg0.N) (j : Fin 512) : t.val * 512 + (j : ℕ) < 1024 := by
  have ht : t.val < 2 := lt_of_lt_of_eq t.isLt (by decide +kernel)
  omega

theorem point_x (c : Dev nD) (t : Fin cfg0.N) (y : S512x2048.Idx) :
    iblk m c 0 t y = V m c main_v1 (ix2 ⟨_, rows_lt t (y 0)⟩ (y 1)) := by
  blk_ext [iblk, idx t]

theorem point_p (c : Dev nD) (t : Fin cfg0.N) (y : S512x256.Idx) :
    iblk m c 1 t y = V m c main_v2 (ix2 ⟨_, rows_lt t (y 0)⟩ (y 1)) := by
  blk_ext [iblk, idx t]

theorem point_u (c : Dev nD) (t : Fin cfg0.N) (y : S256x2048.Idx) :
    iblk m c 2 t y = V m c main_v4 (ix2 (y 0) (y 1)) := by
  blk_ext [iblk, idx t]

theorem point_w (c : Dev nD) (t : Fin cfg0.N) (y : S2048x2048.Idx) :
    iblk m c 3 t y = V m c main_v6 (ix2 (y 0) (y 1)) := by
  blk_ext [iblk, idx t]

theorem point_g (c : Dev nD) (t : Fin cfg0.N) (y : S1x2048.Idx) :
    iblk m c 4 t y = V m c main_v8 (ix2 0 (y 1)) := by
  blk_ext [iblk, idx t]

theorem point_z (c : Dev nD) (t : Fin cfg0.N) (y : S1x2048.Idx) :
    iblk m c 5 t y = V m c main_v9 (ix2 0 (y 1)) := by
  blk_ext [iblk, idx t]

/-- The rows of point `t`'s block are the stream's. -/
theorem row_at (c : Dev nD) (t : Fin cfg0.N) (j : Fin 512) (n : Fin 2048) :
    blockRow (fun j n => iblk m c 0 t (ix2 j n : S512x2048.Idx)) (fun j n => iblk m c 1 t (ix2 j n : S512x256.Idx)) (iblk m c 2 t) (iblk m c 3 t) (iblk m c 4 t) j n
      = x3At (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨_, rows_lt t j⟩ n := by
  have hx : ∀ n : Fin 2048, iblk m c 0 t (ix2 j n : S512x2048.Idx) = m ((c.tc : Thread nD τ).loc main_arg0)
      (ix3 ⟨(t.val * 512 + j) / 8, by have := rows_lt t j; omega⟩ ⟨(t.val * 512 + j) % 8, by omega⟩ n) :=
    fun n => (point_x m c t (ix2 j n)).trans (entry_x m c _ n)
  refine congrArg₂ (· + ·) (hx n) (congrArg₂ (· * ·) (Finset.sum_congr rfl fun k _ => congrArg₂ (· * ·) ?_ ?_)
    (congrArg sigmoid (Finset.sum_congr rfl fun k _ => congrArg₂ (· * ·) ?_ ?_)))
  · exact (point_p m c t (ix2 j k)).trans (entry_p m c _ k)
  · exact (point_u m c t (ix2 k n)).trans (entry_u m c k n)
  · exact congrArg₂ (fun f g => rms f g k) (funext hx) ((point_g m c t (ix2 0 k)).trans (entry_g m c k))
  · exact (point_w m c t (ix2 k n)).trans (entry_w m c k n)

theorem flushed_at (c : Dev nD) (t : Fin cfg0.N) (y : S512x2048.Idx) :
    out0_6 (F := Ideal) (iblk m c 0 t) (iblk m c 1 t) (iblk m c 2 t) (iblk m c 3 t) (iblk m c 4 t) (iblk m c 5 t) y
      = yOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (ix2 ⟨_, rows_lt t (y 0)⟩ (y 1)) := by
  refine (block_at _ _ _ _ _ _ _).trans ?_
  exact congrArg₂ (fun f g => rms f g (y 1)) (funext fun n => row_at m c t (y 0) n) ((point_z m c t (ix2 0 (y 1))).trans (entry_z m c _))

theorem place (t : Fin cfg0.N) (y : S512x2048.Idx) : (win0_6.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

/-- The array which the kernel returns. -/
theorem final (c : Dev nD) : (dats m 0 c).arrAt 6 (cfgs 0).N =
    yOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  exact (flushed_at m c t y).trans (congrArg (yOut _ _ _ _ _ _) (place t y).symm)

end Cert.KernelPleSampleIdeal.Ple

end
-- ==== Proof.PleSample.Reference.lean ====
module

public import proofs.«01_k».proof.Proof.Gen.ReferencePleSampleIdeal.Run
public import proofs.«01_k».proof.Proof.PleSample.Value

@[expose] public section

set_option maxRecDepth 16384

noncomputable section

namespace Cert.ReferencePleSampleIdeal.Ple

open Idealize.ShloMosaic Idealize.ShloMosaic.TcCoe Idealize.ShloMosaic.Tactic
open Idealize.SL Idealize.SL.Sem
open Idealize.ShloMosaic.Pipeline (Dat Cfg Window BodyObligation cellOf)
open Cert.ReferencePleSampleIdeal Cert.ReferencePleSampleIdeal.Gen Idealize.ShloMosaic.StableHlo
open Cert.Common (rms sigmoid)
open Cert.KernelPleSampleIdeal.Ple (x3At yOut)
/-- A stream normalised by its rows' root mean squares, times the gain. -/
def normed (X : FVec Ideal S128x8x2048 .f32) (N : FVec Ideal S2048 .f32) : FVec Ideal S128x8x2048 .f32 :=
  (mulf (mulf X (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf X X) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 N)))

/-- The stream after the gated embedding, as the reference computes it. -/
def stream (X : FVec Ideal S128x8x2048 .f32) (P : FVec Ideal S1x128x8x256 .f32) (U : FVec Ideal S1x256x2048 .f32) (W : FVec Ideal S1x2048x2048 .f32) (N : FVec Ideal S1x2048 .f32) : FVec Ideal S128x8x2048 .f32 :=
  addf X (mulf (Host.dotGeneral dot_S128x8x256_S256x2048_S128x8x2048_2_0_01_1_n_n none (shapeCast _ P shapeCasts_S1x128x8x256_S128x8x256) (shapeCast _ U shapeCasts_S1x256x2048_S256x2048)) (Host.divf (broadcastInDim S128x8x2048 ![] bcast_S_S128x8x2048 (constant S_ .f32 0x3F800000#32)) (addf (broadcastInDim S128x8x2048 ![] bcast_S_S128x8x2048 (constant S_ .f32 0x3F800000#32)) (Host.exp (Host.negf (Host.dotGeneral dot_S128x8x2048_S2048x2048_S128x8x2048_2_0_01_1_n_n none (normed X (shapeCast _ N shapeCasts_S1x2048_S2048)) (shapeCast _ W shapeCasts_S1x2048x2048_S2048x2048)))))))

/-- The sequences one below the other. -/
def rows (X : FVec Ideal S128x8x2048 .f32) : FVec Ideal S1024x2048 .f32 := shapeCast _ X shapeCasts_S128x8x2048_S1024x2048

theorem normed_at (X : FVec Ideal S128x8x2048 .f32) (N : FVec Ideal S2048 .f32) (b : Fin 128) (l : Fin 8) (n : Fin 2048) :
    normed X N (ix3 b l n) = rms (fun j => X (ix3 b l j)) (N (ix1 n)) n := by
  unfold rms
  pointwise [normed]

theorem stream_at (X : FVec Ideal S128x8x2048 .f32) (P : FVec Ideal S1x128x8x256 .f32) (U : FVec Ideal S1x256x2048 .f32) (W : FVec Ideal S1x2048x2048 .f32) (N : FVec Ideal S1x2048 .f32) (r : Fin 1024) (n : Fin 2048) :
    stream X P U W N (ix3 ⟨r / 8, by omega⟩ ⟨r % 8, by omega⟩ n) = x3At X P U W N r n := by
  pointwise [stream, x3At, sigmoid, normed_at]

theorem rows_at (X : FVec Ideal S128x8x2048 .f32) (r : Fin 1024) (n : Fin 2048) : rows X (ix2 r n) = X (ix3 ⟨r / 8, by omega⟩ ⟨r % 8, by omega⟩ n) := by
  pointwise [rows]

theorem result_eq (X : FVec Ideal S128x8x2048 .f32) (P : FVec Ideal S1x128x8x256 .f32) (U : FVec Ideal S1x256x2048 .f32) (W : FVec Ideal S1x2048x2048 .f32) (N : FVec Ideal S1x2048 .f32) (Z : FVec Ideal S2048 .f32) : rows (normed (stream X P U W N) Z) = yOut X P U W N Z := by
  funext i
  rw [eq_ix2 i]
  refine (rows_at _ _ _).trans ((normed_at _ _ _ _ _).trans ?_)
  exact congrArg (fun f => rms f _ _) (funext fun j => stream_at ..)

variable (m : (ℓ : Loc nD τ sig) → Buf (Elt Ideal) ℓ) (ρ : Dev nD → PrngReg)

/-- The reference's run, its result named. -/
theorem run : θ_run defs (onTc (τ := τ) (main (F := Ideal))) ⟨m, fun _ => 0, ρ⟩ fun r => ∀ c : Dev nD,
      r.2.mem ((c.tc : Thread nD τ).loc main_v40) = rows (normed (stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.ReferencePleSampleIdeal.Ple

end
-- ==== Proof.PleSample.Claims.lean ====
module

public import proofs.«01_k».proof.Defs
public import proofs.«01_k».proof.Proof.Gen.KernelPleSample
public import proofs.«01_k».proof.Proof.PleSample.Reference
public import Idealize.ShloMosaic.Lib.Claim
public import Idealize.ShloMosaic.Lib.Quiescent

@[expose] public section

set_option maxRecDepth 16384

noncomputable section

namespace Cert.PleSample

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelPleSample.defs₀ (F := Bits) = Cert.KernelPleSampleIdeal.defs₀ := by
  unfold Cert.KernelPleSample.defs₀ Cert.KernelPleSampleIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelPleSample.defs (F := Bits) = Cert.KernelPleSampleIdeal.defs := congrArg (Pipeline.defs Cert.KernelPleSampleIdeal.pcfgs) bodies_eq

theorem frame_kernel : Cert.quiescent_KernelPleSample := fun m ρ _ => by
  have h := Cert.KernelPleSampleIdeal.Gen.frame (F := Bits) m ρ
  rw [← defs_eq] at h
  exact h

theorem frame_ideal : Cert.quiescent_KernelPleSampleIdeal := fun m ρ _ => Cert.KernelPleSampleIdeal.Gen.frame (F := Ideal) m ρ

theorem frame_reference : Cert.quiescent_ReferencePleSampleIdeal := fun m ρ _ =>
  (θ_run Cert.ReferencePleSampleIdeal.defs _ _).mono (fun r h => ⟨fun c => (h c).2, sem_eq_zero_of_no_sems (by decide) r.2⟩)
    (Cert.ReferencePleSampleIdeal.Value.run (F := Ideal) m ρ)

/-- The kernel's result is the reference's. -/
theorem algebraic : Cert.algebraic_KernelPleSampleIdeal_ReferencePleSampleIdeal := by
  pair_intro
  · run_from Cert.KernelPleSampleIdeal.Value.run_blocks m g
  · run_from Cert.ReferencePleSampleIdeal.Ple.run m' g'
    refine Eq.trans ?_ (Cert.KernelPleSampleIdeal.Ple.final m c).symm
    exact Cert.ReferencePleSampleIdeal.Ple.result_eq _ _ _ _ _ _

end Cert.PleSample

end
-- ==== Proof.Common.Short.lean ====
module

public import proofs.«01_k».proof.Proof.Mix.Value

@[expose] public section

noncomputable section

namespace Cert.Common

open Idealize.ShloMosaic

/-- The low three bits of a row's number are its place in a sequence of eight rows. -/
theorem low_bits (j : ℕ) : IntOp.andi (BitVec.ofNat 32 j) 7#32 = BitVec.ofNat 32 (j % 8) := by
  have h : j % 2 ^ 32 &&& 2 ^ 3 - 1 = j % 2 ^ 32 % 2 ^ 3 := Nat.and_two_pow_sub_one_eq_mod _ 3
  refine BitVec.eq_of_toNat_eq ?_
  show (BitVec.ofNat 32 j &&& 7#32).toNat = _
  rw [BitVec.toNat_and]
  simp only [BitVec.toNat_ofNat]
  refine h.trans ?_
  omega

/-- A choice by a sequence's first row. -/
theorem first_of_eight (j : ℕ) (x y : EReal) :
    Scalar.select (IntOp.cmpi CmpIPredicate.slt (IntOp.andi (BitVec.ofNat 32 j) 7#32) 1#32) x y = if j % 8 < 1 then x else y := by
  rw [low_bits]
  exact Cert.KernelMixIdeal.Mix.first_row _ (Nat.mod_lt _ (by decide)) x y

/-- And by its first two. -/
theorem first_two_of_eight (j : ℕ) (x y : EReal) :
    Scalar.select (IntOp.cmpi CmpIPredicate.slt (IntOp.andi (BitVec.ofNat 32 j) 7#32) 2#32) x y = if j % 8 < 2 then x else y := by
  rw [low_bits]
  exact Cert.KernelMixIdeal.Mix.first_rows _ (Nat.mod_lt _ (by decide)) x y

/-- The rows kept of a sequence, put at its first two places. -/
theorem kept_row (a : ℕ) (ha : a < 2) (f : Fin 2 → EReal) (z : EReal) :
    Scalar.select (IntOp.cmpi CmpIPredicate.eq (BitVec.ofNat 32 a) 1#32) (f 1)
      (Scalar.select (IntOp.cmpi CmpIPredicate.eq (BitVec.ofNat 32 a) 0#32) (f 0) z) = f ⟨a, ha⟩ := by
  interval_cases a <;> rfl

end Cert.Common

end
-- ==== Proof.MixSample.Value.lean ====
module

public import proofs.«01_k».proof.Proof.Gen.KernelMixSampleIdeal.Value
public import proofs.«01_k».proof.Proof.Common.Short

@[expose] public section

set_option maxRecDepth 16384

noncomputable section

namespace Cert.KernelMixSampleIdeal.Mix

open Idealize.ShloMosaic Idealize.ShloMosaic.TcCoe Idealize.ShloMosaic.Tactic
open Idealize.SL Idealize.SL.Sem
open Idealize.ShloMosaic.Pipeline (Dat Cfg Window BodyObligation cellOf)
open Cert.KernelMixSampleIdeal Cert.KernelMixSampleIdeal.Gen
open Cert.Common (sigmoid sigmoid_tanh first_of_eight first_two_of_eight kept_row)
open Cert.KernelMixIdeal.Mix (taps_order)
/-- Row `r`, channel `n` of the short sequences' gated stream. -/
def gated (P : FVec Ideal S128x8x20480 .bf16) (r : Fin 1024) (n : Fin 2048) : EReal :=
  P (ix3 ⟨r / 8, by omega⟩ ⟨r % 8, by omega⟩ ⟨12288 + n, by omega⟩) * P (ix3 ⟨r / 8, by omega⟩ ⟨r % 8, by omega⟩ ⟨14336 + n, by omega⟩)

/-- Sequence `b`'s gated stream behind the two rows kept from before it. -/
def joined (P : FVec Ideal S128x8x20480 .bf16) (S : FVec Ideal S1x128x2x2048 .f32) (b : Fin 128) (l : Fin 10) (n : Fin 2048) : EReal :=
  if h : l.val < 2 then S (ix4 0 b ⟨l, h⟩ n) else gated P ⟨b.val * 8 + (l.val - 2), by omega⟩ n

/-- The causal convolution of the joined stream with the three taps. -/
def conv (P : FVec Ideal S128x8x20480 .bf16) (S : FVec Ideal S1x128x2x2048 .f32) (K : FVec Ideal S1x3x2048 .f32) (r : Fin 1024) (n : Fin 2048) : EReal :=
  joined P S ⟨r / 8, by omega⟩ ⟨r % 8, by omega⟩ n * K (ix3 0 0 n) + joined P S ⟨r / 8, by omega⟩ ⟨1 + r % 8, by omega⟩ n * K (ix3 0 1 n)
    + joined P S ⟨r / 8, by omega⟩ ⟨2 + r % 8, by omega⟩ n * K (ix3 0 2 n)

/-- The second branch's stream, gated and convolved. -/
def branch (P : FVec Ideal S128x8x20480 .bf16) (S : FVec Ideal S1x128x2x2048 .f32) (K : FVec Ideal S1x3x2048 .f32) (r : Fin 1024) (n : Fin 2048) : EReal :=
  P (ix3 ⟨r / 8, by omega⟩ ⟨r % 8, by omega⟩ ⟨10240 + n, by omega⟩) * conv P S K r n

/-- Row `r`, feature `n` of the merged branches. -/
def mixAt (Y : FVec Ideal S128x8x4096 .bf16) (P : FVec Ideal S128x8x20480 .bf16) (S : FVec Ideal S1x128x2x2048 .f32) (K : FVec Ideal S1x3x2048 .f32) (A : FVec Ideal S1x4096x2048 .f32) (B : FVec Ideal S1x2048x2048 .f32) (r : Fin 1024) (n : Fin 2048) : EReal :=
  sigmoid (P (ix3 ⟨r / 8, by omega⟩ ⟨r % 8, by omega⟩ ⟨16384 + n, by omega⟩)) * (∑ k : Fin 4096, Y (ix3 ⟨r / 8, by omega⟩ ⟨r % 8, by omega⟩ k) * A (ix3 0 k n))
    + sigmoid (P (ix3 ⟨r / 8, by omega⟩ ⟨r % 8, by omega⟩ ⟨18432 + n, by omega⟩))
      * ∑ k : Fin 2048, branch P S K r k * B (ix3 0 k n)

/-- The merged branches, an array. -/
def mixOut (Y : FVec Ideal S128x8x4096 .bf16) (P : FVec Ideal S128x8x20480 .bf16) (S : FVec Ideal S1x128x2x2048 .f32) (K : FVec Ideal S1x3x2048 .f32) (A : FVec Ideal S1x4096x2048 .f32) (B : FVec Ideal S1x2048x2048 .f32) : FVec Ideal S1024x2048 .bf16 := fun i => mixAt Y P S K A B (i 0) (i 1)

/-- The gated stream's last two rows of each sequence, an array. -/
def stateOut (P : FVec Ideal S128x8x20480 .bf16) : FVec Ideal S128x2x2048 .f32 :=
  fun i => gated P ⟨(i 0).val * 8 + (6 + (i 1).val), by
    have h0 : (i 0).val < 128 := (i 0).isLt
    have h1 : (i 1).val < 2 := (i 1).isLt
    omega⟩ (i 2)

theorem joined_stream (P : FVec Ideal S128x8x20480 .bf16) (S : FVec Ideal S1x128x2x2048 .f32) (b : Fin 128) (l : Fin 10) (n : Fin 2048) (h : ¬l.val < 2) :
    joined P S b l n = gated P ⟨b.val * 8 + (l.val - 2), by omega⟩ n := dif_neg h

theorem gated_congr {P : FVec Ideal S128x8x20480 .bf16} {r r' : Fin 1024} {n n' : Fin 2048} (hr : (r : ℕ) = r') (hn : n = n') :
    gated P r n = gated P r' n' := by
  rw [Fin.ext hr, hn]

/-- A block's gated rows one row earlier, the kept rows `p` before each sequence. -/
def shift1 (u p : FVec Ideal S256x2048 .f32) : FVec Ideal S256x2048 .f32 :=
  select (cmpi .slt (andi (iota .tc S256x2048 32 [0] iota_S256x2048_d0_w32) (broadcast S256x2048 7#32)) (broadcast S256x2048 1#32))
    (dynamicRotate 0 255#32 none p rotates_S256x2048_d0) (dynamicRotate 0 1#32 none u rotates_S256x2048_d0)

/-- And two rows earlier. -/
def shift2 (u p : FVec Ideal S256x2048 .f32) : FVec Ideal S256x2048 .f32 :=
  select (cmpi .slt (andi (iota .tc S256x2048 32 [0] iota_S256x2048_d0_w32) (broadcast S256x2048 7#32)) (broadcast S256x2048 2#32))
    p (dynamicRotate 0 2#32 none u rotates_S256x2048_d0)

theorem shift1_at (u p : FVec Ideal S256x2048 .f32) (j : Fin 256) (n : Fin 2048) :
    shift1 u p (ix2 j n) = if j.val % 8 < 1 then p (ix2 ⟨(j + 1) % 256, by omega⟩ n) else u (ix2 ⟨j - 1, by omega⟩ n) := by
  pointwise [shift1]
  refine (first_of_eight _ _ _).trans ?_
  by_cases hd : j.val % 8 < 1
  · have e1 : (j.val + 256 - 255) % 256 = (j.val + 1) % 256 := by omega
    refine (if_pos hd).trans (Eq.trans ?_ (if_pos hd).symm)
    exact congrArg (fun k => p (ix2 k n)) (Fin.ext e1)
  · have e2 : (j.val + 256 - 1) % 256 = j.val - 1 := by omega
    refine (if_neg hd).trans (Eq.trans ?_ (if_neg hd).symm)
    exact congrArg (fun k => u (ix2 k n)) (Fin.ext e2)

theorem shift2_at (u p : FVec Ideal S256x2048 .f32) (j : Fin 256) (n : Fin 2048) :
    shift2 u p (ix2 j n) = if j.val % 8 < 2 then p (ix2 j n) else u (ix2 ⟨j - 2, by omega⟩ n) := by
  pointwise [shift2]
  refine (first_two_of_eight _ _ _).trans ?_
  by_cases hd : j.val % 8 < 2
  · exact (if_pos hd).trans (if_pos hd).symm
  · have e2 : (j.val + 256 - 2) % 256 = j.val - 2 := by omega
    refine (if_neg hd).trans (Eq.trans ?_ (if_neg hd).symm)
    exact congrArg (fun k => u (ix2 k n)) (Fin.ext e2)

/-- The kept rows at their places in a block. -/
theorem pay3_at (s : FVec Ideal S32x2x2048 .f32) (j : Fin 256) (n : Fin 2048) (h : j.val % 8 < 2) :
    k0_pay3 (F := Ideal) s (ix2 j n) = s (ix3 ⟨j / 8, by omega⟩ ⟨j % 8, h⟩ n) := by
  pointwise [k0_pay3]
  exact kept_row (j.val % 8) h (fun a => s (ix3 ⟨j / 8, by omega⟩ a n)) _

/-- The second branch's stream, gated and convolved, of a block. -/
def second (u p b : FVec Ideal S256x2048 .f32) (K : FVec Ideal S3x2048 .f32) (q : FVec Ideal S256x2048 .f32) : FVec Ideal S256x2048 .f32 :=
  mulf b (addf (addf q (mulf (broadcastTo S256x2048 (extractStridedSlice S1x2048 ![1, 0] K slices_S3x2048_o1_0_S1x2048) broadcasts_S1x2048_S256x2048) (shift1 u p)))
    (mulf (broadcastTo S256x2048 (extractStridedSlice S1x2048 ![0, 0] K slices_S3x2048_o0_0_S1x2048) broadcasts_S1x2048_S256x2048) (shift2 u p)))

theorem second_at (u p b : FVec Ideal S256x2048 .f32) (K : FVec Ideal S3x2048 .f32) (q : FVec Ideal S256x2048 .f32) (j : Fin 256) (n : Fin 2048) :
    second u p b K q (ix2 j n) = b (ix2 j n) * (q (ix2 j n) + K (ix2 1 n) * shift1 u p (ix2 j n) + K (ix2 0 n) * shift2 u p (ix2 j n)) := by
  pointwise [second]

/-- The block's second branch in the stored value, before its output projection. -/
theorem pay11_eq (x2 x3 : FVec Ideal S256x2048 .bf16) (x9 : FVec Ideal S32x2x2048 .f32) (x1 : FVec Ideal S256x2048 .bf16) (x6 : FVec Ideal S3x2048 .f32) (w : FVec Ideal S2048x2048 .bf16) :
    k0_pay11 (F := Ideal) (k0_pay2 x2 x3) (k0_pay3 x9) (k0_pay5 x1) (k0_pay6 x6) (k0_pay7 x2 x3 x6) (k0_pay8 x6) (k0_pay9 x2 x3) (k0_pay10 x9) (iota .tc S256x2048 32 [0] iota_S256x2048_d0_w32) w
      = matmul dot_S256x2048_S2048x2048_S256x2048_1_0_0_1_n_n none (truncf .bf16 (second (k0_pay2 x2 x3) (k0_pay3 x9) (k0_pay5 x1) (k0_pay6 x6) (k0_pay7 x2 x3 x6)) bitsLt_bf16_f32)
        (shapeCast S2048x2048 w shapeCasts_S2048x2048_S2048x2048) (constant S256x2048 .f32 0x00000000#32) := rfl

theorem product_at (s : FVec Ideal S256x2048 .f32) (w : FVec Ideal S2048x2048 .bf16) (j : Fin 256) (n : Fin 2048) :
    matmul dot_S256x2048_S2048x2048_S256x2048_1_0_0_1_n_n none (truncf .bf16 s bitsLt_bf16_f32)
        (shapeCast S2048x2048 w shapeCasts_S2048x2048_S2048x2048) (constant S256x2048 .f32 0x00000000#32) (ix2 j n) = ∑ k : Fin 2048, s (ix2 j k) * w (ix2 k n) := by
  pointwise

theorem pay12_at (y : FVec Ideal S256x4096 .bf16) (w : FVec Ideal S4096x2048 .bf16) (a : FVec Ideal S256x2048 .bf16) (j : Fin 256) (n : Fin 2048) :
    k0_pay12 (F := Ideal) y w a (ix2 j n) = sigmoid (a (ix2 j n)) * ∑ k : Fin 4096, y (ix2 j k) * w (ix2 k n) := by
  simp only [← sigmoid_tanh]
  pointwise [k0_pay12]

theorem pay1_at (p q : FVec Ideal S256x2048 .f32) (b : FVec Ideal S256x2048 .bf16) (j : Fin 256) (n : Fin 2048) :
    k0_pay1 (F := Ideal) p q b (ix2 j n) = q (ix2 j n) + sigmoid (b (ix2 j n)) * p (ix2 j n) := by
  simp only [← sigmoid_tanh]
  pointwise [k0_pay1]

theorem pay2_at (a b : FVec Ideal S256x2048 .bf16) (j : Fin 256) (n : Fin 2048) :
    k0_pay2 (F := Ideal) a b (ix2 j n) = a (ix2 j n) * b (ix2 j n) := by
  pointwise [k0_pay2]

theorem pay4_at (a b : FVec Ideal S256x2048 .bf16) (s : Fin 32) (i : Fin 2) (n : Fin 2048) :
    k0_pay4 (F := Ideal) a b (ix3 s i n) = k0_pay2 (F := Ideal) a b (ix2 ⟨s * 8 + (6 + i), by omega⟩ n) := by
  pointwise [k0_pay4]

theorem pay5_at (a : FVec Ideal S256x2048 .bf16) (j : Fin 256) (n : Fin 2048) : k0_pay5 (F := Ideal) a (ix2 j n) = a (ix2 j n) := by
  pointwise [k0_pay5]

theorem pay6_at (K : FVec Ideal S3x2048 .f32) (j : Fin 3) (n : Fin 2048) : k0_pay6 (F := Ideal) K (ix2 j n) = K (ix2 j n) := by
  pointwise [k0_pay6]

theorem pay7_at (a b : FVec Ideal S256x2048 .bf16) (K : FVec Ideal S3x2048 .f32) (j : Fin 256) (n : Fin 2048) :
    k0_pay7 (F := Ideal) a b K (ix2 j n) = K (ix2 2 n) * k0_pay2 (F := Ideal) a b (ix2 j n) := by
  pointwise [k0_pay7, k0_pay6]

variable (m : (ℓ : Loc nD τ sig) → Buf (Elt Ideal) ℓ)

theorem entry_y (c : Dev nD) (r : Fin 1024) (k : Fin 4096) :
    V m c main_v0 (ix2 r k) = m ((c.tc : Thread nD τ).loc main_arg0) (ix3 ⟨r / 8, by omega⟩ ⟨r % 8, by omega⟩ k) := by
  entry_read
  pointwise

theorem entry_p (c : Dev nD) (r : Fin 1024) (k : Fin 20480) :
    V m c main_v1 (ix2 r k) = m ((c.tc : Thread nD τ).loc main_arg1) (ix3 ⟨r / 8, by omega⟩ ⟨r % 8, by omega⟩ k) := by
  entry_read
  pointwise

theorem entry_s (c : Dev nD) (b : Fin 128) (i : Fin 2) (n : Fin 2048) :
    V m c main_v7 (ix3 b i n) = m ((c.tc : Thread nD τ).loc main_arg2) (ix4 0 b i n) := by
  entry_read
  pointwise

theorem entry_k (c : Dev nD) (j : Fin 3) (n : Fin 2048) :
    V m c main_v2 (ix2 j n) = m ((c.tc : Thread nD τ).loc main_arg3) (ix3 0 j n) := by
  entry_read
  pointwise

theorem entry_a (c : Dev nD) (k : Fin 4096) (n : Fin 2048) :
    V m c main_v4 (ix2 k n) = m ((c.tc : Thread nD τ).loc main_arg4) (ix3 0 k n) := by
  entry_read
  pointwise

theorem entry_b (c : Dev nD) (k : Fin 2048) (n : Fin 2048) :
    V m c main_v6 (ix2 k n) = m ((c.tc : Thread nD τ).loc main_arg5) (ix3 0 k n) := by
  entry_read
  pointwise

theorem idx : ∀ t : Fin cfg0.N, win0_0.index t = ![t.val, 0] ∧ win0_1.index t = ![t.val, 5] ∧ win0_2.index t = ![t.val, 6]
    ∧ win0_3.index t = ![t.val, 7] ∧ win0_4.index t = ![t.val, 8] ∧ win0_5.index t = ![t.val, 9] ∧ win0_6.index t = ![0, 0]
    ∧ win0_7.index t = ![0, 0] ∧ win0_8.index t = ![0, 0] ∧ win0_9.index t = ![t.val, 0, 0] ∧ win0_10.index t = ![t.val, 0] ∧ win0_11.index t = ![t.val, 0, 0] :=
  (by decide +kernel : ∀ t : Fin grid0.N, _)

theorem t_lt (t : Fin cfg0.N) : t.val < 4 := lt_of_lt_of_eq t.isLt (by decide +kernel)

theorem rows_lt (t : Fin cfg0.N) (j : Fin 256) : t.val * 256 + (j : ℕ) < 1024 := by
  have ht := t_lt t
  omega

theorem seqs_lt (t : Fin cfg0.N) (j : Fin 32) : t.val * 32 + (j : ℕ) < 128 := by
  have ht := t_lt t
  omega

theorem point_y (c : Dev nD) (t : Fin cfg0.N) (y : S256x4096.Idx) :
    iblk m c 0 t y = V m c main_v0 (ix2 ⟨_, rows_lt t (y 0)⟩ (y 1)) := by
  blk_ext [iblk, idx t]

theorem point_1 (c : Dev nD) (t : Fin cfg0.N) (y : S256x2048.Idx) :
    iblk m c 1 t y = V m c main_v1 (ix2 ⟨_, rows_lt t (y 0)⟩ ⟨10240 + y 1, by have h : (y 1).val < 2048 := (y 1).isLt; omega⟩) := by
  blk_ext [iblk, idx t]

theorem point_2 (c : Dev nD) (t : Fin cfg0.N) (y : S256x2048.Idx) :
    iblk m c 2 t y = V m c main_v1 (ix2 ⟨_, rows_lt t (y 0)⟩ ⟨12288 + y 1, by have h : (y 1).val < 2048 := (y 1).isLt; omega⟩) := by
  blk_ext [iblk, idx t]

theorem point_3 (c : Dev nD) (t : Fin cfg0.N) (y : S256x2048.Idx) :
    iblk m c 3 t y = V m c main_v1 (ix2 ⟨_, rows_lt t (y 0)⟩ ⟨14336 + y 1, by have h : (y 1).val < 2048 := (y 1).isLt; omega⟩) := by
  blk_ext [iblk, idx t]

theorem point_4 (c : Dev nD) (t : Fin cfg0.N) (y : S256x2048.Idx) :
    iblk m c 4 t y = V m c main_v1 (ix2 ⟨_, rows_lt t (y 0)⟩ ⟨16384 + y 1, by have h : (y 1).val < 2048 := (y 1).isLt; omega⟩) := by
  blk_ext [iblk, idx t]

theorem point_5 (c : Dev nD) (t : Fin cfg0.N) (y : S256x2048.Idx) :
    iblk m c 5 t y = V m c main_v1 (ix2 ⟨_, rows_lt t (y 0)⟩ ⟨18432 + y 1, by have h : (y 1).val < 2048 := (y 1).isLt; omega⟩) := by
  blk_ext [iblk, idx t]

theorem point_k (c : Dev nD) (t : Fin cfg0.N) (y : S3x2048.Idx) : iblk m c 6 t y = V m c main_v2 (ix2 (y 0) (y 1)) := by
  blk_ext [iblk, idx t]

theorem point_a (c : Dev nD) (t : Fin cfg0.N) (y : S4096x2048.Idx) : iblk m c 7 t y = V m c main_v4 (ix2 (y 0) (y 1)) := by
  blk_ext [iblk, idx t]

theorem point_b (c : Dev nD) (t : Fin cfg0.N) (y : S2048x2048.Idx) : iblk m c 8 t y = V m c main_v6 (ix2 (y 0) (y 1)) := by
  blk_ext [iblk, idx t]

theorem point_s (c : Dev nD) (t : Fin cfg0.N) (y : S32x2x2048.Idx) : iblk m c 9 t y = V m c main_v7 (ix3 ⟨_, seqs_lt t (y 0)⟩ (y 1) (y 2)) := by
  blk_ext [iblk, idx t]

theorem stream_at (c : Dev nD) (t : Fin cfg0.N) (j : Fin 256) (n : Fin 2048) :
    (k0_pay2 (F := Ideal) (iblk m c 2 t) (iblk m c 3 t)) (ix2 j n) = gated (m ((c.tc : Thread nD τ).loc main_arg1)) ⟨t.val * 256 + j, rows_lt t j⟩ n := by
  refine (pay2_at _ _ _ _).trans (congrArg₂ (· * ·) ?_ ?_)
  · exact (point_2 m c t (ix2 j n)).trans (entry_p m c _ _)
  · exact (point_3 m c t (ix2 j n)).trans (entry_p m c _ _)

/-- A kept row at its place in point `t`'s block. -/
theorem kept_at (c : Dev nD) (t : Fin cfg0.N) (j : Fin 256) (n : Fin 2048) (h : j.val % 8 < 2) :
    k0_pay3 (F := Ideal) (iblk m c 9 t) (ix2 j n)
      = m ((c.tc : Thread nD τ).loc main_arg2) (ix4 0 ⟨t.val * 32 + j / 8, seqs_lt t ⟨j / 8, by omega⟩⟩ ⟨j % 8, h⟩ n) :=
  (pay3_at _ j n h).trans ((point_s m c t (ix3 ⟨j / 8, by omega⟩ ⟨j % 8, h⟩ n)).trans (entry_s m c _ _ n))

theorem kept_joined (c : Dev nD) (t : Fin cfg0.N) (j : Fin 256) (n : Fin 2048) (h : j.val % 8 < 2) (b : Fin 128) (l : Fin 10)
    (hb : (b : ℕ) = t.val * 32 + j / 8) (hl : (l : ℕ) = j % 8) :
    k0_pay3 (F := Ideal) (iblk m c 9 t) (ix2 j n) = joined (m ((c.tc : Thread nD τ).loc main_arg1)) (m ((c.tc : Thread nD τ).loc main_arg2)) b l n := by
  refine (kept_at m c t j n h).trans (Eq.trans ?_ (dif_pos (lt_of_eq_of_lt hl h)).symm)
  exact congrArg₂ (fun (x : Fin 128) (y : Fin 2) => m ((c.tc : Thread nD τ).loc main_arg2) (ix4 0 x y n)) (Fin.ext hb.symm) (Fin.ext hl.symm)

theorem stream_joined (c : Dev nD) (t : Fin cfg0.N) (j : Fin 256) (n : Fin 2048) (b : Fin 128) (l : Fin 10)
    (h : ¬(l : ℕ) < 2) (hl : t.val * 256 + j = b.val * 8 + (l.val - 2)) :
    k0_pay2 (F := Ideal) (iblk m c 2 t) (iblk m c 3 t) (ix2 j n) = joined (m ((c.tc : Thread nD τ).loc main_arg1)) (m ((c.tc : Thread nD τ).loc main_arg2)) b l n :=
  (stream_at m c t j n).trans (Eq.trans (gated_congr hl rfl) (joined_stream _ _ b l n h).symm)

theorem shift1_joined (c : Dev nD) (t : Fin cfg0.N) (j : Fin 256) (n : Fin 2048) :
    shift1 (k0_pay2 (F := Ideal) (iblk m c 2 t) (iblk m c 3 t)) (k0_pay3 (F := Ideal) (iblk m c 9 t)) (ix2 j n)
      = joined (m ((c.tc : Thread nD τ).loc main_arg1)) (m ((c.tc : Thread nD τ).loc main_arg2)) ⟨(t.val * 256 + j) / 8, by have := rows_lt t j; omega⟩ ⟨1 + (t.val * 256 + j) % 8, by omega⟩ n := by
  refine (shift1_at _ _ _ _).trans ?_
  by_cases hj : j.val % 8 < 1
  · refine (if_pos hj).trans (kept_joined m c t ⟨(j + 1) % 256, by omega⟩ n ?_ _ _ ?_ ?_)
    · show (j.val + 1) % 256 % 8 < 2; omega
    · show (t.val * 256 + j.val) / 8 = t.val * 32 + (j.val + 1) % 256 / 8; omega
    · show 1 + (t.val * 256 + j.val) % 8 = (j.val + 1) % 256 % 8; omega
  · refine (if_neg hj).trans (stream_joined m c t ⟨j - 1, by omega⟩ n _ _ ?_ ?_)
    · show ¬1 + (t.val * 256 + j.val) % 8 < 2; omega
    · show t.val * 256 + (j.val - 1) = (t.val * 256 + j.val) / 8 * 8 + (1 + (t.val * 256 + j.val) % 8 - 2); omega

theorem shift2_joined (c : Dev nD) (t : Fin cfg0.N) (j : Fin 256) (n : Fin 2048) :
    shift2 (k0_pay2 (F := Ideal) (iblk m c 2 t) (iblk m c 3 t)) (k0_pay3 (F := Ideal) (iblk m c 9 t)) (ix2 j n)
      = joined (m ((c.tc : Thread nD τ).loc main_arg1)) (m ((c.tc : Thread nD τ).loc main_arg2)) ⟨(t.val * 256 + j) / 8, by have := rows_lt t j; omega⟩ ⟨(t.val * 256 + j) % 8, by omega⟩ n := by
  refine (shift2_at _ _ _ _).trans ?_
  by_cases hj : j.val % 8 < 2
  · refine (if_pos hj).trans (kept_joined m c t j n hj _ _ ?_ ?_)
    · show (t.val * 256 + j.val) / 8 = t.val * 32 + j.val / 8; omega
    · show (t.val * 256 + j.val) % 8 = j.val % 8; omega
  · refine (if_neg hj).trans (stream_joined m c t ⟨j - 2, by omega⟩ n _ _ ?_ ?_)
    · show ¬(t.val * 256 + j.val) % 8 < 2; omega
    · show t.val * 256 + (j.val - 2) = (t.val * 256 + j.val) / 8 * 8 + ((t.val * 256 + j.val) % 8 - 2); omega

theorem second_conv (c : Dev nD) (t : Fin cfg0.N) (j : Fin 256) (n : Fin 2048) :
    second (k0_pay2 (F := Ideal) (iblk m c 2 t) (iblk m c 3 t)) (k0_pay3 (F := Ideal) (iblk m c 9 t)) (k0_pay5 (F := Ideal) (iblk m c 1 t)) (k0_pay6 (F := Ideal) (iblk m c 6 t)) (k0_pay7 (F := Ideal) (iblk m c 2 t) (iblk m c 3 t) (iblk m c 6 t)) (ix2 j n)
      = branch (m ((c.tc : Thread nD τ).loc main_arg1)) (m ((c.tc : Thread nD τ).loc main_arg2)) (m ((c.tc : Thread nD τ).loc main_arg3)) ⟨t.val * 256 + j, rows_lt t j⟩ n := by
  have k : ∀ i : Fin 3, k0_pay6 (F := Ideal) (iblk m c 6 t) (ix2 i n) = (m ((c.tc : Thread nD τ).loc main_arg3)) (ix3 0 i n) := fun i =>
    (pay6_at _ _ _).trans ((point_k m c t (ix2 i n)).trans (entry_k m c i n))
  refine (second_at _ _ _ _ _ _ _).trans (congrArg₂ (· * ·) ?_ (Eq.trans ?_ (taps_order _ _ _ _ _ _)))
  · exact (pay5_at _ _ _).trans ((point_1 m c t (ix2 j n)).trans (entry_p m c _ _))
  · refine congrArg₂ (· + ·) (congrArg₂ (· + ·) ?_ ?_) ?_
    · refine (pay7_at _ _ _ _ _).trans (congrArg₂ (· * ·) ((point_k m c t (ix2 2 n)).trans (entry_k m c 2 n)) ?_)
      refine stream_joined m c t j n _ _ ?_ ?_
      · show ¬2 + (t.val * 256 + j.val) % 8 < 2; omega
      · show t.val * 256 + j.val = (t.val * 256 + j.val) / 8 * 8 + (2 + (t.val * 256 + j.val) % 8 - 2); omega
    · exact congrArg₂ (· * ·) (k 1) (shift1_joined m c t j n)
    · exact congrArg₂ (· * ·) (k 0) (shift2_joined m c t j n)

/-- What the body stores is what its last operation gives of the whole blocks. -/
theorem whole_10 (x0 : FVec Ideal S256x4096 .bf16) (x1 x2 x3 x4 x5 : FVec Ideal S256x2048 .bf16) (x6 : FVec Ideal S3x2048 .f32) (x7 : FVec Ideal S4096x2048 .bf16) (x8 : FVec Ideal S2048x2048 .bf16) (x9 : FVec Ideal S32x2x2048 .f32) (j : Fin 256) (n : Fin 2048) :
    out0_10 (F := Ideal) x0 x1 x2 x3 x4 x5 x6 x7 x8 x9 (ix2 j n)
      = sigmoid (x4 (ix2 j n)) * (∑ k : Fin 4096, x0 (ix2 j k) * x7 (ix2 k n)) + sigmoid (x5 (ix2 j n)) * ∑ k : Fin 2048, second (k0_pay2 x2 x3) (k0_pay3 x9) (k0_pay5 x1) (k0_pay6 x6) (k0_pay7 x2 x3 x6) (ix2 j k) * x8 (ix2 k n) := by
  unfold out0_10
  refine (congrFun (View.canon_cons_unit_lit (S := S256x2048) (off := ![0, 0]) _ _ _ (by decide)) _).trans ?_
  have e2 : ∀ x : FVec Ideal S256x2048 .bf16, View.ld (Val := Elt Ideal) (e' := .bf16) x r0_0 = x := by
    intro x
    exact View.ld_unit_lit (Val := Elt Ideal) (S := S256x2048) (e := .bf16) (off := ![0, 0]) _ x (by decide)
  have e9 : View.ld (Val := Elt Ideal) (e' := .f32) x9 r0_1 = x9 := View.ld_unit_lit (Val := Elt Ideal) (S := S32x2x2048) (e := .f32) (off := ![0, 0, 0]) _ x9 (by decide)
  have e6 : View.ld (Val := Elt Ideal) (e' := .f32) x6 r0_2 = x6 := View.ld_unit_lit (Val := Elt Ideal) (S := S3x2048) (e := .f32) (off := ![0, 0]) _ x6 (by decide)
  have e0 : View.ld (Val := Elt Ideal) (e' := .bf16) x0 r0_3 = x0 := View.ld_unit_lit (Val := Elt Ideal) (S := S256x4096) (e := .bf16) (off := ![0, 0]) _ x0 (by decide)
  have e7 : View.ld (Val := Elt Ideal) (e' := .bf16) x7 r0_4 = x7 := View.ld_unit_lit (Val := Elt Ideal) (S := S4096x2048) (e := .bf16) (off := ![0, 0]) _ x7 (by decide)
  have e8 : View.ld (Val := Elt Ideal) (e' := .bf16) x8 r0_5 = x8 := View.ld_unit_lit (Val := Elt Ideal) (S := S2048x2048) (e := .bf16) (off := ![0, 0]) _ x8 (by decide)
  rw [e2 x1, e2 x2, e2 x3, e2 x4, e2 x5, e9, e6, e0, e7, e8, pay11_eq]
  refine (pay1_at _ _ _ _ _).trans (congrArg₂ (· + ·) (pay12_at _ _ _ _ _) (congrArg₂ (· * ·) rfl ?_))
  exact product_at _ _ _ _

theorem flushed_10 (c : Dev nD) (t : Fin cfg0.N) (j : Fin 256) (n : Fin 2048) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 j n)
      = mixAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨t.val * 256 + j, rows_lt t j⟩ n := by
  refine (whole_10 _ _ _ _ _ _ _ _ _ _ j n).trans (congrArg₂ (· + ·) (congrArg₂ (· * ·) (congrArg sigmoid ?_) ?_) (congrArg₂ (· * ·) (congrArg sigmoid ?_) ?_))
  · exact (point_4 m c t (ix2 j n)).trans (entry_p m c _ _)
  · refine Finset.sum_congr rfl fun k _ => congrArg₂ (· * ·) ?_ ?_
    · exact (point_y m c t (ix2 j k)).trans (entry_y m c _ _)
    · exact (point_a m c t (ix2 k n)).trans (entry_a m c _ _)
  · exact (point_5 m c t (ix2 j n)).trans (entry_p m c _ _)
  · refine Finset.sum_congr rfl fun k _ => congrArg₂ (· * ·) ?_ ?_
    · exact second_conv m c t j k
    · exact (point_b m c t (ix2 k n)).trans (entry_b m c _ _)

theorem flushed_11 (c : Dev nD) (t : Fin cfg0.N) (s : Fin 32) (i : Fin 2) (n : Fin 2048) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 s i n)
      = gated (m ((c.tc : Thread nD τ).loc main_arg1)) ⟨t.val * 256 + (s.val * 8 + (6 + i)), rows_lt t ⟨s.val * 8 + (6 + i), by omega⟩⟩ n := by
  have e2 : ∀ x : FVec Ideal S256x2048 .bf16, View.ld (Val := Elt Ideal) (e' := .bf16) x r0_0 = x := by
    intro x
    exact View.ld_unit_lit (Val := Elt Ideal) (S := S256x2048) (e := .bf16) (off := ![0, 0]) _ x (by decide)
  unfold out0_11
  refine (congrFun (View.canon_cons_unit_lit (S := S32x2x2048) (off := ![0, 0, 0]) _ _ _ (by decide)) _).trans ?_
  rw [e2 (iblk m c 2 t), e2 (iblk m c 3 t)]
  exact (pay4_at _ _ s i n).trans (stream_at m c t _ n)

theorem place_10 (t : Fin cfg0.N) (y : S256x2048.Idx) : (win0_10.blk t).view.emb y = ix2 ⟨_, rows_lt t (y 0)⟩ (y 1) := by
  funext a
  match a with
  | ⟨0, _⟩ => refine Fin.ext ?_; blk_simp [idx t]; rfl
  | ⟨1, _⟩ => refine Fin.ext ?_; blk_simp [idx t]; rfl

theorem place_11 (t : Fin cfg0.N) (y : S32x2x2048.Idx) : (win0_11.blk t).view.emb y = ix3 ⟨_, seqs_lt t (y 0)⟩ (y 1) (y 2) := by
  funext a
  match a with
  | ⟨0, _⟩ => refine Fin.ext ?_; blk_simp [idx t]; rfl
  | ⟨1, _⟩ => refine Fin.ext ?_; blk_simp [idx t]; rfl
  | ⟨2, _⟩ => refine Fin.ext ?_; blk_simp [idx t]; rfl

/-- The merged branches which the kernel returns. -/
theorem final_10 (c : Dev nD) : (dats m 0 c).arrAt 10 (cfgs 0).N = mixOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t _ y => ?_
  blk_simp
  rw [after0_10]
  refine Eq.trans ?_ (congrArg (mixOut _ _ _ _ _ _) (place_10 t y).symm)
  exact (congrArg _ (eq_ix2 y)).trans (flushed_10 m c t (y 0) (y 1))

/-- The rows of the gated stream which it keeps. -/
theorem final_11 (c : Dev nD) : (dats m 0 c).arrAt 11 (cfgs 0).N = stateOut (m ((c.tc : Thread nD τ).loc main_arg1)) := by
  refine (dats m 0 c).arrAt_eq_of_covers 11 _ (by decide +kernel) fun t _ y => ?_
  blk_simp
  rw [after0_11]
  refine Eq.trans ?_ (congrArg (stateOut _) (place_11 t y).symm)
  refine ((congrArg _ (eq_ix3 y)).trans (flushed_11 m c t (y 0) (y 1) (y 2))).trans (gated_congr ?_ rfl)
  show t.val * 256 + ((y 0).val * 8 + (6 + (y 1).val)) = (t.val * 32 + (y 0).val) * 8 + (6 + (y 1).val)
  omega

end Cert.KernelMixSampleIdeal.Mix

end
-- ==== Proof.MixSample.Reference.lean ====
module

public import proofs.«01_k».proof.Proof.Gen.ReferenceMixSampleIdeal.Run
public import proofs.«01_k».proof.Proof.MixSample.Value

@[expose] public section

set_option maxRecDepth 16384

noncomputable section

namespace Cert.ReferenceMixSampleIdeal.Mix

open Idealize.ShloMosaic Idealize.ShloMosaic.TcCoe Idealize.ShloMosaic.Tactic
open Idealize.SL Idealize.SL.Sem
open Idealize.ShloMosaic.Pipeline (Dat Cfg Window BodyObligation cellOf)
open Cert.ReferenceMixSampleIdeal Cert.ReferenceMixSampleIdeal.Gen Idealize.ShloMosaic.StableHlo
open Cert.Common (sigmoid)
open Cert.KernelMixSampleIdeal.Mix (gated gated_congr joined joined_stream conv branch mixAt mixOut stateOut)
/-- The stream at column 10240. -/
def sB (P : FVec Ideal S128x8x20480 .bf16) : FVec Ideal S128x8x2048 .f32 :=
  extractStridedSlice S128x8x2048 ![0, 0, 10240] (extf .f32 P bitsLt_bf16_f32) slices_S128x8x20480_S128x8x2048_0_0_10240

theorem sB_at (P : FVec Ideal S128x8x20480 .bf16) (b : Fin 128) (l : Fin 8) (n : Fin 2048) : sB P (ix3 b l n) = P (ix3 b l ⟨10240 + n, by omega⟩) := by
  pointwise [sB]

/-- The stream at column 12288. -/
def sC (P : FVec Ideal S128x8x20480 .bf16) : FVec Ideal S128x8x2048 .f32 :=
  extractStridedSlice S128x8x2048 ![0, 0, 12288] (extf .f32 P bitsLt_bf16_f32) slices_S128x8x20480_S128x8x2048_0_0_12288

theorem sC_at (P : FVec Ideal S128x8x20480 .bf16) (b : Fin 128) (l : Fin 8) (n : Fin 2048) : sC P (ix3 b l n) = P (ix3 b l ⟨12288 + n, by omega⟩) := by
  pointwise [sC]

/-- The stream at column 14336. -/
def sH (P : FVec Ideal S128x8x20480 .bf16) : FVec Ideal S128x8x2048 .f32 :=
  extractStridedSlice S128x8x2048 ![0, 0, 14336] (extf .f32 P bitsLt_bf16_f32) slices_S128x8x20480_S128x8x2048_0_0_14336

theorem sH_at (P : FVec Ideal S128x8x20480 .bf16) (b : Fin 128) (l : Fin 8) (n : Fin 2048) : sH P (ix3 b l n) = P (ix3 b l ⟨14336 + n, by omega⟩) := by
  pointwise [sH]

/-- The stream at column 16384. -/
def gateA (P : FVec Ideal S128x8x20480 .bf16) : FVec Ideal S128x8x2048 .f32 :=
  extractStridedSlice S128x8x2048 ![0, 0, 16384] (extf .f32 P bitsLt_bf16_f32) slices_S128x8x20480_S128x8x2048_0_0_16384

theorem gateA_at (P : FVec Ideal S128x8x20480 .bf16) (b : Fin 128) (l : Fin 8) (n : Fin 2048) : gateA P (ix3 b l n) = P (ix3 b l ⟨16384 + n, by omega⟩) := by
  pointwise [gateA]

/-- The stream at column 18432. -/
def gateB (P : FVec Ideal S128x8x20480 .bf16) : FVec Ideal S128x8x2048 .f32 :=
  extractStridedSlice S128x8x2048 ![0, 0, 18432] (extf .f32 P bitsLt_bf16_f32) slices_S128x8x20480_S128x8x2048_0_0_18432

theorem gateB_at (P : FVec Ideal S128x8x20480 .bf16) (b : Fin 128) (l : Fin 8) (n : Fin 2048) : gateB P (ix3 b l n) = P (ix3 b l ⟨18432 + n, by omega⟩) := by
  pointwise [gateB]

/-- The gated stream behind the two rows kept from before each sequence. -/
def padded (P : FVec Ideal S128x8x20480 .bf16) (S : FVec Ideal S1x128x2x2048 .f32) : FVec Ideal S128x10x2048 .f32 :=
  concatenate S128x10x2048 1 [⟨S128x2x2048, (shapeCast _ S shapeCasts_S1x128x2x2048_S128x2x2048)⟩, ⟨S128x8x2048, (mulf (sC P) (sH P))⟩] concatenates_S128x2x2048_S128x8x2048_S128x10x2048_d1

theorem padded_at (P : FVec Ideal S128x8x20480 .bf16) (S : FVec Ideal S1x128x2x2048 .f32) (b : Fin 128) (l : Fin 10) (n : Fin 2048) :
    padded P S (ix3 b l n) = joined P S b l n := by
  pointwise [padded]
  unfold joined
  by_cases h : l.val < 2
  · refine (dif_pos h).trans (Eq.trans ?_ (dif_pos h).symm)
    rfl
  · have e0 : (b.val * 8 + (l.val - 2)) / 8 = b.val := by omega
    have e1 : (b.val * 8 + (l.val - 2)) % 8 = l.val - 2 := by omega
    refine (dif_neg h).trans (Eq.trans ?_ (dif_neg h).symm)
    unfold gated
    refine congrArg₂ (· * ·) ((sC_at _ _ _ _).trans ?_) ((sH_at _ _ _ _).trans ?_)
    · exact congrArg₂ (fun (x : Fin 128) (y : Fin 8) => P (ix3 x y _)) (Fin.ext e0.symm) (Fin.ext e1.symm)
    · exact congrArg₂ (fun (x : Fin 128) (y : Fin 8) => P (ix3 x y _)) (Fin.ext e0.symm) (Fin.ext e1.symm)

/-- The convolution, as the reference computes it. -/
def convolved (P : FVec Ideal S128x8x20480 .bf16) (S : FVec Ideal S1x128x2x2048 .f32) (K : FVec Ideal S1x3x2048 .f32) : FVec Ideal S128x8x2048 .f32 :=
  addf (addf (mulf (extractStridedSlice S128x8x2048 ![0, 0, 0] (padded P S) slices_S128x10x2048_S128x8x2048_0_0_0) (broadcastInDim S128x8x2048 ![0, 1, 2] bcast_S1x1x2048_S128x8x2048_0_1_2 (broadcastInDim S1x1x2048 ![2] bcast_S2048_S1x1x2048_2 (shapeCast _ (extractStridedSlice S1x2048 ![0, 0] (shapeCast _ K shapeCasts_S1x3x2048_S3x2048) slices_S3x2048_S1x2048_0_0) shapeCasts_S1x2048_S2048)))) (mulf (extractStridedSlice S128x8x2048 ![0, 1, 0] (padded P S) slices_S128x10x2048_S128x8x2048_0_1_0) (broadcastInDim S128x8x2048 ![0, 1, 2] bcast_S1x1x2048_S128x8x2048_0_1_2 (broadcastInDim S1x1x2048 ![2] bcast_S2048_S1x1x2048_2 (shapeCast _ (extractStridedSlice S1x2048 ![1, 0] (shapeCast _ K shapeCasts_S1x3x2048_S3x2048) slices_S3x2048_S1x2048_1_0) shapeCasts_S1x2048_S2048))))) (mulf (extractStridedSlice S128x8x2048 ![0, 2, 0] (padded P S) slices_S128x10x2048_S128x8x2048_0_2_0) (broadcastInDim S128x8x2048 ![0, 1, 2] bcast_S1x1x2048_S128x8x2048_0_1_2 (broadcastInDim S1x1x2048 ![2] bcast_S2048_S1x1x2048_2 (shapeCast _ (extractStridedSlice S1x2048 ![2, 0] (shapeCast _ K shapeCasts_S1x3x2048_S3x2048) slices_S3x2048_S1x2048_2_0) shapeCasts_S1x2048_S2048))))

theorem convolved_at (P : FVec Ideal S128x8x20480 .bf16) (S : FVec Ideal S1x128x2x2048 .f32) (K : FVec Ideal S1x3x2048 .f32) (r : Fin 1024) (n : Fin 2048) :
    convolved P S K (ix3 ⟨r / 8, by omega⟩ ⟨r % 8, by omega⟩ n) = conv P S K r n := by
  pointwise [convolved, padded_at]
  rfl

/-- The merged branches of each sequence, as the reference computes them. -/
def merged (Y : FVec Ideal S128x8x4096 .bf16) (P : FVec Ideal S128x8x20480 .bf16) (S : FVec Ideal S1x128x2x2048 .f32) (K : FVec Ideal S1x3x2048 .f32) (A : FVec Ideal S1x4096x2048 .f32) (B : FVec Ideal S1x2048x2048 .f32) : FVec Ideal S128x8x2048 .f32 :=
  addf (mulf (Host.divf (broadcastInDim S128x8x2048 ![] bcast_S_S128x8x2048 (constant S_ .f32 0x3F800000#32)) (addf (broadcastInDim S128x8x2048 ![] bcast_S_S128x8x2048 (constant S_ .f32 0x3F800000#32)) (Host.exp (Host.negf (gateA P))))) (Host.dotGeneral dot_S128x8x4096_S4096x2048_S128x8x2048_2_0_01_1_n_n none (extf .f32 Y bitsLt_bf16_f32) (shapeCast _ A shapeCasts_S1x4096x2048_S4096x2048)))
    (mulf (Host.divf (broadcastInDim S128x8x2048 ![] bcast_S_S128x8x2048 (constant S_ .f32 0x3F800000#32)) (addf (broadcastInDim S128x8x2048 ![] bcast_S_S128x8x2048 (constant S_ .f32 0x3F800000#32)) (Host.exp (Host.negf (gateB P))))) (Host.dotGeneral dot_S128x8x2048_S2048x2048_S128x8x2048_2_0_01_1_n_n none (mulf (sB P) (convolved P S K)) (shapeCast _ B shapeCasts_S1x2048x2048_S2048x2048)))

theorem merged_at (Y : FVec Ideal S128x8x4096 .bf16) (P : FVec Ideal S128x8x20480 .bf16) (S : FVec Ideal S1x128x2x2048 .f32) (K : FVec Ideal S1x3x2048 .f32) (A : FVec Ideal S1x4096x2048 .f32) (B : FVec Ideal S1x2048x2048 .f32) (r : Fin 1024) (n : Fin 2048) : merged Y P S K A B (ix3 ⟨r / 8, by omega⟩ ⟨r % 8, by omega⟩ n) = mixAt Y P S K A B r n := by
  pointwise [merged, mixAt, branch, sigmoid, gateA_at, gateB_at, sB_at, convolved_at]

/-- The sequences one below the other, rounded. -/
def rows (X : FVec Ideal S128x8x2048 .f32) : FVec Ideal S1024x2048 .bf16 := truncf .bf16 (shapeCast _ X shapeCasts_S128x8x2048_S1024x2048) bitsLt_bf16_f32

theorem rows_at (X : FVec Ideal S128x8x2048 .f32) (r : Fin 1024) (n : Fin 2048) : rows X (ix2 r n) = X (ix3 ⟨r / 8, by omega⟩ ⟨r % 8, by omega⟩ n) := by
  pointwise [rows]

theorem merged_eq (Y : FVec Ideal S128x8x4096 .bf16) (P : FVec Ideal S128x8x20480 .bf16) (S : FVec Ideal S1x128x2x2048 .f32) (K : FVec Ideal S1x3x2048 .f32) (A : FVec Ideal S1x4096x2048 .f32) (B : FVec Ideal S1x2048x2048 .f32) : rows (merged Y P S K A B) = mixOut Y P S K A B := by
  funext i
  rw [eq_ix2 i]
  exact (rows_at _ _ _).trans (merged_at ..)

/-- The padded stream's last two rows of each sequence. -/
def kept (P : FVec Ideal S128x8x20480 .bf16) (S : FVec Ideal S1x128x2x2048 .f32) : FVec Ideal S128x2x2048 .f32 := extractStridedSlice S128x2x2048 ![0, 8, 0] (padded P S) slices_S128x10x2048_S128x2x2048_0_8_0

theorem kept_at (P : FVec Ideal S128x8x20480 .bf16) (S : FVec Ideal S1x128x2x2048 .f32) (b : Fin 128) (i : Fin 2) (n : Fin 2048) : kept P S (ix3 b i n) = padded P S (ix3 b ⟨8 + i, by omega⟩ n) := by
  pointwise [kept]

theorem kept_eq (P : FVec Ideal S128x8x20480 .bf16) (S : FVec Ideal S1x128x2x2048 .f32) : kept P S = stateOut P := by
  funext i
  rw [eq_ix3 i]
  refine (kept_at _ _ _ _ _).trans ((padded_at _ _ _ _ _).trans ((joined_stream _ _ _ _ _ (show ¬8 + (i 1).val < 2 by omega)).trans (gated_congr ?_ rfl)))
  show (i 0).val * 8 + (8 + (i 1).val - 2) = (i 0).val * 8 + (6 + (i 1).val)
  omega

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v55) = rows (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v35) = kept (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.ReferenceMixSampleIdeal.Mix

end
-- ==== Proof.MixSample.Claims.lean ====
module

public import proofs.«01_k».proof.Defs
public import proofs.«01_k».proof.Proof.Gen.KernelMixSample
public import proofs.«01_k».proof.Proof.MixSample.Reference
public import Idealize.ShloMosaic.Lib.Claim
public import Idealize.ShloMosaic.Lib.Quiescent

@[expose] public section

set_option maxRecDepth 16384

noncomputable section

namespace Cert.MixSample

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelMixSample.defs₀ (F := Bits) = Cert.KernelMixSampleIdeal.defs₀ := by
  unfold Cert.KernelMixSample.defs₀ Cert.KernelMixSampleIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelMixSample.defs (F := Bits) = Cert.KernelMixSampleIdeal.defs := congrArg (Pipeline.defs Cert.KernelMixSampleIdeal.pcfgs) bodies_eq

theorem frame_kernel : Cert.quiescent_KernelMixSample := fun m ρ _ => by
  have h := Cert.KernelMixSampleIdeal.Gen.frame (F := Bits) m ρ
  rw [← defs_eq] at h
  exact h

theorem frame_ideal : Cert.quiescent_KernelMixSampleIdeal := fun m ρ _ => Cert.KernelMixSampleIdeal.Gen.frame (F := Ideal) m ρ

theorem frame_reference : Cert.quiescent_ReferenceMixSampleIdeal := fun m ρ _ =>
  (θ_run Cert.ReferenceMixSampleIdeal.defs _ _).mono (fun r h => ⟨fun c => (h c).2.2, sem_eq_zero_of_no_sems (by decide) r.2⟩)
    (Cert.ReferenceMixSampleIdeal.Value.run (F := Ideal) m ρ)

/-- The kernel's results are the reference's. -/
theorem algebraic : Cert.algebraic_KernelMixSampleIdeal_ReferenceMixSampleIdeal := by
  pair_intro
  · run_from Cert.KernelMixSampleIdeal.Value.run_blocks m g
  · run_from Cert.ReferenceMixSampleIdeal.Mix.run m' g'
    · refine Eq.trans ?_ (Cert.KernelMixSampleIdeal.Mix.final_10 m c).symm
      exact Cert.ReferenceMixSampleIdeal.Mix.merged_eq _ _ _ _ _ _
    · refine Eq.trans ?_ (Cert.KernelMixSampleIdeal.Mix.final_11 m c).symm
      exact Cert.ReferenceMixSampleIdeal.Mix.kept_eq _ _

end Cert.MixSample

end
-- ==== Proof.UpSample.Value.lean ====
module

public import proofs.«01_k».proof.Proof.Gen.KernelUpSampleIdeal.Value
public import proofs.«01_k».proof.Proof.Common.Short
public import proofs.«01_k».proof.Proof.Up.Value

@[expose] public section

set_option maxRecDepth 16384

noncomputable section

namespace Cert.KernelUpSampleIdeal.Up

open Idealize.ShloMosaic Idealize.ShloMosaic.TcCoe Idealize.ShloMosaic.Tactic
open Idealize.SL Idealize.SL.Sem
open Idealize.ShloMosaic.Pipeline (Dat Cfg Window BodyObligation cellOf)
open Cert.KernelUpSampleIdeal Cert.KernelUpSampleIdeal.Gen
open Cert.Common (sigmoid first_of_eight first_two_of_eight kept_row)
open Cert.KernelUpIdeal.Up (swish swish_at taps_order)
/-- Row `r`, channel `n` of the short sequences' gate product, and of any product of their rows with a weight. -/
def gate (N : FVec Ideal S128x8x2048 .bf16) (W : FVec Ideal S1x2048x5632 .f32) (r : Fin 1024) (n : Fin 5632) : EReal :=
  ∑ k : Fin 2048, N (ix3 ⟨r / 8, by omega⟩ ⟨r % 8, by omega⟩ k) * W (ix3 0 k n)

/-- Sequence `b`'s gate product behind the two rows kept from before it. -/
def joined (N : FVec Ideal S128x8x2048 .bf16) (S : FVec Ideal S1x128x2x5632 .f32) (W : FVec Ideal S1x2048x5632 .f32) (b : Fin 128) (l : Fin 10) (n : Fin 5632) : EReal :=
  if h : l.val < 2 then S (ix4 0 b ⟨l, h⟩ n) else gate N W ⟨b.val * 8 + (l.val - 2), by omega⟩ n

/-- The causal convolution of the joined rows with the three taps, and its bias. -/
def conv (N : FVec Ideal S128x8x2048 .bf16) (S : FVec Ideal S1x128x2x5632 .f32) (W : FVec Ideal S1x2048x5632 .f32) (K : FVec Ideal S1x3x5632 .f32) (B : FVec Ideal S1x5632 .f32) (r : Fin 1024) (n : Fin 5632) : EReal :=
  joined N S W ⟨r / 8, by omega⟩ ⟨r % 8, by omega⟩ n * K (ix3 0 0 n) + joined N S W ⟨r / 8, by omega⟩ ⟨1 + r % 8, by omega⟩ n * K (ix3 0 1 n)
    + joined N S W ⟨r / 8, by omega⟩ ⟨2 + r % 8, by omega⟩ n * K (ix3 0 2 n) + B (ix2 0 n)

/-- Row `r`, channel `n` of the activations. -/
def upAt (N : FVec Ideal S128x8x2048 .bf16) (S : FVec Ideal S1x128x2x5632 .f32) (W U : FVec Ideal S1x2048x5632 .f32) (K : FVec Ideal S1x3x5632 .f32) (B : FVec Ideal S1x5632 .f32) (r : Fin 1024) (n : Fin 5632) : EReal :=
  conv N S W K B r n * sigmoid (conv N S W K B r n) * gate N U r n

/-- The activations, an array. -/
def upOut (N : FVec Ideal S128x8x2048 .bf16) (S : FVec Ideal S1x128x2x5632 .f32) (W U : FVec Ideal S1x2048x5632 .f32) (K : FVec Ideal S1x3x5632 .f32) (B : FVec Ideal S1x5632 .f32) : FVec Ideal S1024x5632 .bf16 := fun i => upAt N S W U K B (i 0) (i 1)

/-- The last two rows of each sequence's gate product, an array. -/
def stateOut (N : FVec Ideal S128x8x2048 .bf16) (W : FVec Ideal S1x2048x5632 .f32) : FVec Ideal S128x2x5632 .f32 :=
  fun i => gate N W ⟨(i 0).val * 8 + (6 + (i 1).val), by
    have h0 : (i 0).val < 128 := (i 0).isLt
    have h1 : (i 1).val < 2 := (i 1).isLt
    omega⟩ (i 2)

theorem gate_congr {N : FVec Ideal S128x8x2048 .bf16} {W : FVec Ideal S1x2048x5632 .f32} {r r' : Fin 1024} {n n' : Fin 5632} (hr : (r : ℕ) = r') (hn : (n : ℕ) = n') :
    gate N W r n = gate N W r' n' := by
  rw [Fin.ext hr, Fin.ext hn]

theorem joined_product (N : FVec Ideal S128x8x2048 .bf16) (S : FVec Ideal S1x128x2x5632 .f32) (W : FVec Ideal S1x2048x5632 .f32) (b : Fin 128) (l : Fin 10) (n : Fin 5632) (h : ¬l.val < 2) :
    joined N S W b l n = gate N W ⟨b.val * 8 + (l.val - 2), by omega⟩ n := dif_neg h

/-- The rows one row earlier, the kept rows `p` before each sequence. -/
def shift1 (u p : FVec Ideal S1024x256 .f32) : FVec Ideal S1024x256 .f32 :=
  select (cmpi .slt (andi (iota .tc S1024x256 32 [0] iota_S1024x256_d0_w32) (broadcast S1024x256 7#32)) (broadcast S1024x256 1#32))
    (dynamicRotate 0 1023#32 none p rotates_S1024x256_d0) (dynamicRotate 0 1#32 none u rotates_S1024x256_d0)

/-- And two rows earlier. -/
def shift2 (u p : FVec Ideal S1024x256 .f32) : FVec Ideal S1024x256 .f32 :=
  select (cmpi .slt (andi (iota .tc S1024x256 32 [0] iota_S1024x256_d0_w32) (broadcast S1024x256 7#32)) (broadcast S1024x256 2#32))
    p (dynamicRotate 0 2#32 none u rotates_S1024x256_d0)

theorem shift1_at (u p : FVec Ideal S1024x256 .f32) (j : Fin 1024) (n : Fin 256) :
    shift1 u p (ix2 j n) = if j.val % 8 < 1 then p (ix2 ⟨(j + 1) % 1024, by omega⟩ n) else u (ix2 ⟨j - 1, by omega⟩ n) := by
  pointwise [shift1]
  refine (first_of_eight _ _ _).trans ?_
  by_cases hd : j.val % 8 < 1
  · have e1 : (j.val + 1024 - 1023) % 1024 = (j.val + 1) % 1024 := by omega
    refine (if_pos hd).trans (Eq.trans ?_ (if_pos hd).symm)
    exact congrArg (fun k => p (ix2 k n)) (Fin.ext e1)
  · have e2 : (j.val + 1024 - 1) % 1024 = j.val - 1 := by omega
    refine (if_neg hd).trans (Eq.trans ?_ (if_neg hd).symm)
    exact congrArg (fun k => u (ix2 k n)) (Fin.ext e2)

theorem shift2_at (u p : FVec Ideal S1024x256 .f32) (j : Fin 1024) (n : Fin 256) :
    shift2 u p (ix2 j n) = if j.val % 8 < 2 then p (ix2 j n) else u (ix2 ⟨j - 2, by omega⟩ n) := by
  pointwise [shift2]
  refine (first_two_of_eight _ _ _).trans ?_
  by_cases hd : j.val % 8 < 2
  · exact (if_pos hd).trans (if_pos hd).symm
  · have e2 : (j.val + 1024 - 2) % 1024 = j.val - 2 := by omega
    refine (if_neg hd).trans (Eq.trans ?_ (if_neg hd).symm)
    exact congrArg (fun k => u (ix2 k n)) (Fin.ext e2)

/-- The kept rows at their places. -/
theorem pay5_at (s : FVec Ideal S128x2x256 .f32) (j : Fin 1024) (n : Fin 256) (h : j.val % 8 < 2) :
    k0_pay5 (F := Ideal) s (ix2 j n) = s (ix3 ⟨j / 8, by omega⟩ ⟨j % 8, h⟩ n) := by
  pointwise [k0_pay5]
  exact kept_row (j.val % 8) h (fun a => s (ix3 ⟨j / 8, by omega⟩ a n)) _

theorem pay3_at (x : FVec Ideal S1024x2048 .bf16) (w : FVec Ideal S2048x256 .f32) (j : Fin 1024) (n : Fin 256) :
    k0_pay3 (F := Ideal) x w (ix2 j n) = ∑ k : Fin 2048, x (ix2 j k) * w (ix2 k n) := by
  pointwise [k0_pay3, k0_pay2]

theorem pay4_at (x : FVec Ideal S1024x2048 .bf16) (w : FVec Ideal S2048x256 .f32) (j : Fin 1024) (n : Fin 256) :
    k0_pay4 (F := Ideal) x w (ix2 j n) = ∑ k : Fin 2048, x (ix2 j k) * w (ix2 k n) := by
  pointwise [k0_pay4, k0_pay2]

theorem pay6_at (x : FVec Ideal S1024x2048 .bf16) (w : FVec Ideal S2048x256 .f32) (q : Fin 128) (i : Fin 2) (n : Fin 256) :
    k0_pay6 (F := Ideal) x w (ix3 q i n) = k0_pay3 (F := Ideal) x w (ix2 ⟨q * 8 + (6 + i), by omega⟩ n) := by
  pointwise [k0_pay6]

/-- The convolution of a product `u` with the kept rows `p`, taps `k` and bias `b`, in the kernel's order. -/
def before (u p : FVec Ideal S1024x256 .f32) (b : FVec Ideal S1x256 .f32) (k : FVec Ideal S3x256 .f32) : FVec Ideal S1024x256 .f32 :=
  addf (broadcastTo S1024x256 (shapeCast S1x256 b shapeCasts_S1x256_S1x256) broadcasts_S1x256_S1024x256)
    (addf (addf (mulf (broadcastTo S1024x256 (extractStridedSlice S1x256 ![2, 0] (shapeCast S3x256 k shapeCasts_S3x256_S3x256) slices_S3x256_o2_0_S1x256) broadcasts_S1x256_S1024x256) u)
      (mulf (broadcastTo S1024x256 (extractStridedSlice S1x256 ![1, 0] (shapeCast S3x256 k shapeCasts_S3x256_S3x256) slices_S3x256_o1_0_S1x256) broadcasts_S1x256_S1024x256) (shift1 u p)))
      (mulf (broadcastTo S1024x256 (extractStridedSlice S1x256 ![0, 0] (shapeCast S3x256 k shapeCasts_S3x256_S3x256) slices_S3x256_o0_0_S1x256) broadcasts_S1x256_S1024x256) (shift2 u p)))

theorem before_at (u p : FVec Ideal S1024x256 .f32) (b : FVec Ideal S1x256 .f32) (k : FVec Ideal S3x256 .f32) (j : Fin 1024) (n : Fin 256) :
    before u p b k (ix2 j n) = b (ix2 0 n) + (k (ix2 2 n) * u (ix2 j n) + k (ix2 1 n) * shift1 u p (ix2 j n) + k (ix2 0 n) * shift2 u p (ix2 j n)) := by
  pointwise [before]

/-- What a pass over 256 columns stores. -/
def pass (x : FVec Ideal S1024x2048 .bf16) (g u : FVec Ideal S2048x256 .f32) (k : FVec Ideal S3x256 .f32) (b : FVec Ideal S1x256 .f32) (s : FVec Ideal S128x2x256 .f32) : FVec Ideal S1024x256 .bf16 :=
  swish (before (k0_pay3 (F := Ideal) x g) (k0_pay5 (F := Ideal) s) b k) (k0_pay4 (F := Ideal) x u)

theorem first_pass (x : FVec Ideal S1024x2048 .bf16) (g u : FVec Ideal S2048x256 .f32) (k : FVec Ideal S3x256 .f32) (b : FVec Ideal S1x256 .f32) (s : FVec Ideal S128x2x256 .f32) :
    k0_pay10 (F := Ideal) (k0_pay3 x g) (k0_pay4 x u) (k0_pay5 s) (k0_pay7 b) (k0_pay8 k) (k0_pay9 k) = pass x g u k b s := rfl

theorem second_pass (x : FVec Ideal S1024x2048 .bf16) (g u : FVec Ideal S2048x256 .f32) (k : FVec Ideal S3x256 .f32) (b : FVec Ideal S1x256 .f32) (s : FVec Ideal S128x2x256 .f32) :
    k0_pay1 (F := Ideal) (k0_pay12 (k0_pay2 x) u) (k0_pay13 s) (k0_pay15 b) (k0_pay17 (k0_pay11 (k0_pay2 x) g) s k) (k0_pay18 k) (k0_pay19 (k0_pay11 (k0_pay2 x) g)) (iota .tc S1024x256 32 [0] iota_S1024x256_d0_w32)
      = pass x g u k b s := rfl

theorem second_tail (x : FVec Ideal S1024x2048 .bf16) (g : FVec Ideal S2048x256 .f32) :
    k0_pay14 (F := Ideal) (k0_pay11 (k0_pay2 x) g) = k0_pay6 x g := rfl

/-- The arrays' readings that a pass over the columns `col` is given. -/
structure Reads (N : FVec Ideal S128x8x2048 .bf16) (S : FVec Ideal S1x128x2x5632 .f32) (W U : FVec Ideal S1x2048x5632 .f32) (K : FVec Ideal S1x3x5632 .f32) (B : FVec Ideal S1x5632 .f32) (col : Fin 256 → Fin 5632)
    (x : FVec Ideal S1024x2048 .bf16) (g u : FVec Ideal S2048x256 .f32) (k : FVec Ideal S3x256 .f32) (b : FVec Ideal S1x256 .f32) (s : FVec Ideal S128x2x256 .f32) : Prop where
  hx : ∀ (j : Fin 1024) (i : Fin 2048), x (ix2 j i) = N (ix3 ⟨j / 8, by omega⟩ ⟨j % 8, by omega⟩ i)
  hg : ∀ (i : Fin 2048) (n : Fin 256), g (ix2 i n) = W (ix3 0 i (col n))
  hu : ∀ (i : Fin 2048) (n : Fin 256), u (ix2 i n) = U (ix3 0 i (col n))
  hk : ∀ (i : Fin 3) (n : Fin 256), k (ix2 i n) = K (ix3 0 i (col n))
  hb : ∀ n : Fin 256, b (ix2 0 n) = B (ix2 0 (col n))
  hs : ∀ (q : Fin 128) (i : Fin 2) (n : Fin 256), s (ix3 q i n) = S (ix4 0 q i (col n))

section
variable {N : FVec Ideal S128x8x2048 .bf16} {S : FVec Ideal S1x128x2x5632 .f32} {W U : FVec Ideal S1x2048x5632 .f32} {K : FVec Ideal S1x3x5632 .f32} {B : FVec Ideal S1x5632 .f32}
  {col : Fin 256 → Fin 5632} {x : FVec Ideal S1024x2048 .bf16} {g u : FVec Ideal S2048x256 .f32} {k : FVec Ideal S3x256 .f32}
  {b : FVec Ideal S1x256 .f32} {s : FVec Ideal S128x2x256 .f32}

theorem Reads.gate_at (h : Reads N S W U K B col x g u k b s) (j : Fin 1024) (n : Fin 256) :
    k0_pay3 (F := Ideal) x g (ix2 j n) = gate N W j (col n) :=
  (pay3_at _ _ _ _).trans (Finset.sum_congr rfl fun i _ => congrArg₂ (· * ·) (h.hx j i) (h.hg i n))

theorem Reads.up_at (h : Reads N S W U K B col x g u k b s) (j : Fin 1024) (n : Fin 256) :
    k0_pay4 (F := Ideal) x u (ix2 j n) = gate N U j (col n) :=
  (pay4_at _ _ _ _).trans (Finset.sum_congr rfl fun i _ => congrArg₂ (· * ·) (h.hx j i) (h.hu i n))

theorem Reads.tail_at (h : Reads N S W U K B col x g u k b s) (q : Fin 128) (i : Fin 2) (n : Fin 256) :
    k0_pay6 (F := Ideal) x g (ix3 q i n) = gate N W ⟨q * 8 + (6 + i), by omega⟩ (col n) :=
  (pay6_at _ _ _ _ _).trans (h.gate_at _ n)

/-- A kept row at its place is the joined rows' row there. -/
theorem Reads.kept_joined (h : Reads N S W U K B col x g u k b s) (j : Fin 1024) (n : Fin 256) (hj : j.val % 8 < 2) (b' : Fin 128) (l : Fin 10)
    (hb' : (b' : ℕ) = j / 8) (hl : (l : ℕ) = j % 8) : k0_pay5 (F := Ideal) s (ix2 j n) = joined N S W b' l (col n) := by
  refine ((pay5_at _ j n hj).trans (h.hs _ _ n)).trans (Eq.trans ?_ (dif_pos (lt_of_eq_of_lt hl hj)).symm)
  exact congrArg₂ (fun (x : Fin 128) (y : Fin 2) => S (ix4 0 x y (col n))) (Fin.ext hb'.symm) (Fin.ext hl.symm)

theorem Reads.product_joined (h : Reads N S W U K B col x g u k b s) (j : Fin 1024) (n : Fin 256) (b' : Fin 128) (l : Fin 10)
    (hn : ¬(l : ℕ) < 2) (hl : (j : ℕ) = b'.val * 8 + (l.val - 2)) : k0_pay3 (F := Ideal) x g (ix2 j n) = joined N S W b' l (col n) :=
  (h.gate_at j n).trans (Eq.trans (gate_congr hl rfl) (joined_product _ _ _ b' l _ hn).symm)

theorem Reads.back1 (h : Reads N S W U K B col x g u k b s) (j : Fin 1024) (n : Fin 256) :
    shift1 (k0_pay3 (F := Ideal) x g) (k0_pay5 (F := Ideal) s) (ix2 j n) = joined N S W ⟨j / 8, by omega⟩ ⟨1 + j % 8, by omega⟩ (col n) := by
  refine (shift1_at _ _ _ _).trans ?_
  by_cases hj : j.val % 8 < 1
  · refine (if_pos hj).trans (h.kept_joined ⟨(j + 1) % 1024, by omega⟩ n ?_ _ _ ?_ ?_)
    · show (j.val + 1) % 1024 % 8 < 2; omega
    · show j.val / 8 = (j.val + 1) % 1024 / 8; omega
    · show 1 + j.val % 8 = (j.val + 1) % 1024 % 8; omega
  · refine (if_neg hj).trans (h.product_joined ⟨j - 1, by omega⟩ n _ _ ?_ ?_)
    · show ¬1 + j.val % 8 < 2; omega
    · show j.val - 1 = j.val / 8 * 8 + (1 + j.val % 8 - 2); omega

theorem Reads.back2 (h : Reads N S W U K B col x g u k b s) (j : Fin 1024) (n : Fin 256) :
    shift2 (k0_pay3 (F := Ideal) x g) (k0_pay5 (F := Ideal) s) (ix2 j n) = joined N S W ⟨j / 8, by omega⟩ ⟨j % 8, by omega⟩ (col n) := by
  refine (shift2_at _ _ _ _).trans ?_
  by_cases hj : j.val % 8 < 2
  · exact (if_pos hj).trans (h.kept_joined j n hj _ _ rfl rfl)
  · refine (if_neg hj).trans (h.product_joined ⟨j - 2, by omega⟩ n _ _ hj ?_)
    show j.val - 2 = j.val / 8 * 8 + (j.val % 8 - 2); omega

theorem Reads.conv_at (h : Reads N S W U K B col x g u k b s) (j : Fin 1024) (n : Fin 256) :
    before (k0_pay3 (F := Ideal) x g) (k0_pay5 (F := Ideal) s) b k (ix2 j n) = conv N S W K B j (col n) := by
  refine (before_at _ _ _ _ _ _).trans (Eq.trans ?_ (taps_order _ _ _ _ _ _ _))
  refine congrArg₂ (· + ·) (h.hb n) (congrArg₂ (· + ·) (congrArg₂ (· + ·) (congrArg₂ (· * ·) (h.hk 2 n) ?_)
    (congrArg₂ (· * ·) (h.hk 1 n) (h.back1 j n))) (congrArg₂ (· * ·) (h.hk 0 n) (h.back2 j n)))
  refine h.product_joined j n _ _ ?_ ?_
  · show ¬2 + j.val % 8 < 2; omega
  · show j.val = j.val / 8 * 8 + (2 + j.val % 8 - 2); omega

/-- What a pass stores is the activations of its columns, where the convolution is above the infinity below. -/
theorem Reads.pass_at (h : Reads N S W U K B col x g u k b s) (j : Fin 1024) (n : Fin 256) (hf : conv N S W K B j (col n) ≠ ⊥) :
    pass x g u k b s (ix2 j n) = upAt N S W U K B j (col n) := by
  unfold pass upAt
  have e := h.conv_at j n
  refine (swish_at _ _ _ _ (by rw [e]; exact hf)).trans ?_
  rw [e, h.up_at j n]
end

variable (m : (ℓ : Loc nD τ sig) → Buf (Elt Ideal) ℓ)

theorem entry_x (c : Dev nD) (r : Fin 1024) (k : Fin 2048) :
    V m c main_v0 (ix2 r k) = m ((c.tc : Thread nD τ).loc main_arg0) (ix3 ⟨r / 8, by omega⟩ ⟨r % 8, by omega⟩ k) := by
  entry_read
  pointwise

theorem entry_g (c : Dev nD) (k : Fin 2048) (n : Fin 5632) :
    V m c main_v1 (ix2 k n) = m ((c.tc : Thread nD τ).loc main_arg2) (ix3 0 k n) := by
  entry_read
  pointwise

theorem entry_u (c : Dev nD) (k : Fin 2048) (n : Fin 5632) :
    V m c main_v2 (ix2 k n) = m ((c.tc : Thread nD τ).loc main_arg3) (ix3 0 k n) := by
  entry_read
  pointwise

theorem entry_k (c : Dev nD) (j : Fin 3) (n : Fin 5632) :
    V m c main_v3 (ix2 j n) = m ((c.tc : Thread nD τ).loc main_arg4) (ix3 0 j n) := by
  entry_read
  pointwise

theorem entry_b (c : Dev nD) (n : Fin 5632) :
    V m c main_v5 (ix2 0 n) = m ((c.tc : Thread nD τ).loc main_arg5) (ix2 0 n) := by
  entry_read
  pointwise

theorem entry_s (c : Dev nD) (b : Fin 128) (i : Fin 2) (n : Fin 5632) :
    V m c main_v6 (ix3 b i n) = m ((c.tc : Thread nD τ).loc main_arg1) (ix4 0 b i n) := by
  entry_read
  pointwise

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, 0, t.val]
    ∧ win0_6.index t = ![0, t.val] ∧ win0_7.index t = ![0, 0, t.val] :=
  (by decide +kernel : ∀ t : Fin grid0.N, _)

theorem t_lt (t : Fin cfg0.N) : t.val < 11 := lt_of_lt_of_eq t.isLt (by decide +kernel)

theorem cols_lt (t : Fin cfg0.N) (n : Fin 512) : t.val * 512 + (n : ℕ) < 5632 := by
  have ht := t_lt t
  omega

theorem point_x (c : Dev nD) (t : Fin cfg0.N) (y : S1024x2048.Idx) : iblk m c 0 t y = V m c main_v0 (ix2 (y 0) (y 1)) := by
  blk_ext [iblk, idx t]

theorem point_g (c : Dev nD) (t : Fin cfg0.N) (y : S2048x512.Idx) : iblk m c 1 t y = V m c main_v1 (ix2 (y 0) ⟨_, cols_lt t (y 1)⟩) := by
  blk_ext [iblk, idx t]

theorem point_u (c : Dev nD) (t : Fin cfg0.N) (y : S2048x512.Idx) : iblk m c 2 t y = V m c main_v2 (ix2 (y 0) ⟨_, cols_lt t (y 1)⟩) := by
  blk_ext [iblk, idx t]

theorem point_k (c : Dev nD) (t : Fin cfg0.N) (y : S3x512.Idx) : iblk m c 3 t y = V m c main_v3 (ix2 (y 0) ⟨_, cols_lt t (y 1)⟩) := by
  blk_ext [iblk, idx t]

theorem point_b (c : Dev nD) (t : Fin cfg0.N) (y : S1x512.Idx) : iblk m c 4 t y = V m c main_v5 (ix2 (y 0) ⟨_, cols_lt t (y 1)⟩) := by
  blk_ext [iblk, idx t]

theorem point_s (c : Dev nD) (t : Fin cfg0.N) (y : S128x2x512.Idx) : iblk m c 5 t y = V m c main_v6 (ix3 (y 0) (y 1) ⟨_, cols_lt t (y 2)⟩) := by
  blk_ext [iblk, idx t]

/-- The columns of a step's pass which starts at its column `o`. -/
def col (t : Fin cfg0.N) (o : ℕ) (ho : o ≤ 256) (n : Fin 256) : Fin 5632 := ⟨t.val * 512 + (o + n.val), by
  have ht := t_lt t
  omega⟩

theorem reads (c : Dev nD) (t : Fin cfg0.N) (o : ℕ) (ho : o ≤ 256)
    (inbw : ∀ a, (![0, o] : Fin 2 → ℕ) a + S2048x256.size a ≤ S2048x512.size a) (inbk : ∀ a, (![0, o] : Fin 2 → ℕ) a + S3x256.size a ≤ S3x512.size a)
    (inbb : ∀ a, (![0, o] : Fin 2 → ℕ) a + S1x256.size a ≤ S1x512.size a) (inbs : ∀ a, (![0, 0, o] : Fin 3 → ℕ) a + S128x2x256.size a ≤ S128x2x512.size a) :
    Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (col t o ho)
      (View.ld (Val := Elt Ideal) (e' := .bf16) (iblk m c 0 t) r0_0)
      (View.ld (Val := Elt Ideal) (e' := .f32) (iblk m c 1 t) (Rect.unit (s := S2048x512) ![0, o] S2048x256.size inbw))
      (View.ld (Val := Elt Ideal) (e' := .f32) (iblk m c 2 t) (Rect.unit (s := S2048x512) ![0, o] S2048x256.size inbw))
      (View.ld (Val := Elt Ideal) (e' := .f32) (iblk m c 3 t) (Rect.unit (s := S3x512) ![0, o] S3x256.size inbk))
      (View.ld (Val := Elt Ideal) (e' := .f32) (iblk m c 4 t) (Rect.unit (s := S1x512) ![0, o] S1x256.size inbb))
      (View.ld (Val := Elt Ideal) (e' := .f32) (iblk m c 5 t) (Rect.unit (s := S128x2x512) ![0, 0, o] S128x2x256.size inbs)) where
  hx j i := (View.ld_unit_apply_of _ _ _ _ _ (ix2 j i) fun a => match a with | ⟨0, _⟩ => (Nat.zero_add _).symm | ⟨1, _⟩ => (Nat.zero_add _).symm).trans
    ((point_x m c t (ix2 j i)).trans (entry_x m c _ i))
  hg i n := (View.ld_unit_apply_of _ _ _ _ _ (ix2 i ⟨o + n.val, by omega⟩) fun a => match a with | ⟨0, _⟩ => (Nat.zero_add _).symm | ⟨1, _⟩ => rfl).trans
    ((point_g m c t (ix2 i ⟨o + n.val, by omega⟩)).trans (entry_g m c i _))
  hu i n := (View.ld_unit_apply_of _ _ _ _ _ (ix2 i ⟨o + n.val, by omega⟩) fun a => match a with | ⟨0, _⟩ => (Nat.zero_add _).symm | ⟨1, _⟩ => rfl).trans
    ((point_u m c t (ix2 i ⟨o + n.val, by omega⟩)).trans (entry_u m c i _))
  hk i n := (View.ld_unit_apply_of _ _ _ _ _ (ix2 i ⟨o + n.val, by omega⟩) fun a => match a with | ⟨0, _⟩ => (Nat.zero_add _).symm | ⟨1, _⟩ => rfl).trans
    ((point_k m c t (ix2 i ⟨o + n.val, by omega⟩)).trans (entry_k m c i _))
  hb n := (View.ld_unit_apply_of _ _ _ _ _ (ix2 0 ⟨o + n.val, by omega⟩) fun a => match a with | ⟨0, _⟩ => rfl | ⟨1, _⟩ => rfl).trans
    ((point_b m c t (ix2 0 ⟨o + n.val, by omega⟩)).trans (entry_b m c _))
  hs q i n := (View.ld_unit_apply_of _ _ _ _ _ (ix3 q i ⟨o + n.val, by omega⟩) fun a => match a with | ⟨0, _⟩ => (Nat.zero_add _).symm | ⟨1, _⟩ => (Nat.zero_add _).symm | ⟨2, _⟩ => rfl).trans
    ((point_s m c t (ix3 q i ⟨o + n.val, by omega⟩)).trans (entry_s m c q i _))

theorem upAt_congr {N : FVec Ideal S128x8x2048 .bf16} {S : FVec Ideal S1x128x2x5632 .f32} {W U : FVec Ideal S1x2048x5632 .f32} {K : FVec Ideal S1x3x5632 .f32} {B : FVec Ideal S1x5632 .f32} {r r' : Fin 1024} {n n' : Fin 5632} (hr : (r : ℕ) = r') (hn : (n : ℕ) = n') :
    upAt N S W U K B r n = upAt N S W U K B r' n' := by
  rw [Fin.ext hr, Fin.ext hn]

theorem flushed_6 (c : Dev nD) (hf : ∀ r n, conv (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) r n ≠ ⊥) (t : Fin cfg0.N) (y : S1024x512.Idx) :
    out0_6 (F := Ideal) (iblk m c 0 t) (iblk m c 1 t) (iblk m c 2 t) (iblk m c 3 t) (iblk m c 4 t) (iblk m c 5 t) y
      = upAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) ⟨_, cols_lt t (y 1)⟩ := by
  unfold out0_6 k0_pay21 k0_pay20
  rw [second_pass, first_pass]
  canon_tiles q h
  · rw [eq_ix2 q]
    refine ((reads m c t 256 (le_refl _) _ _ _ _).pass_at (q 0) (q 1) (hf _ _)).trans (upAt_congr h0.symm ?_)
    show t.val * 512 + (256 + (q 1).val) = t.val * 512 + (y 1).val
    omega
  · rw [eq_ix2 q]
    refine ((reads m c t 0 (Nat.zero_le _) _ _ _ _).pass_at (q 0) (q 1) (hf _ _)).trans (upAt_congr h0.symm ?_)
    show t.val * 512 + (0 + (q 1).val) = t.val * 512 + (y 1).val
    omega

theorem flushed_7 (c : Dev nD) (t : Fin cfg0.N) (y : S128x2x512.Idx) :
    out0_7 (F := Ideal) (iblk m c 0 t) (iblk m c 1 t) (iblk m c 2 t) (iblk m c 3 t) (iblk m c 4 t) (iblk m c 5 t) y
      = stateOut (m ((c.tc : Thread nD τ).loc main_arg0)) (m ((c.tc : Thread nD τ).loc main_arg2)) (ix3 (y 0) (y 1) ⟨_, cols_lt t (y 2)⟩) := by
  unfold out0_7 k0_pay21 k0_pay20
  rw [second_tail]
  canon_tiles q h
  · rw [eq_ix3 q]
    refine ((reads m c t 256 (le_refl _) inb_S2048x512_S2048x256_0_256 inb_S3x512_S3x256_0_256 inb_S1x512_S1x256_0_256 inb_S128x2x512_S128x2x256_0_0_256).tail_at (q 0) (q 1) (q 2)).trans (gate_congr ?_ ?_)
    · show (q 0).val * 8 + (6 + (q 1).val) = (y 0).val * 8 + (6 + (y 1).val)
      omega
    · show t.val * 512 + (256 + (q 2).val) = t.val * 512 + (y 2).val
      omega
  · rw [eq_ix3 q]
    refine ((reads m c t 0 (Nat.zero_le _) inb_S2048x512_S2048x256_0_0 inb_S3x512_S3x256_0_0 inb_S1x512_S1x256_0_0 inb_S128x2x512_S128x2x256_0_0_0).tail_at (q 0) (q 1) (q 2)).trans (gate_congr ?_ ?_)
    · show (q 0).val * 8 + (6 + (q 1).val) = (y 0).val * 8 + (6 + (y 1).val)
      omega
    · show t.val * 512 + (0 + (q 2).val) = t.val * 512 + (y 2).val
      omega

theorem place_6 (t : Fin cfg0.N) (y : S1024x512.Idx) : (win0_6.blk t).view.emb y = ix2 (y 0) ⟨_, cols_lt t (y 1)⟩ := by
  funext a
  match a with
  | ⟨0, _⟩ => refine Fin.ext ?_; blk_simp [idx t]; rfl
  | ⟨1, _⟩ => refine Fin.ext ?_; blk_simp [idx t]; rfl

theorem place_7 (t : Fin cfg0.N) (y : S128x2x512.Idx) : (win0_7.blk t).view.emb y = ix3 (y 0) (y 1) ⟨_, cols_lt t (y 2)⟩ := by
  funext a
  match a with
  | ⟨0, _⟩ => refine Fin.ext ?_; blk_simp [idx t]; rfl
  | ⟨1, _⟩ => refine Fin.ext ?_; blk_simp [idx t]; rfl
  | ⟨2, _⟩ => refine Fin.ext ?_; blk_simp [idx t]; rfl

/-- The activations which the kernel returns. -/
theorem final_6 (c : Dev nD) (hf : ∀ r n, conv (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) r n ≠ ⊥) :
    (dats m 0 c).arrAt 6 (cfgs 0).N = upOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  refine Eq.trans ?_ (congrArg (upOut _ _ _ _ _ _) (place_6 t y).symm)
  exact flushed_6 m c hf t y

/-- The rows of the gate's product which it keeps. -/
theorem final_7 (c : Dev nD) : (dats m 0 c).arrAt 7 (cfgs 0).N = stateOut (m ((c.tc : Thread nD τ).loc main_arg0)) (m ((c.tc : Thread nD τ).loc main_arg2)) := by
  refine (dats m 0 c).arrAt_eq_of_covers 7 _ (by decide +kernel) fun t _ y => ?_
  blk_simp
  rw [after0_7]
  refine Eq.trans ?_ (congrArg (stateOut _ _) (place_7 t y).symm)
  exact flushed_7 m c t y

end Cert.KernelUpSampleIdeal.Up

end
-- ==== Proof.UpSample.Reference.lean ====
module

public import proofs.«01_k».proof.Proof.Gen.ReferenceUpSampleIdeal.Run
public import proofs.«01_k».proof.Proof.UpSample.Value

@[expose] public section

set_option maxRecDepth 16384

noncomputable section

namespace Cert.ReferenceUpSampleIdeal.Up

open Idealize.ShloMosaic Idealize.ShloMosaic.TcCoe Idealize.ShloMosaic.Tactic
open Idealize.SL Idealize.SL.Sem
open Idealize.ShloMosaic.Pipeline (Dat Cfg Window BodyObligation cellOf)
open Cert.ReferenceUpSampleIdeal Cert.ReferenceUpSampleIdeal.Gen Idealize.ShloMosaic.StableHlo
open Cert.Common (sigmoid)
open Cert.KernelUpSampleIdeal.Up (gate gate_congr joined joined_product conv upAt upOut stateOut)
/-- The rows' product with a weight, as the reference computes it. -/
def product (N : FVec Ideal S128x8x2048 .bf16) (W : FVec Ideal S1x2048x5632 .f32) : FVec Ideal S128x8x5632 .f32 :=
  Host.dotGeneral dot_S128x8x2048_S2048x5632_S128x8x5632_2_0_01_1_n_n none (extf .f32 N bitsLt_bf16_f32) (shapeCast _ W shapeCasts_S1x2048x5632_S2048x5632)

theorem product_at (N : FVec Ideal S128x8x2048 .bf16) (W : FVec Ideal S1x2048x5632 .f32) (b : Fin 128) (l : Fin 8) (n : Fin 5632) :
    product N W (ix3 b l n) = ∑ k : Fin 2048, N (ix3 b l k) * W (ix3 0 k n) := by
  pointwise [product]

/-- The product behind the two rows kept from before each sequence. -/
def padded (N : FVec Ideal S128x8x2048 .bf16) (S : FVec Ideal S1x128x2x5632 .f32) (W : FVec Ideal S1x2048x5632 .f32) : FVec Ideal S128x10x5632 .f32 :=
  concatenate S128x10x5632 1 [⟨S128x2x5632, (shapeCast _ S shapeCasts_S1x128x2x5632_S128x2x5632)⟩, ⟨S128x8x5632, product N W⟩] concatenates_S128x2x5632_S128x8x5632_S128x10x5632_d1

theorem padded_at (N : FVec Ideal S128x8x2048 .bf16) (S : FVec Ideal S1x128x2x5632 .f32) (W : FVec Ideal S1x2048x5632 .f32) (b : Fin 128) (l : Fin 10) (n : Fin 5632) :
    padded N S W (ix3 b l n) = joined N S W b l n := by
  pointwise [padded]
  unfold joined
  by_cases h : l.val < 2
  · refine (dif_pos h).trans (Eq.trans ?_ (dif_pos h).symm)
    rfl
  · have e0 : (b.val * 8 + (l.val - 2)) / 8 = b.val := by omega
    have e1 : (b.val * 8 + (l.val - 2)) % 8 = l.val - 2 := by omega
    refine (dif_neg h).trans (Eq.trans ?_ (dif_neg h).symm)
    unfold gate
    refine (product_at _ _ _ _ _).trans (Finset.sum_congr rfl fun k _ => congrArg (· * _) ?_)
    exact congrArg₂ (fun (x : Fin 128) (y : Fin 8) => N (ix3 x y k)) (Fin.ext e0.symm) (Fin.ext e1.symm)

/-- The convolution and its bias, as the reference computes them. -/
def convolved (N : FVec Ideal S128x8x2048 .bf16) (S : FVec Ideal S1x128x2x5632 .f32) (W : FVec Ideal S1x2048x5632 .f32) (K : FVec Ideal S1x3x5632 .f32) (B : FVec Ideal S1x5632 .f32) : FVec Ideal S128x8x5632 .f32 :=
  addf (addf (addf (mulf (extractStridedSlice S128x8x5632 ![0, 0, 0] (padded N S W) slices_S128x10x5632_S128x8x5632_0_0_0) (broadcastInDim S128x8x5632 ![0, 1, 2] bcast_S1x1x5632_S128x8x5632_0_1_2 (broadcastInDim S1x1x5632 ![2] bcast_S5632_S1x1x5632_2 (shapeCast _ (extractStridedSlice S1x5632 ![0, 0] (shapeCast _ K shapeCasts_S1x3x5632_S3x5632) slices_S3x5632_S1x5632_0_0) shapeCasts_S1x5632_S5632)))) (mulf (extractStridedSlice S128x8x5632 ![0, 1, 0] (padded N S W) slices_S128x10x5632_S128x8x5632_0_1_0) (broadcastInDim S128x8x5632 ![0, 1, 2] bcast_S1x1x5632_S128x8x5632_0_1_2 (broadcastInDim S1x1x5632 ![2] bcast_S5632_S1x1x5632_2 (shapeCast _ (extractStridedSlice S1x5632 ![1, 0] (shapeCast _ K shapeCasts_S1x3x5632_S3x5632) slices_S3x5632_S1x5632_1_0) shapeCasts_S1x5632_S5632))))) (mulf (extractStridedSlice S128x8x5632 ![0, 2, 0] (padded N S W) slices_S128x10x5632_S128x8x5632_0_2_0) (broadcastInDim S128x8x5632 ![0, 1, 2] bcast_S1x1x5632_S128x8x5632_0_1_2 (broadcastInDim S1x1x5632 ![2] bcast_S5632_S1x1x5632_2 (shapeCast _ (extractStridedSlice S1x5632 ![2, 0] (shapeCast _ K shapeCasts_S1x3x5632_S3x5632) slices_S3x5632_S1x5632_2_0) shapeCasts_S1x5632_S5632))))) (broadcastInDim S128x8x5632 ![0, 1, 2] bcast_S1x1x5632_S128x8x5632_0_1_2 (broadcastInDim S1x1x5632 ![2] bcast_S5632_S1x1x5632_2 (shapeCast _ B shapeCasts_S1x5632_S5632)))

theorem convolved_at (N : FVec Ideal S128x8x2048 .bf16) (S : FVec Ideal S1x128x2x5632 .f32) (W : FVec Ideal S1x2048x5632 .f32) (K : FVec Ideal S1x3x5632 .f32) (B : FVec Ideal S1x5632 .f32) (r : Fin 1024) (n : Fin 5632) :
    convolved N S W K B (ix3 ⟨r / 8, by omega⟩ ⟨r % 8, by omega⟩ n) = conv N S W K B r n := by
  pointwise [convolved, padded_at]
  rfl

/-- The activations of each sequence, as the reference computes them. -/
def activations (N : FVec Ideal S128x8x2048 .bf16) (S : FVec Ideal S1x128x2x5632 .f32) (W : FVec Ideal S1x2048x5632 .f32) (U : FVec Ideal S1x2048x5632 .f32) (K : FVec Ideal S1x3x5632 .f32) (B : FVec Ideal S1x5632 .f32) : FVec Ideal S128x8x5632 .f32 :=
  mulf (mulf (convolved N S W K B) (Host.divf (broadcastInDim S128x8x5632 ![] bcast_S_S128x8x5632 (constant S_ .f32 0x3F800000#32)) (addf (broadcastInDim S128x8x5632 ![] bcast_S_S128x8x5632 (constant S_ .f32 0x3F800000#32)) (Host.exp (Host.negf (convolved N S W K B)))))) (product N U)

theorem product_row (N : FVec Ideal S128x8x2048 .bf16) (W : FVec Ideal S1x2048x5632 .f32) (r : Fin 1024) (n : Fin 5632) : product N W (ix3 ⟨r / 8, by omega⟩ ⟨r % 8, by omega⟩ n) = gate N W r n := product_at _ _ _ _ _

theorem activations_at (N : FVec Ideal S128x8x2048 .bf16) (S : FVec Ideal S1x128x2x5632 .f32) (W : FVec Ideal S1x2048x5632 .f32) (U : FVec Ideal S1x2048x5632 .f32) (K : FVec Ideal S1x3x5632 .f32) (B : FVec Ideal S1x5632 .f32) (r : Fin 1024) (n : Fin 5632) :
    activations N S W U K B (ix3 ⟨r / 8, by omega⟩ ⟨r % 8, by omega⟩ n) = upAt N S W U K B r n := by
  pointwise [activations, upAt, sigmoid, convolved_at, product_row]

/-- The sequences one below the other, rounded. -/
def rows (X : FVec Ideal S128x8x5632 .f32) : FVec Ideal S1024x5632 .bf16 := truncf .bf16 (shapeCast _ X shapeCasts_S128x8x5632_S1024x5632) bitsLt_bf16_f32

theorem rows_at (X : FVec Ideal S128x8x5632 .f32) (r : Fin 1024) (n : Fin 5632) : rows X (ix2 r n) = X (ix3 ⟨r / 8, by omega⟩ ⟨r % 8, by omega⟩ n) := by
  pointwise [rows]

theorem activations_eq (N : FVec Ideal S128x8x2048 .bf16) (S : FVec Ideal S1x128x2x5632 .f32) (W : FVec Ideal S1x2048x5632 .f32) (U : FVec Ideal S1x2048x5632 .f32) (K : FVec Ideal S1x3x5632 .f32) (B : FVec Ideal S1x5632 .f32) : rows (activations N S W U K B) = upOut N S W U K B := by
  funext i
  rw [eq_ix2 i]
  exact (rows_at _ _ _).trans (activations_at ..)

/-- The padded product's last two rows of each sequence. -/
def kept (N : FVec Ideal S128x8x2048 .bf16) (S : FVec Ideal S1x128x2x5632 .f32) (W : FVec Ideal S1x2048x5632 .f32) : FVec Ideal S128x2x5632 .f32 := extractStridedSlice S128x2x5632 ![0, 8, 0] (padded N S W) slices_S128x10x5632_S128x2x5632_0_8_0

theorem kept_at (N : FVec Ideal S128x8x2048 .bf16) (S : FVec Ideal S1x128x2x5632 .f32) (W : FVec Ideal S1x2048x5632 .f32) (b : Fin 128) (i : Fin 2) (n : Fin 5632) : kept N S W (ix3 b i n) = padded N S W (ix3 b ⟨8 + i, by omega⟩ n) := by
  pointwise [kept]

theorem kept_eq (N : FVec Ideal S128x8x2048 .bf16) (S : FVec Ideal S1x128x2x5632 .f32) (W : FVec Ideal S1x2048x5632 .f32) : kept N S W = stateOut N W := by
  funext i
  rw [eq_ix3 i]
  refine (kept_at _ _ _ _ _ _).trans ((padded_at _ _ _ _ _ _).trans ((joined_product _ _ _ _ _ _ (show ¬8 + (i 1).val < 2 by omega)).trans (gate_congr ?_ rfl)))
  show (i 0).val * 8 + (8 + (i 1).val - 2) = (i 0).val * 8 + (6 + (i 1).val)
  omega

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v36) = rows (activations (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v30) = kept (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  Value.run m ρ

end Cert.ReferenceUpSampleIdeal.Up

end
-- ==== Proof.UpSample.Finite.lean ====
module

public import proofs.«01_k».proof.Proof.UpSample.Value
public import proofs.«01_k».proof.Proof.Up.Finite
public import proofs.«01_k».proof.Proof.Gen.Pre_finite_sample
public import Idealize.ShloMosaic.Lib.ReduceAll

@[expose] public section

set_option maxRecDepth 16384

noncomputable section

namespace Cert.UpSample

open Idealize.ShloMosaic Idealize.ShloMosaic.TcCoe Idealize.ShloMosaic.Tactic
open Idealize.SL Idealize.SL.Sem
open Idealize.ShloMosaic.Pipeline (Dat Cfg Window BodyObligation cellOf)
open Cert.KernelUpSampleIdeal Cert.KernelUpSampleIdeal.Up
open Cert.Up (Real andi_left andi_right)
open Cert.Pre_finite_sample.Gen
instance : Subsingleton Cert.Pre_finite_sample.S_.Idx := ⟨fun a b => funext fun i => i.elim0⟩

section
variable (N : FVec Ideal S128x8x2048 .bf16) (S : FVec Ideal S1x128x2x5632 .f32) (W U : FVec Ideal S1x2048x5632 .f32) (K : FVec Ideal S1x3x5632 .f32) (B : FVec Ideal S1x5632 .f32)

/-- The precondition says of every element the convolution reads that it is a real number. -/
theorem reals (h : Cert.Pre_finite_sample.fn (F := Ideal) N S W U K B = fun _ => 1#1) :
    (∀ i, Real (N i)) ∧ (∀ i, Real (S i)) ∧ (∀ i, Real (W i)) ∧ (∀ i, Real (K i)) ∧ (∀ i, Real (B i)) := by
  have h0 := congrFun h (fun i => i.elim0)
  dsimp only [Cert.Pre_finite_sample.fn, Cert.Pre_finite_sample.fn_part1] at h0
  have hb := andi_right h0
  have h1 := andi_left h0
  have hk := andi_right h1
  have h2 := andi_left h1
  have hw := andi_right h2
  have h3 := andi_left h2
  have hs := andi_right h3
  have hn := andi_left h3
  exact ⟨fun i => Real.of_magnitude (Host.reduce_andi_all _ _ _ _ _ hn i), fun i => Real.of_magnitude (Host.reduce_andi_all _ _ _ _ _ hs i),
    fun i => Real.of_magnitude (Host.reduce_andi_all _ _ _ _ _ hw i), fun i => Real.of_magnitude (Host.reduce_andi_all _ _ _ _ _ hk i),
    fun i => Real.of_magnitude (Host.reduce_andi_all _ _ _ _ _ hb i)⟩

/-- So the convolution is a real number everywhere, and not the infinity below. -/
theorem conv_ne_bot (h : Cert.Pre_finite_sample.fn (F := Ideal) N S W U K B = fun _ => 1#1) (r : Fin 1024) (n : Fin 5632) :
    conv N S W K B r n ≠ ⊥ := by
  obtain ⟨hn, hs, hw, hk, hb⟩ := reals N S W U K B h
  have hj : ∀ b l n, Real (joined N S W b l n) := fun b l n => by
    unfold joined
    split
    · exact hs _
    · exact Real.sum _ _ fun k => (hn _).mul (hw _)
  exact (((((hj _ _ n).mul (hk _)).add ((hj _ _ n).mul (hk _))).add ((hj _ _ n).mul (hk _))).add (hb _)).ne_bot
end

end Cert.UpSample

end
-- ==== Proof.UpSample.Claims.lean ====
module

public import proofs.«01_k».proof.Defs
public import proofs.«01_k».proof.Proof.Gen.KernelUpSample
public import proofs.«01_k».proof.Proof.UpSample.Reference
public import proofs.«01_k».proof.Proof.UpSample.Finite
public import Idealize.ShloMosaic.Lib.Claim
public import Idealize.ShloMosaic.Lib.Quiescent

@[expose] public section

set_option maxRecDepth 16384

noncomputable section

namespace Cert.UpSample

open Idealize.ShloMosaic Idealize.ShloMosaic.TcCoe Idealize.ShloMosaic.Tactic
open Idealize.SL Idealize.SL.Sem
open Idealize.ShloMosaic.Pipeline (Dat Cfg Window BodyObligation cellOf)

/-- The body table of the kernel is its idealized form's: the ideal pass rewrote nothing. -/
theorem bodies_eq : Cert.KernelUpSample.defs₀ (F := Bits) = Cert.KernelUpSampleIdeal.defs₀ := by
  unfold Cert.KernelUpSample.defs₀ Cert.KernelUpSampleIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.KernelUpSample.defs (F := Bits) = Cert.KernelUpSampleIdeal.defs := congrArg (Pipeline.defs Cert.KernelUpSampleIdeal.pcfgs) bodies_eq

theorem frame_kernel : Cert.quiescent_KernelUpSample := fun m ρ _ => by
  have h := Cert.KernelUpSampleIdeal.Gen.frame (F := Bits) m ρ
  rw [← defs_eq] at h
  exact h

theorem frame_ideal : Cert.quiescent_KernelUpSampleIdeal := fun m ρ _ => Cert.KernelUpSampleIdeal.Gen.frame (F := Ideal) m ρ

theorem frame_reference : Cert.quiescent_ReferenceUpSampleIdeal := fun m ρ _ =>
  (θ_run Cert.ReferenceUpSampleIdeal.defs _ _).mono (fun r h => ⟨fun c => (h c).2.2, sem_eq_zero_of_no_sems (by decide) r.2⟩)
    (Cert.ReferenceUpSampleIdeal.Value.run (F := Ideal) m ρ)

/-- The frames again, of the runs whose arguments the precondition holds of. -/
theorem frame_ideal_finite : Cert.quiescent_KernelUpSampleIdeal_pre_finite_sample := fun m ρ _ => frame_ideal m ρ trivial

theorem frame_reference_finite : Cert.quiescent_ReferenceUpSampleIdeal_pre_finite_sample := fun m ρ _ => frame_reference m ρ trivial

/-- Of arguments below the infinity in magnitude, the kernel's results are the reference's. -/
theorem algebraic : Cert.algebraic_KernelUpSampleIdeal_ReferenceUpSampleIdeal_pre_finite_sample := by
  pair_intro
  · run_from Cert.KernelUpSampleIdeal.Value.run_blocks m g
  · run_from Cert.ReferenceUpSampleIdeal.Up.run m' g'
    · refine Eq.trans ?_ (Cert.KernelUpSampleIdeal.Up.final_6 m c (fun r n => conv_ne_bot _ _ _ _ _ _ (hpre c) r n)).symm
      exact Cert.ReferenceUpSampleIdeal.Up.activations_eq _ _ _ _ _ _
    · refine Eq.trans ?_ (Cert.KernelUpSampleIdeal.Up.final_7 m c).symm
      exact Cert.ReferenceUpSampleIdeal.Up.kept_eq _ _ _

end Cert.UpSample

end
-- ==== Proof.Ssd.Parts1.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part1_eq : @Cert.KernelSsd.k0_part1 F _ = @Cert.KernelSsdIdeal.k0_part1 F _ := rfl

theorem part10_eq : @Cert.KernelSsd.k0_part10 F _ _ = @Cert.KernelSsdIdeal.k0_part10 F _ _ := rfl

theorem part19_eq : @Cert.KernelSsd.k0_part19 F _ _ = @Cert.KernelSsdIdeal.k0_part19 F _ _ := rfl

theorem part28_eq : @Cert.KernelSsd.k0_part28 F _ _ = @Cert.KernelSsdIdeal.k0_part28 F _ _ := rfl

theorem part37_eq : @Cert.KernelSsd.k0_part37 F _ _ = @Cert.KernelSsdIdeal.k0_part37 F _ _ := rfl

theorem part46_eq : @Cert.KernelSsd.k0_part46 F _ _ = @Cert.KernelSsdIdeal.k0_part46 F _ _ := rfl

theorem part55_eq : @Cert.KernelSsd.k0_part55 F _ _ = @Cert.KernelSsdIdeal.k0_part55 F _ _ := rfl

theorem part64_eq : @Cert.KernelSsd.k0_part64 F _ _ = @Cert.KernelSsdIdeal.k0_part64 F _ _ := rfl

theorem part73_eq : @Cert.KernelSsd.k0_part73 F _ _ = @Cert.KernelSsdIdeal.k0_part73 F _ _ := rfl

theorem part82_eq : @Cert.KernelSsd.k0_part82 F _ _ = @Cert.KernelSsdIdeal.k0_part82 F _ _ := rfl

end Cert.Ssd

end
-- ==== Proof.Ssd.Parts2.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part2_eq : @Cert.KernelSsd.k0_part2 F _ _ = @Cert.KernelSsdIdeal.k0_part2 F _ _ := rfl

theorem part11_eq : @Cert.KernelSsd.k0_part11 F _ _ = @Cert.KernelSsdIdeal.k0_part11 F _ _ := rfl

theorem part20_eq : @Cert.KernelSsd.k0_part20 F _ _ = @Cert.KernelSsdIdeal.k0_part20 F _ _ := rfl

theorem part29_eq : @Cert.KernelSsd.k0_part29 F _ _ = @Cert.KernelSsdIdeal.k0_part29 F _ _ := rfl

theorem part38_eq : @Cert.KernelSsd.k0_part38 F _ _ = @Cert.KernelSsdIdeal.k0_part38 F _ _ := rfl

theorem part47_eq : @Cert.KernelSsd.k0_part47 F _ _ = @Cert.KernelSsdIdeal.k0_part47 F _ _ := rfl

theorem part56_eq : @Cert.KernelSsd.k0_part56 F _ _ = @Cert.KernelSsdIdeal.k0_part56 F _ _ := rfl

theorem part65_eq : @Cert.KernelSsd.k0_part65 F _ _ = @Cert.KernelSsdIdeal.k0_part65 F _ _ := rfl

theorem part74_eq : @Cert.KernelSsd.k0_part74 F _ _ = @Cert.KernelSsdIdeal.k0_part74 F _ _ := rfl

theorem part83_eq : @Cert.KernelSsd.k0_part83 F _ _ = @Cert.KernelSsdIdeal.k0_part83 F _ _ := rfl

end Cert.Ssd

end
-- ==== Proof.Ssd.Parts3.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part3_eq : @Cert.KernelSsd.k0_part3 F _ _ = @Cert.KernelSsdIdeal.k0_part3 F _ _ := rfl

theorem part12_eq : @Cert.KernelSsd.k0_part12 F _ _ = @Cert.KernelSsdIdeal.k0_part12 F _ _ := rfl

theorem part21_eq : @Cert.KernelSsd.k0_part21 F _ _ = @Cert.KernelSsdIdeal.k0_part21 F _ _ := rfl

theorem part30_eq : @Cert.KernelSsd.k0_part30 F _ _ = @Cert.KernelSsdIdeal.k0_part30 F _ _ := rfl

theorem part39_eq : @Cert.KernelSsd.k0_part39 F _ _ = @Cert.KernelSsdIdeal.k0_part39 F _ _ := rfl

theorem part48_eq : @Cert.KernelSsd.k0_part48 F _ _ = @Cert.KernelSsdIdeal.k0_part48 F _ _ := rfl

theorem part57_eq : @Cert.KernelSsd.k0_part57 F _ _ = @Cert.KernelSsdIdeal.k0_part57 F _ _ := rfl

theorem part66_eq : @Cert.KernelSsd.k0_part66 F _ _ = @Cert.KernelSsdIdeal.k0_part66 F _ _ := rfl

theorem part75_eq : @Cert.KernelSsd.k0_part75 F _ _ = @Cert.KernelSsdIdeal.k0_part75 F _ _ := rfl

theorem part84_eq : @Cert.KernelSsd.k0_part84 F _ _ = @Cert.KernelSsdIdeal.k0_part84 F _ _ := rfl

end Cert.Ssd

end
-- ==== Proof.Ssd.Parts4.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part4_eq : @Cert.KernelSsd.k0_part4 F _ _ = @Cert.KernelSsdIdeal.k0_part4 F _ _ := rfl

theorem part13_eq : @Cert.KernelSsd.k0_part13 F _ _ = @Cert.KernelSsdIdeal.k0_part13 F _ _ := rfl

theorem part22_eq : @Cert.KernelSsd.k0_part22 F _ _ = @Cert.KernelSsdIdeal.k0_part22 F _ _ := rfl

theorem part31_eq : @Cert.KernelSsd.k0_part31 F _ _ = @Cert.KernelSsdIdeal.k0_part31 F _ _ := rfl

theorem part40_eq : @Cert.KernelSsd.k0_part40 F _ _ = @Cert.KernelSsdIdeal.k0_part40 F _ _ := rfl

theorem part49_eq : @Cert.KernelSsd.k0_part49 F _ _ = @Cert.KernelSsdIdeal.k0_part49 F _ _ := rfl

theorem part58_eq : @Cert.KernelSsd.k0_part58 F _ _ = @Cert.KernelSsdIdeal.k0_part58 F _ _ := rfl

theorem part67_eq : @Cert.KernelSsd.k0_part67 F _ _ = @Cert.KernelSsdIdeal.k0_part67 F _ _ := rfl

theorem part76_eq : @Cert.KernelSsd.k0_part76 F _ _ = @Cert.KernelSsdIdeal.k0_part76 F _ _ := rfl

theorem part85_eq : @Cert.KernelSsd.k0_part85 F _ _ = @Cert.KernelSsdIdeal.k0_part85 F _ _ := rfl

end Cert.Ssd

end
-- ==== Proof.Ssd.Parts5.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part5_eq : @Cert.KernelSsd.k0_part5 F _ _ = @Cert.KernelSsdIdeal.k0_part5 F _ _ := rfl

theorem part14_eq : @Cert.KernelSsd.k0_part14 F _ _ = @Cert.KernelSsdIdeal.k0_part14 F _ _ := rfl

theorem part23_eq : @Cert.KernelSsd.k0_part23 F _ _ = @Cert.KernelSsdIdeal.k0_part23 F _ _ := rfl

theorem part32_eq : @Cert.KernelSsd.k0_part32 F _ _ = @Cert.KernelSsdIdeal.k0_part32 F _ _ := rfl

theorem part41_eq : @Cert.KernelSsd.k0_part41 F _ _ = @Cert.KernelSsdIdeal.k0_part41 F _ _ := rfl

theorem part50_eq : @Cert.KernelSsd.k0_part50 F _ _ = @Cert.KernelSsdIdeal.k0_part50 F _ _ := rfl

theorem part59_eq : @Cert.KernelSsd.k0_part59 F _ _ = @Cert.KernelSsdIdeal.k0_part59 F _ _ := rfl

theorem part68_eq : @Cert.KernelSsd.k0_part68 F _ _ = @Cert.KernelSsdIdeal.k0_part68 F _ _ := rfl

theorem part77_eq : @Cert.KernelSsd.k0_part77 F _ _ = @Cert.KernelSsdIdeal.k0_part77 F _ _ := rfl

theorem part86_eq : @Cert.KernelSsd.k0_part86 F _ _ = @Cert.KernelSsdIdeal.k0_part86 F _ _ := rfl

end Cert.Ssd

end
-- ==== Proof.Ssd.Parts6.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part6_eq : @Cert.KernelSsd.k0_part6 F _ _ = @Cert.KernelSsdIdeal.k0_part6 F _ _ := rfl

theorem part15_eq : @Cert.KernelSsd.k0_part15 F _ _ = @Cert.KernelSsdIdeal.k0_part15 F _ _ := rfl

theorem part24_eq : @Cert.KernelSsd.k0_part24 F _ _ = @Cert.KernelSsdIdeal.k0_part24 F _ _ := rfl

theorem part33_eq : @Cert.KernelSsd.k0_part33 F _ _ = @Cert.KernelSsdIdeal.k0_part33 F _ _ := rfl

theorem part42_eq : @Cert.KernelSsd.k0_part42 F _ _ = @Cert.KernelSsdIdeal.k0_part42 F _ _ := rfl

theorem part51_eq : @Cert.KernelSsd.k0_part51 F _ _ = @Cert.KernelSsdIdeal.k0_part51 F _ _ := rfl

theorem part60_eq : @Cert.KernelSsd.k0_part60 F _ _ = @Cert.KernelSsdIdeal.k0_part60 F _ _ := rfl

theorem part69_eq : @Cert.KernelSsd.k0_part69 F _ _ = @Cert.KernelSsdIdeal.k0_part69 F _ _ := rfl

theorem part78_eq : @Cert.KernelSsd.k0_part78 F _ _ = @Cert.KernelSsdIdeal.k0_part78 F _ _ := rfl

end Cert.Ssd

end
-- ==== Proof.Ssd.Parts7.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part7_eq : @Cert.KernelSsd.k0_part7 F _ _ = @Cert.KernelSsdIdeal.k0_part7 F _ _ := rfl

theorem part16_eq : @Cert.KernelSsd.k0_part16 F _ _ = @Cert.KernelSsdIdeal.k0_part16 F _ _ := rfl

theorem part25_eq : @Cert.KernelSsd.k0_part25 F _ _ = @Cert.KernelSsdIdeal.k0_part25 F _ _ := rfl

theorem part34_eq : @Cert.KernelSsd.k0_part34 F _ _ = @Cert.KernelSsdIdeal.k0_part34 F _ _ := rfl

theorem part43_eq : @Cert.KernelSsd.k0_part43 F _ _ = @Cert.KernelSsdIdeal.k0_part43 F _ _ := rfl

theorem part52_eq : @Cert.KernelSsd.k0_part52 F _ _ = @Cert.KernelSsdIdeal.k0_part52 F _ _ := rfl

theorem part61_eq : @Cert.KernelSsd.k0_part61 F _ _ = @Cert.KernelSsdIdeal.k0_part61 F _ _ := rfl

theorem part70_eq : @Cert.KernelSsd.k0_part70 F _ _ = @Cert.KernelSsdIdeal.k0_part70 F _ _ := rfl

theorem part79_eq : @Cert.KernelSsd.k0_part79 F _ _ = @Cert.KernelSsdIdeal.k0_part79 F _ _ := rfl

end Cert.Ssd

end
-- ==== Proof.Ssd.Parts8.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part8_eq : @Cert.KernelSsd.k0_part8 F _ _ = @Cert.KernelSsdIdeal.k0_part8 F _ _ := rfl

theorem part17_eq : @Cert.KernelSsd.k0_part17 F _ _ = @Cert.KernelSsdIdeal.k0_part17 F _ _ := rfl

theorem part26_eq : @Cert.KernelSsd.k0_part26 F _ _ = @Cert.KernelSsdIdeal.k0_part26 F _ _ := rfl

theorem part35_eq : @Cert.KernelSsd.k0_part35 F _ _ = @Cert.KernelSsdIdeal.k0_part35 F _ _ := rfl

theorem part44_eq : @Cert.KernelSsd.k0_part44 F _ _ = @Cert.KernelSsdIdeal.k0_part44 F _ _ := rfl

theorem part53_eq : @Cert.KernelSsd.k0_part53 F _ _ = @Cert.KernelSsdIdeal.k0_part53 F _ _ := rfl

theorem part62_eq : @Cert.KernelSsd.k0_part62 F _ _ = @Cert.KernelSsdIdeal.k0_part62 F _ _ := rfl

theorem part71_eq : @Cert.KernelSsd.k0_part71 F _ _ = @Cert.KernelSsdIdeal.k0_part71 F _ _ := rfl

theorem part80_eq : @Cert.KernelSsd.k0_part80 F _ _ = @Cert.KernelSsdIdeal.k0_part80 F _ _ := rfl

end Cert.Ssd

end
-- ==== Proof.Ssd.Parts9.lean ====
module

public import proofs.«01_k».proof.Proof.Gen.KernelSsd
public import proofs.«01_k».proof.Proof.Gen.KernelSsdIdeal

@[expose] public section

set_option maxRecDepth 65536
set_option maxHeartbeats 4000000

/-! The kernel's body and its idealized form's are one text: part by part. -/

noncomputable section

namespace Cert.Ssd

open Idealize.ShloMosaic

variable {F : FTy → Type} [FloatOps F]

theorem part9_eq : @Cert.KernelSsd.k0_part9 F _ _ = @Cert.KernelSsdIdeal.k0_part9 F _ _ := rfl

theorem part18_eq : @Cert.KernelSsd.k0_part18 F _ _ = @Cert.KernelSsdIdeal.k0_part18 F _ _ := rfl

theorem part27_eq : @Cert.KernelSsd.k0_part27 F _ _ = @Cert.KernelSsdIdeal.k0_part27 F _ _ := rfl

theorem part36_eq : @Cert.KernelSsd.k0_part36 F _ _ = @Cert.KernelSsdIdeal.k0_part36 F _ _ := rfl

theorem part45_eq : @Cert.KernelSsd.k0_part45 F _ _ = @Cert.KernelSsdIdeal.k0_part45 F _ _ := rfl

theorem part54_eq : @Cert.KernelSsd.k0_part54 F _ _ = @Cert.KernelSsdIdeal.k0_part54 F _ _ := rfl

theorem part63_eq : @Cert.KernelSsd.k0_part63 F _ _ = @Cert.KernelSsdIdeal.k0_part63 F _ _ := rfl

theorem part72_eq : @Cert.KernelSsd.k0_part72 F _ _ = @Cert.KernelSsdIdeal.k0_part72 F _ _ := rfl

theorem part81_eq : @Cert.KernelSsd.k0_part81 F _ _ = @Cert.KernelSsdIdeal.k0_part81 F _ _ := rfl

end Cert.Ssd

end
-- ==== Proof.Ssd.Body.lean ====
module

public import proofs.«01_k».proof.Proof.Ssd.Parts1
public import proofs.«01_k».proof.Proof.Ssd.Parts2
public import proofs.«01_k».proof.Proof.Ssd.Parts3
public import proofs.«01_k».proof.Proof.Ssd.Parts4
public import proofs.«01_k».proof.Proof.Ssd.Parts5
public import proofs.«01_k».proof.Proof.Ssd.Parts6
public import proofs.«01_k».proof.Proof.Ssd.Parts7
public import proofs.«01_k».proof.Proof.Ssd.Parts8
public import proofs.«01_k».proof.Proof.Ssd.Parts9

@[expose] public section

set_option maxRecDepth 65536
set_option maxHeartbeats 0

/-! The kernel's body and its idealized form's are one text: part by part. -/

noncomputable section

namespace Cert.Ssd

open Idealize.ShloMosaic

variable {F : FTy → Type} [FloatOps F]

theorem part87_eq : @Cert.KernelSsd.k0_part87 F _ _ = @Cert.KernelSsdIdeal.k0_part87 F _ _ := by
  unfold Cert.KernelSsd.k0_part87 Cert.KernelSsdIdeal.k0_part87
  simp only [part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, part55_eq, part56_eq, part57_eq, part58_eq, part59_eq, part60_eq, part61_eq]
  rfl

theorem body_eq : @Cert.KernelSsd.cc0_ssd_long F _ _ = @Cert.KernelSsdIdeal.cc0_ssd_long F _ _ := by
  unfold Cert.KernelSsd.cc0_ssd_long Cert.KernelSsdIdeal.cc0_ssd_long
  simp only [part1_eq, part62_eq, part63_eq, part64_eq, part65_eq, part66_eq, part67_eq, part68_eq, part69_eq, part70_eq, part71_eq, part72_eq, part73_eq, part74_eq, part75_eq, part76_eq, part77_eq, part78_eq, part79_eq, part80_eq, part81_eq, part82_eq, part83_eq, part84_eq, part85_eq, part86_eq, part87_eq]
  rfl

/-- The body table of the kernel is its idealized form's: the ideal pass rewrote nothing. -/
theorem bodies_eq : Cert.KernelSsd.defs₀ (F := F) = Cert.KernelSsdIdeal.defs₀ := by
  unfold Cert.KernelSsd.defs₀ Cert.KernelSsdIdeal.defs₀
  refine congrArg _ (funext fun l => funext fun a => ?_)
  match l, a with
  | 0, (t, s) => dsimp only; rw [body_eq]; rfl
  | ⟨_ + 1, h⟩, _ => exact absurd h (Nat.not_lt.2 (Nat.le_add_left _ _))

theorem defs_eq : Cert.KernelSsd.defs (F := F) = Cert.KernelSsdIdeal.defs := congrArg (Pipeline.defs Cert.KernelSsdIdeal.pcfgs) bodies_eq

end Cert.Ssd

end
-- ==== Proof.Ssd.Claims.lean ====
module

public import proofs.«01_k».proof.Defs
public import proofs.«01_k».proof.Proof.Ssd.Body
public import proofs.«01_k».proof.Proof.Gen.KernelSsdIdeal.Frame
public import Idealize.ShloMosaic.Lib.Claim
public import Idealize.ShloMosaic.Lib.Quiescent

@[expose] public section

set_option maxRecDepth 65536
set_option maxHeartbeats 0

noncomputable section

namespace Cert.Ssd

open Idealize.ShloMosaic Idealize.ShloMosaic.TcCoe Idealize.ShloMosaic.Tactic
open Idealize.SL Idealize.SL.Sem

theorem frame_kernel : Cert.quiescent_KernelSsd := fun m ρ _ => by
  have h := Cert.KernelSsdIdeal.Gen.frame (F := Bits) m ρ
  rw [← defs_eq] at h
  exact h

theorem frame_ideal : Cert.quiescent_KernelSsdIdeal := fun m ρ _ => Cert.KernelSsdIdeal.Gen.frame (F := Ideal) m ρ

end Cert.Ssd

end
-- ==== Proof.lean ====
module

public import proofs.«01_k».proof.Proof.Gen.KernelDownIdeal.Value
public import proofs.«01_k».proof.Proof.Gen.ReferenceDownIdeal.Run
public import proofs.«01_k».proof.Proof.Gen.KernelPleIdeal.Value
public import proofs.«01_k».proof.Proof.Gen.ReferencePleIdeal.Run
public import proofs.«01_k».proof.Proof.Gen.KernelOutIdeal.Value
public import proofs.«01_k».proof.Proof.Gen.ReferenceOutIdeal.Run
public import proofs.«01_k».proof.Defs
public import proofs.«01_k».proof.Proof.InProj.Claims
public import proofs.«01_k».proof.Proof.Down.Claims
public import proofs.«01_k».proof.Proof.Ple.Claims
public import proofs.«01_k».proof.Proof.OutProj.Claims
public import proofs.«01_k».proof.Proof.Up.Claims
public import proofs.«01_k».proof.Proof.Mix.Claims
public import proofs.«01_k».proof.Proof.PleSample.Claims
public import proofs.«01_k».proof.Proof.MixSample.Claims
public import proofs.«01_k».proof.Proof.UpSample.Claims
public import proofs.«01_k».proof.Proof.Gen.ReferenceMixIdeal.Run
public import proofs.«01_k».proof.Proof.Gen.ReferenceUpIdeal.Run
public import proofs.«01_k».proof.Proof.Gen.KernelUp
public import proofs.«01_k».proof.Proof.Up.Value
public import proofs.«01_k».proof.Proof.Gen.Pre_finite
public import proofs.«01_k».proof.Proof.Gen.KernelPleSample
public import proofs.«01_k».proof.Proof.Gen.KernelPleSampleIdeal.Frame
public import proofs.«01_k».proof.Proof.Gen.ReferencePleSampleIdeal.Run
public import proofs.«01_k».proof.Proof.Gen.KernelMixSample
public import proofs.«01_k».proof.Proof.Gen.KernelMixSampleIdeal.Frame
public import proofs.«01_k».proof.Proof.Gen.ReferenceMixSampleIdeal.Run
public import proofs.«01_k».proof.Proof.Gen.KernelUpSample
public import proofs.«01_k».proof.Proof.Gen.KernelUpSampleIdeal.Frame
public import proofs.«01_k».proof.Proof.Gen.ReferenceUpSampleIdeal.Run
public import proofs.«01_k».proof.Proof.Gen.KernelPleSampleIdeal.Value
public import proofs.«01_k».proof.Proof.Gen.KernelMixSampleIdeal.Value
public import proofs.«01_k».proof.Proof.Gen.KernelUpSampleIdeal.Value
public import proofs.«01_k».proof.Proof.Gen.Pre_finite_sample
public import proofs.«01_k».proof.Proof.Gen.KernelSsd
public import proofs.«01_k».proof.Proof.Gen.KernelSsdIdeal.Frame
public import proofs.«01_k».proof.Proof.Ssd.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelDown.Gen.facts, Cert.KernelDownIdeal.Gen.facts, Cert.ReferenceDownIdeal.Gen.facts,
  Cert.KernelPle.Gen.facts, Cert.KernelPleIdeal.Gen.facts, Cert.ReferencePleIdeal.Gen.facts,
  Cert.KernelOut.Gen.facts, Cert.KernelOutIdeal.Gen.facts, Cert.ReferenceOutIdeal.Gen.facts,
  Cert.KernelUp.Gen.facts, Cert.KernelUpIdeal.Gen.facts, Cert.ReferenceUpIdeal.Gen.facts,
  Cert.KernelMix.Gen.facts, Cert.KernelMixIdeal.Gen.facts, Cert.ReferenceMixIdeal.Gen.facts,
  Cert.KernelPleSample.Gen.facts, Cert.KernelPleSampleIdeal.Gen.facts, Cert.ReferencePleSampleIdeal.Gen.facts,
  Cert.KernelMixSample.Gen.facts, Cert.KernelMixSampleIdeal.Gen.facts, Cert.ReferenceMixSampleIdeal.Gen.facts,
  Cert.KernelUpSample.Gen.facts, Cert.KernelUpSampleIdeal.Gen.facts, Cert.ReferenceUpSampleIdeal.Gen.facts,
  Cert.KernelSsd.Gen.facts, Cert.KernelSsdIdeal.Gen.facts,
  Cert.Pre_finite.Gen.facts,
  Cert.Pre_finite_sample.Gen.facts,
  InProj.frame_kernel, InProj.frame_ideal, InProj.frame_reference,
  Down.frame_kernel, Down.frame_ideal, Down.frame_reference,
  Ple.frame_kernel, Ple.frame_ideal, Ple.frame_reference,
  OutProj.frame_kernel, OutProj.frame_ideal, OutProj.frame_reference,
  Up.frame_kernel, Up.frame_ideal, Up.frame_ideal_finite, Up.frame_reference, Up.frame_reference_finite,
  Mix.frame_kernel, Mix.frame_ideal, Mix.frame_reference,
  PleSample.frame_kernel, PleSample.frame_ideal, PleSample.frame_reference,
  MixSample.frame_kernel, MixSample.frame_ideal, MixSample.frame_reference,
  UpSample.frame_kernel, UpSample.frame_ideal, UpSample.frame_ideal_finite, UpSample.frame_reference, UpSample.frame_reference_finite,
  Ssd.frame_kernel, Ssd.frame_ideal,
  trivial, InProj.algebraic,
  trivial, Down.algebraic,
  trivial, Ple.algebraic,
  trivial, OutProj.algebraic,
  trivial, Up.algebraic,
  trivial, Mix.algebraic,
  trivial, PleSample.algebraic,
  trivial, MixSample.algebraic,
  trivial, UpSample.algebraic,
  trivial⟩

end Cert.Proof

end
